-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_in [hPre_finite_in : Cert.Pre_finite_in.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite_in.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_in [hPre_finite_in : Cert.Pre_finite_in.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite_in.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_in [hKernel4Ideal : Cert.Kernel4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_in m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_in [hReference4Ideal : Cert.Reference4Ideal.Facts] [hPre_finite_in : Cert.Pre_finite_in.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_in m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_finite_in [hKernel4Ideal : Cert.Kernel4Ideal.Facts] [hReference4Ideal : Cert.Reference4Ideal.Facts] [hPre_finite_in : Cert.Pre_finite_in.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_in m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v33)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_in : Cert.Pre_finite_in.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_in (hKernel4Ideal := hKernel4Ideal) (hPre_finite_in := hPre_finite_in)
    ∧ quiescent_Reference4Ideal (hReference4Ideal := hReference4Ideal)
    ∧ quiescent_Reference4Ideal_pre_finite_in (hReference4Ideal := hReference4Ideal) (hPre_finite_in := hPre_finite_in)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_in (hKernel4Ideal := hKernel4Ideal) (hReference4Ideal := hReference4Ideal) (hPre_finite_in := hPre_finite_in)
-- ==== Pre_finite_in.lean ====
abbrev S8x4096x1024 : Shape := ⟨3, ![8, 4096, 1024]⟩
abbrev S1024x4224 : Shape := ⟨2, ![1024, 4224]⟩
abbrev S6x1024 : Shape := ⟨2, ![6, 1024]⟩
abbrev S_ : Shape := ⟨0, ![]⟩

class Facts : Prop where
  bcast_S_S8x4096x1024 : S_.BroadcastsInDim S8x4096x1024 (![] : Fin 0 → Fin S8x4096x1024.rank)
  bcast_S_S1024x4224 : S_.BroadcastsInDim S1024x4224 (![] : Fin 0 → Fin S1024x4224.rank)

variable [Facts]

def fn {F : FTy → Type} [FloatOps F] (main_arg0 : FVec F S8x4096x1024 .f32) (main_arg1 : FVec F S1024x4224 .f32) (main_arg2 : FVec F S6x1024 .f32) : IVec S8x4096x1024 1 × IVec S1024x4224 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x4224 .f32 := Host.absf main_arg1
  let main_cst_0 : FVec F S_ .f32 := constant S_ .f32 0x7F800000#32
  let main_v4 : FVec F S1024x4224 .f32 := broadcastInDim S1024x4224 ![] bcast_S_S1024x4224 main_cst_0
  let main_v5 : IVec S1024x4224 1 := cmpf .olt main_v3 main_v4
  (main_v2, main_v5)
-- ==== Kernel.lean ====
abbrev S8x4096x4112 : Shape := ⟨3, ![8, 4096, 4112]⟩
abbrev S4x1024 : Shape := ⟨2, ![4, 1024]⟩
abbrev S8 : Shape := ⟨1, ![8]⟩
abbrev S1024 : Shape := ⟨1, ![1024]⟩
abbrev S_ : Shape := ⟨0, ![]⟩
abbrev S8x4096x4224 : Shape := ⟨3, ![8, 4096, 4224]⟩
abbrev S512x64x33x128 : Shape := ⟨4, ![512, 64, 33, 128]⟩
abbrev S512x33x64x128 : Shape := ⟨4, ![512, 33, 64, 128]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S512x8x64x128 : Shape := ⟨4, ![512, 8, 64, 128]⟩
abbrev S1x33x64x128 : Shape := ⟨4, ![1, 33, 64, 128]⟩
abbrev S1x8x64x128 : Shape := ⟨4, ![1, 8, 64, 128]⟩
abbrev S24x1024 : Shape := ⟨2, ![24, 1024]⟩
abbrev S8x64x256 : Shape := ⟨3, ![8, 64, 256]⟩
abbrev S8x128 : Shape := ⟨2, ![8, 128]⟩
abbrev S64x64 : Shape := ⟨2, ![64, 64]⟩
abbrev S1x1x8x128 : Shape := ⟨4, ![1, 1, 8, 128]⟩
abbrev S64x128 : Shape := ⟨2, ![64, 128]⟩
abbrev S64x1024 : Shape := ⟨2, ![64, 1024]⟩
abbrev S8x1024 : Shape := ⟨2, ![8, 1024]⟩
abbrev S56x1024 : Shape := ⟨2, ![56, 1024]⟩
abbrev S16x1024 : Shape := ⟨2, ![16, 1024]⟩
abbrev S48x1024 : Shape := ⟨2, ![48, 1024]⟩
abbrev S40x1024 : Shape := ⟨2, ![40, 1024]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩
abbrev S128x64 : Shape := ⟨2, ![128, 64]⟩
abbrev S64x1 : Shape := ⟨2, ![64, 1]⟩
abbrev S1x64 : Shape := ⟨2, ![1, 64]⟩
abbrev S64x256 : Shape := ⟨2, ![64, 256]⟩
abbrev S1x64x256 : Shape := ⟨3, ![1, 64, 256]⟩
abbrev S1x1 : Shape := ⟨2, ![1, 1]⟩
abbrev S64 : Shape := ⟨1, ![64]⟩

abbrev nBuf : Space → Nat
  | .hbm => 28
  | .vmem => 11
  | .smem => 0
  | _ => 0

abbrev bufTy : (tb : Table) → Fin (tcTables nBuf tb) → BufTy
  | .hbm, ⟨0, _⟩ => ⟨S8x4096x4112, .f32⟩
  | .hbm, ⟨1, _⟩ => ⟨S4x1024, .f32⟩
  | .hbm, ⟨2, _⟩ => ⟨S8, .f32⟩
  | .hbm, ⟨3, _⟩ => ⟨S8, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S8x4096x4224, .f32⟩
  | .hbm, ⟨8, _⟩ => ⟨S512x64x33x128, .f32⟩
  | .hbm, ⟨9, _⟩ => ⟨S512x33x64x128, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S1x1024, .f32⟩
  | .hbm, ⟨27, _⟩ => ⟨S512x8x64x128, .f32⟩
  | .local _ .vmem, ⟨0, _⟩ => ⟨S1x33x64x128, .f32⟩
  | .local _ .vmem, ⟨1, _⟩ => ⟨S1x33x64x128, .f32⟩
  | .local _ .vmem, ⟨2, _⟩ => ⟨S4x1024, .f32⟩
  | .local _ .vmem, ⟨3, _⟩ => ⟨S1x128, .f32⟩
  | .local _ .vmem, ⟨4, _⟩ => ⟨S1x128, .f32⟩
  | .local _ .vmem, ⟨5, _⟩ => ⟨S1x1024, .f32⟩
  | .local _ .vmem, ⟨6, _⟩ => ⟨S1x8x64x128, .f32⟩
  | .local _ .vmem, ⟨7, _⟩ => ⟨S1x8x64x128, .f32⟩
  | .local _ .vmem, ⟨8, _⟩ => ⟨S24x1024, .f32⟩
  | .local _ .vmem, ⟨9, _⟩ => ⟨S8x64x256, .f32⟩
  | .local _ .vmem, ⟨10, _⟩ => ⟨S8x128, .f32⟩
  | _, _ => ⟨S8x4096x4112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x33x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x4112 : Shape := ⟨3, ![8, 4096, 4112]⟩
abbrev S4x1024 : Shape := ⟨2, ![4, 1024]⟩
abbrev S8 : Shape := ⟨1, ![8]⟩
abbrev S1024 : Shape := ⟨1, ![1024]⟩
abbrev S8x4096x1024 : Shape := ⟨3, ![8, 4096, 1024]⟩
abbrev S8x4096x8 : Shape := ⟨3, ![8, 4096, 8]⟩
abbrev S_ : Shape := ⟨0, ![]⟩
abbrev S8x4099x1024 : Shape := ⟨3, ![8, 4099, 1024]⟩
abbrev S1x1024 : Shape := ⟨2, ![1, 1024]⟩
abbrev S1x1x1024 : Shape := ⟨3, ![1, 1, 1024]⟩
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S8x4096x8x128 : Shape := ⟨4, ![8, 4096, 8, 128]⟩
abbrev S8x8x4096x128 : Shape := ⟨4, ![8, 8, 4096, 128]⟩
abbrev S1x1x8 : Shape := ⟨3, ![1, 1, 8]⟩
abbrev S8x8x4096 : Shape := ⟨3, ![8, 8, 4096]⟩
abbrev S8x8x64x64x64 : Shape := ⟨5, ![8, 8, 64, 64, 64]⟩
abbrev S8x8x64x64x128 : Shape := ⟨5, ![8, 8, 64, 64, 128]⟩
abbrev S8x8x64x64 : Shape := ⟨4, ![8, 8, 64, 64]⟩
abbrev S64x64 : Shape := ⟨2, ![64, 64]⟩
abbrev S8x8x64x64x1 : Shape := ⟨5, ![8, 8, 64, 64, 1]⟩
abbrev S8x8x64x1x64 : Shape := ⟨5, ![8, 8, 64, 1, 64]⟩
abbrev S8x8x64x1 : Shape := ⟨4, ![8, 8, 64, 1]⟩
abbrev S64x8x8x64x64 : Shape := ⟨5, ![64, 8, 8, 64, 64]⟩
abbrev S64x8x8x64 : Shape := ⟨4, ![64, 8, 8, 64]⟩
abbrev S64x8x8x64x128 : Shape := ⟨5, ![64, 8, 8, 64, 128]⟩
abbrev S8x8x64x128 : Shape := ⟨4, ![8, 8, 64, 128]⟩
abbrev S8x8x64 : Shape := ⟨3, ![8, 8, 64]⟩
abbrev S8x8 : Shape := ⟨2, ![8, 8]⟩
abbrev S1x8x8x64x64 : Shape := ⟨5, ![1, 8, 8, 64, 64]⟩
abbrev S1x8x8x64 : Shape := ⟨4, ![1, 8, 8, 64]⟩
abbrev S1x8x8x64x128 : Shape := ⟨5, ![1, 8, 8, 64, 128]⟩
abbrev S8x8x1 : Shape := ⟨3, ![8, 8, 1]⟩
abbrev S8x8x1x1 : Shape := ⟨4, ![8, 8, 1, 1]⟩
abbrev S8x4096x8x1 : Shape := ⟨4, ![8, 4096, 8, 1]⟩
abbrev S512x64x8x128 : Shape := ⟨4, ![512, 64, 8, 128]⟩
abbrev S512x8x64x128 : Shape := ⟨4, ![512, 8, 64, 128]⟩

abbrev nBuf : Space → Nat
  | .hbm => 318
  | .vmem => 0
  | .smem => 0
  | _ => 0

abbrev hbmTy0_0 (i : Nat) : BufTy := match i % 128 with
  | 0 => ⟨S8x4096x4112, .f32⟩
  | 1 => ⟨S4x1024, .f32⟩
  | 2 => ⟨S8, .f32⟩
  | 3 => ⟨S8, .f32⟩
  | 4 => ⟨S1024, .f32⟩
  | 5 => ⟨S8x4096x1024, .f32⟩
  | 6 => ⟨S8x4096x1024, .f32⟩
  | 7 => ⟨S8x4096x1024, .f32⟩
  | 8 => ⟨S8x4096x1024, .f32⟩
  | 9 => ⟨S8x4096x8, .f32⟩
  | 10 => ⟨S8x4096x8, .f32⟩
  | 11 => ⟨S_, .i32⟩
  | 12 => ⟨S_, .f32⟩
  | 13 => ⟨S8x4099x1024, .f32⟩
  | 14 => ⟨S1x1024, .f32⟩
  | 15 => ⟨S1024, .f32⟩
  | 16 => ⟨S8x4096x1024, .f32⟩
  | 17 => ⟨S1x1x1024, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S1x1024, .f32⟩
  | 24 => ⟨S1024, .f32⟩
  | 25 => ⟨S8x4096x1024, .f32⟩
  | 26 => ⟨S1x1x1024, .f32⟩
  | 27 => ⟨S8x4096x1024, .f32⟩
  | 28 => ⟨S8x4096x1024, .f32⟩
  | 29 => ⟨S8x4096x1024, .f32⟩
  | 30 => ⟨S1x1024, .f32⟩
  | 31 => ⟨S1024, .f32⟩
  | 32 => ⟨S8x4096x1024, .f32⟩
  | 33 => ⟨S1x1x1024, .f32⟩
  | 34 => ⟨S8x4096x1024, .f32⟩
  | 35 => ⟨S8x4096x1024, .f32⟩
  | 36 => ⟨S8x4096x1024, .f32⟩
  | 37 => ⟨S1x1024, .f32⟩
  | 38 => ⟨S1024, .f32⟩
  | 39 => ⟨S8x4096x1024, .f32⟩
  | 40 => ⟨S1x1x1024, .f32⟩
  | 41 => ⟨S8x4096x1024, .f32⟩
  | 42 => ⟨S8x4096x1024, .f32⟩
  | 43 => ⟨S8x4096x1024, .f32⟩
  | 44 => ⟨S8x4096x1024, .f32⟩
  | 45 => ⟨S8x4096x1024, .f32⟩
  | 46 => ⟨S_, .f32⟩
  | 47 => ⟨S8x4096x1024, .f32⟩
  | 48 => ⟨S8x4096x1024, .f32⟩
  | 49 => ⟨S_, .f32⟩
  | 50 => ⟨S8x4096x1024, .f32⟩
  | 51 => ⟨S8x4096x1024, .f32⟩
  | 52 => ⟨S8x4096x1024, .f32⟩
  | 53 => ⟨S8x4096x512, .f32⟩
  | 54 => ⟨S8x4096x512, .f32⟩
  | 55 => ⟨S8x4096x8x64, .f32⟩
  | 56 => ⟨S8x8x4096x64, .f32⟩
  | 57 => ⟨S8x4096x8x64, .f32⟩
  | 58 => ⟨S8x8x4096x64, .f32⟩
  | 59 => ⟨S8x4096x8x128, .f32⟩
  | 60 => ⟨S8x8x4096x128, .f32⟩
  | 61 => ⟨S1x1x8, .f32⟩
  | 62 => ⟨S8x4096x8, .f32⟩
  | 63 => ⟨S8x4096x8, .f32⟩
  | 64 => ⟨S8x8x4096, .f32⟩
  | 65 => ⟨S1x1x8, .f32⟩
  | 66 => ⟨S8x4096x8, .f32⟩
  | 67 => ⟨S8x4096x8, .f32⟩
  | 68 => ⟨S8x4096x8, .f32⟩
  | 69 => ⟨S_, .f32⟩
  | 70 => ⟨S8x4096x8, .f32⟩
  | 71 => ⟨S8x4096x8, .f32⟩
  | 72 => ⟨S8x4096x8, .f32⟩
  | 73 => ⟨S8x4096x8, .f32⟩
  | 74 => ⟨S8x4096x8, .i1⟩
  | 75 => ⟨S8x4096x8, .f32⟩
  | 76 => ⟨S8x4096x8, .f32⟩
  | 77 => ⟨S8x4096x8, .f32⟩
  | 78 => ⟨S8x4096x8, .f32⟩
  | 79 => ⟨S8x4096x8, .f32⟩
  | 80 => ⟨S8x4096x8, .f32⟩
  | 81 => ⟨S8x4096x8, .f32⟩
  | 82 => ⟨S8x4096x8, .f32⟩
  | 83 => ⟨S8x4096x8, .f32⟩
  | 84 => ⟨S8x8x4096, .f32⟩
  | 85 => ⟨S_, .f32⟩
  | 86 => ⟨S8x8x4096x64, .f32⟩
  | 87 => ⟨S8x8x4096x64, .f32⟩
  | 88 => ⟨S8x8x64x64x64, .f32⟩
  | 89 => ⟨S8x8x64x64x64, .f32⟩
  | 90 => ⟨S8x8x64x64x128, .f32⟩
  | 91 => ⟨S8x8x64x64, .f32⟩
  | 92 => ⟨S8x8x64x64, .f32⟩
  | 93 => ⟨S_, .f32⟩
  | 94 => ⟨S_, .f32⟩
  | 95 => ⟨S8x8x64x64, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S8x8x64x64x1, .f32⟩
  | 108 => ⟨S8x8x64x1x64, .f32⟩
  | 109 => ⟨S8x8x64x64x64, .f32⟩
  | 110 => ⟨S8x8x64x64x64, .f32⟩
  | 111 => ⟨S8x8x64x64x64, .f32⟩
  | 112 => ⟨S8x8x64x1x64, .f32⟩
  | 113 => ⟨S8x8x64x64x64, .f32⟩
  | 114 => ⟨S8x8x64x64x64, .f32⟩
  | 115 => ⟨S_, .f32⟩
  | 116 => ⟨S_, .f32⟩
  | 117 => ⟨S8x8x64x64x64, .i1⟩
  | 118 => ⟨S8x8x64x64x64, .f32⟩
  | 119 => ⟨S8x8x64x64x64, .f32⟩
  | 120 => ⟨S_, .f32⟩
  | 121 => ⟨S8x8x64x64, .f32⟩
  | 122 => ⟨S8x8x64x64x64, .f32⟩
  | 123 => ⟨S8x8x64x1, .f32⟩
  | 124 => ⟨S8x8x64x64, .f32⟩
  | 125 => ⟨S8x8x64x64, .f32⟩
  | 126 => ⟨S8x8x64x64, .f32⟩
  | 127 => ⟨S64x8x8x64x64, .f32⟩
  | _ => ⟨S8x4096x4112, .f32⟩

abbrev hbmTy0_1 (i : Nat) : BufTy := match i % 128 with
  | 0 => ⟨S64x8x8x64x64, .f32⟩
  | 1 => ⟨S64x8x8x64, .f32⟩
  | 2 => ⟨S64x8x8x64, .f32⟩
  | 3 => ⟨S64x8x8x64, .f32⟩
  | 4 => ⟨S64x8x8x64x64, .f32⟩
  | 5 => ⟨S64x8x8x64x64, .f32⟩
  | 6 => ⟨S64x8x8x64x128, .f32⟩
  | 7 => ⟨S_, .f32⟩
  | 8 => ⟨S8x8x64x128, .f32⟩
  | 9 => ⟨S_, .f32⟩
  | 10 => ⟨S8x8x64, .f32⟩
  | 11 => ⟨S_, .f32⟩
  | 12 => ⟨S8x8, .f32⟩
  | 13 => ⟨S_, .f32⟩
  | 14 => ⟨S64x8x8x64x128, .f32⟩
  | 15 => ⟨S_, .i32⟩
  | 16 => ⟨S64x8x8x64x64, .f32⟩
  | 17 => ⟨S64x8x8x64x64, .f32⟩
  | 18 => ⟨S64x8x8x64, .f32⟩
  | 19 => ⟨S64x8x8x64, .f32⟩
  | 20 => ⟨S64x8x8x64, .f32⟩
  | 21 => ⟨S64x8x8x64x64, .f32⟩
  | 22 => ⟨S64x8x8x64x64, .f32⟩
  | 23 => ⟨S64x8x8x64x128, .f32⟩
  | 24 => ⟨S_, .i32⟩
  | 25 => ⟨S8x8x64x128, .f32⟩
  | 26 => ⟨S8x8x64, .f32⟩
  | 27 => ⟨S8x8, .f32⟩
  | 28 => ⟨S64x8x8x64x128, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S1x8x8x64x64, .f32⟩
  | 36 => ⟨S8x8x64x64, .f32⟩
  | 37 => ⟨S_, .i32⟩
  | 38 => ⟨S_, .i32⟩
  | 39 => ⟨S_, .i32⟩
  | 40 => ⟨S_, .i32⟩
  | 41 => ⟨S1x8x8x64x64, .f32⟩
  | 42 => ⟨S8x8x64x64, .f32⟩
  | 43 => ⟨S_, .i32⟩
  | 44 => ⟨S_, .i32⟩
  | 45 => ⟨S_, .i32⟩
  | 46 => ⟨S1x8x8x64, .f32⟩
  | 47 => ⟨S8x8x64, .f32⟩
  | 48 => ⟨S_, .i32⟩
  | 49 => ⟨S_, .i32⟩
  | 50 => ⟨S_, .i32⟩
  | 51 => ⟨S1x8x8x64, .f32⟩
  | 52 => ⟨S8x8x64, .f32⟩
  | 53 => ⟨S_, .i32⟩
  | 54 => ⟨S_, .i32⟩
  | 55 => ⟨S_, .i32⟩
  | 56 => ⟨S1x8x8x64, .f32⟩
  | 57 => ⟨S8x8x64, .f32⟩
  | 58 => ⟨S_, .i32⟩
  | 59 => ⟨S_, .i32⟩
  | 60 => ⟨S_, .i32⟩
  | 61 => ⟨S_, .i32⟩
  | 62 => ⟨S1x8x8x64x64, .f32⟩
  | 63 => ⟨S8x8x64x64, .f32⟩
  | 64 => ⟨S_, .i32⟩
  | 65 => ⟨S_, .i32⟩
  | 66 => ⟨S_, .i32⟩
  | 67 => ⟨S_, .i32⟩
  | 68 => ⟨S1x8x8x64x64, .f32⟩
  | 69 => ⟨S8x8x64x64, .f32⟩
  | 70 => ⟨S_, .i32⟩
  | 71 => ⟨S_, .i32⟩
  | 72 => ⟨S_, .i32⟩
  | 73 => ⟨S_, .i32⟩
  | 74 => ⟨S1x8x8x64x128, .f32⟩
  | 75 => ⟨S8x8x64x128, .f32⟩
  | 76 => ⟨S8x8x1, .f32⟩
  | 77 => ⟨S8x8x64, .f32⟩
  | 78 => ⟨S8x8x64, .f32⟩
  | 79 => ⟨S8x8x64, .f32⟩
  | 80 => ⟨S8x8x64, .f32⟩
  | 81 => ⟨S8x8x64, .f32⟩
  | 82 => ⟨S8x8x64x1, .f32⟩
  | 83 => ⟨S8x8x64x64, .f32⟩
  | 84 => ⟨S8x8x64x64, .f32⟩
  | 85 => ⟨S8x8x64x64, .f32⟩
  | 86 => ⟨S8x8x64x64, .f32⟩
  | 87 => ⟨S8x8x64x1, .f32⟩
  | 88 => ⟨S8x8x64x128, .f32⟩
  | 89 => ⟨S8x8x64x128, .f32⟩
  | 90 => ⟨S8x8x64x128, .f32⟩
  | 91 => ⟨S8x8x64x128, .f32⟩
  | 92 => ⟨S8x8x64x128, .f32⟩
  | 93 => ⟨S8x8x64, .f32⟩
  | 94 => ⟨S8x8x64, .f32⟩
  | 95 => ⟨S_, .f32⟩
  | 96 => ⟨S8x8x64, .f32⟩
  | 97 => ⟨S8x8x64, .f32⟩
  | 98 => ⟨S8x8x64, .f32⟩
  | 99 => ⟨S8x8x64, .f32⟩
  | 100 => ⟨S8x8x64, .f32⟩
  | 101 => ⟨S8x8x64, .f32⟩
  | 102 => ⟨S8x8x64x1, .f32⟩
  | 103 => ⟨S8x8x64x128, .f32⟩
  | 104 => ⟨S8x8x64x128, .f32⟩
  | 105 => ⟨S8x8x1, .f32⟩
  | 106 => ⟨S8x8, .f32⟩
  | 107 => ⟨S8x8x1, .f32⟩
  | 108 => ⟨S8x8, .f32⟩
  | 109 => ⟨S8x8, .f32⟩
  | 110 => ⟨S8x8, .f32⟩
  | 111 => ⟨S8x8, .f32⟩
  | 112 => ⟨S8x8x1, .f32⟩
  | 113 => ⟨S8x8x64, .f32⟩
  | 114 => ⟨S8x8x64, .f32⟩
  | 115 => ⟨S8x8x64, .f32⟩
  | 116 => ⟨S8x8x64x1, .f32⟩
  | 117 => ⟨S8x8x64x64, .f32⟩
  | 118 => ⟨S8x8x64x64, .f32⟩
  | 119 => ⟨S8x8x1x1, .f32⟩
  | 120 => ⟨S8x8x64x128, .f32⟩
  | 121 => ⟨S8x8x64x128, .f32⟩
  | 122 => ⟨S8x8x64x128, .f32⟩
  | 123 => ⟨S8x8x64x128, .f32⟩
  | 124 => ⟨S8x8x1, .f32⟩
  | 125 => ⟨S8x8x64, .f32⟩
  | 126 => ⟨S8x8x64, .f32⟩
  | 127 => ⟨S_, .f32⟩
  | _ => ⟨S8x4096x4112, .f32⟩

abbrev hbmTy0_2 (i : Nat) : BufTy := match i % 128 with
  | 0 => ⟨S8x8x64, .f32⟩
  | 1 => ⟨S8x8x64, .f32⟩
  | 2 => ⟨S1x8x8x64x128, .f32⟩
  | 3 => ⟨S_, .i32⟩
  | 4 => ⟨S_, .i32⟩
  | 5 => ⟨S_, .i32⟩
  | 6 => ⟨S_, .i32⟩
  | 7 => ⟨S64x8x8x64x128, .f32⟩
  | 8 => ⟨S_, .i32⟩
  | 9 => ⟨S_, .i32⟩
  | 10 => ⟨S8x8x64x64x128, .f32⟩
  | 11 => ⟨S8x8x4096x128, .f32⟩
  | 12 => ⟨S8x4096x8x128, .f32⟩
  | 13 => ⟨S8x4096x1024, .f32⟩
  | 14 => ⟨S8x4096x1024, .f32⟩
  | 15 => ⟨S_, .f32⟩
  | 16 => ⟨S8x4096x1024, .f32⟩
  | 17 => ⟨S8x4096x1024, .f32⟩
  | 18 => ⟨S_, .f32⟩
  | 19 => ⟨S8x4096x1024, .f32⟩
  | 20 => ⟨S8x4096x1024, .f32⟩
  | 21 => ⟨S8x4096x8x128, .f32⟩
  | 22 => ⟨S8x4096x8x128, .f32⟩
  | 23 => ⟨S_, .f32⟩
  | 24 => ⟨S8x4096x8, .f32⟩
  | 25 => ⟨S8x4096x8x1, .f32⟩
  | 26 => ⟨S_, .f32⟩
  | 27 => ⟨S8x4096x8x1, .f32⟩
  | 28 => ⟨S8x4096x8x1, .f32⟩
  | 29 => ⟨S8x4096x8x128, .f32⟩
  | 30 => ⟨S8x4096x8x128, .f32⟩
  | 31 => ⟨S8x4096x8x128, .f32⟩
  | 32 => ⟨S_, .f32⟩
  | 33 => ⟨S8x4096x8, .f32⟩
  | 34 => ⟨S8x4096x8x1, .f32⟩
  | 35 => ⟨S_, .f32⟩
  | 36 => ⟨S8x4096x8x1, .f32⟩
  | 37 => ⟨S8x4096x8x1, .f32⟩
  | 38 => ⟨S8x4096x8x128, .f32⟩
  | 39 => ⟨S8x4096x8x128, .f32⟩
  | 40 => ⟨S_, .f32⟩
  | 41 => ⟨S8x4096x8x1, .f32⟩
  | 42 => ⟨S8x4096x8x1, .f32⟩
  | 43 => ⟨S8x4096x8x1, .f32⟩
  | 44 => ⟨S8x4096x8x128, .f32⟩
  | 45 => ⟨S8x4096x8x128, .f32⟩
  | 46 => ⟨S8x4096x1024, .f32⟩
  | 47 => ⟨S1x1x1024, .f32⟩
  | 48 => ⟨S8x4096x1024, .f32⟩
  | 49 => ⟨S8x4096x1024, .f32⟩
  | 50 => ⟨S8x4096x1024, .f32⟩
  | 51 => ⟨S8x4096x1024, .f32⟩
  | 52 => ⟨S_, .f32⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S8x4096x1024, .f32⟩
  | 59 => ⟨S8x4096x1024, .f32⟩
  | 60 => ⟨S512x64x8x128, .f32⟩
  | 61 => ⟨S512x8x64x128, .f32⟩
  | _ => ⟨S8x4096x4112, .f32⟩

abbrev hbmTy (i : Nat) : BufTy := match i / 128 with
  | 0 => hbmTy0_0 i
  | 1 => hbmTy0_1 i
  | 2 => hbmTy0_2 i
  | _ => ⟨S8x4096x4112, .f32⟩

abbrev bufTy : (tb : Table) → Fin (tcTables nBuf tb) → BufTy
  | .hbm, ⟨i, _⟩ => hbmTy i
  | _, _ => ⟨S8x4096x4112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call2_v0 : Ref sig .tc := ⟨.hbm, 68, rfl⟩
abbrev main_call2_call0_cst : Ref sig .tc := ⟨.hbm, 69, rfl⟩
abbrev main_call2_call0_v0 : Ref sig .tc := ⟨.hbm, 70, rfl⟩
abbrev main_call2_call0_v1 : Ref sig .tc := ⟨.hbm, 71, rfl⟩
abbrev main_call2_call0_v2 : Ref sig .tc := ⟨.hbm, 72, rfl⟩
abbrev main_call2_call0_v3 : Ref sig .tc := ⟨.hbm, 73, rfl⟩
abbrev main_call2_call0_v4 : Ref sig .tc := ⟨.hbm, 74, rfl⟩
abbrev main_call2_call0_v5 : Ref sig .tc := ⟨.hbm, 75, rfl⟩
abbrev main_call2_call0_v6 : Ref sig .tc := ⟨.hbm, 76, rfl⟩
abbrev main_call2_call0_v7 : Ref sig .tc := ⟨.hbm, 77, rfl⟩
abbrev main_call2_call0_v8 : Ref sig .tc := ⟨.hbm, 78, rfl⟩
abbrev main_call2_call0_v9 : Ref sig .tc := ⟨.hbm, 79, rfl⟩
abbrev main_call2_call0_v10 : Ref sig .tc := ⟨.hbm, 80, rfl⟩
abbrev main_call2_call0_v11 : Ref sig .tc := ⟨.hbm, 81, rfl⟩
abbrev main_call2_v1 : Ref sig .tc := ⟨.hbm, 82, rfl⟩
abbrev main_v52 : Ref sig .tc := ⟨.hbm, 83, rfl⟩
abbrev main_v53 : Ref sig .tc := ⟨.hbm, 84, rfl⟩
abbrev main_cst_0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_call3_call0_cst : Ref sig .tc := ⟨.hbm, 93, rfl⟩
abbrev main_call3_call0_v0 : Ref sig .tc := ⟨.hbm, 94, rfl⟩
abbrev main_v61 : Ref sig .tc := ⟨.hbm, 95, rfl⟩
abbrev main_c_1 : Ref sig .tc := ⟨.hbm, 96, rfl⟩
abbrev main_v62 : Ref sig .tc := ⟨.hbm, 97, rfl⟩
abbrev main_call4_v0 : Ref sig .tc := ⟨.hbm, 98, rfl⟩
abbrev main_call4_c : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_c_0 : Ref sig .tc := ⟨.hbm, 104, rfl⟩
abbrev main_call4_v5 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_2 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v72 : Ref sig .tc := ⟨.hbm, 119, rfl⟩
abbrev main_cst_3 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_4 : Ref sig .tc := ⟨.hbm, 135, rfl⟩
abbrev main_v87 : Ref sig .tc := ⟨.hbm, 136, rfl⟩
abbrev main_cst_5 : Ref sig .tc := ⟨.hbm, 137, rfl⟩
abbrev main_v88 : Ref sig .tc := ⟨.hbm, 138, rfl⟩
abbrev main_cst_6 : Ref sig .tc := ⟨.hbm, 139, rfl⟩
abbrev main_v89 : Ref sig .tc := ⟨.hbm, 140, rfl⟩
abbrev main_cst_7 : Ref sig .tc := ⟨.hbm, 141, rfl⟩
abbrev main_v90 : Ref sig .tc := ⟨.hbm, 142, rfl⟩
abbrev main_c_8 : Ref sig .tc := ⟨.hbm, 143, rfl⟩
abbrev main_v91_0 : Ref sig .tc := ⟨.hbm, 144, rfl⟩
abbrev main_v91_1 : Ref sig .tc := ⟨.hbm, 145, rfl⟩
abbrev main_v91_2 : Ref sig .tc := ⟨.hbm, 146, rfl⟩
abbrev main_v91_3 : Ref sig .tc := ⟨.hbm, 147, rfl⟩
abbrev main_v91_4 : Ref sig .tc := ⟨.hbm, 148, rfl⟩
abbrev main_v91_5 : Ref sig .tc := ⟨.hbm, 149, rfl⟩
abbrev main_v91_6 : Ref sig .tc := ⟨.hbm, 150, rfl⟩
abbrev main_v91_7 : Ref sig .tc := ⟨.hbm, 151, rfl⟩
abbrev main_v91_8 : Ref sig .tc := ⟨.hbm, 152, rfl⟩
abbrev main_v91_9 : Ref sig .tc := ⟨.hbm, 153, rfl⟩
abbrev main_v91_10 : Ref sig .tc := ⟨.hbm, 154, rfl⟩
abbrev main_v91_11 : Ref sig .tc := ⟨.hbm, 155, rfl⟩
abbrev main_v91_12 : Ref sig .tc := ⟨.hbm, 156, rfl⟩
abbrev main_while0c_c_28 : Ref sig .tc := ⟨.hbm, 157, rfl⟩
abbrev main_while0c_v129 : Ref sig .tc := ⟨.hbm, 158, rfl⟩
abbrev main_while0b_call6_c : Ref sig .tc := ⟨.hbm, 159, rfl⟩
abbrev main_while0b_call6_c_0 : Ref sig .tc := ⟨.hbm, 160, rfl⟩
abbrev main_while0b_call6_c_1 : Ref sig .tc := ⟨.hbm, 161, rfl⟩
abbrev main_while0b_call6_c_2 : Ref sig .tc := ⟨.hbm, 162, rfl⟩
abbrev main_while0b_call6_v0 : Ref sig .tc := ⟨.hbm, 163, rfl⟩
abbrev main_while0b_v129 : Ref sig .tc := ⟨.hbm, 164, rfl⟩
abbrev main_while0b_call7_c : Ref sig .tc := ⟨.hbm, 165, rfl⟩
abbrev main_while0b_call7_c_0 : Ref sig .tc := ⟨.hbm, 166, rfl⟩
abbrev main_while0b_call7_c_1 : Ref sig .tc := ⟨.hbm, 167, rfl⟩
abbrev main_while0b_call7_c_2 : Ref sig .tc := ⟨.hbm, 168, rfl⟩
abbrev main_while0b_call7_v0 : Ref sig .tc := ⟨.hbm, 169, rfl⟩
abbrev main_while0b_v130 : Ref sig .tc := ⟨.hbm, 170, rfl⟩
abbrev main_while0b_call8_c : Ref sig .tc := ⟨.hbm, 171, rfl⟩
abbrev main_while0b_call8_c_0 : Ref sig .tc := ⟨.hbm, 172, rfl⟩
abbrev main_while0b_call8_c_1 : Ref sig .tc := ⟨.hbm, 173, rfl⟩
abbrev main_while0b_call8_v0 : Ref sig .tc := ⟨.hbm, 174, rfl⟩
abbrev main_while0b_v131 : Ref sig .tc := ⟨.hbm, 175, rfl⟩
abbrev main_while0b_call9_c : Ref sig .tc := ⟨.hbm, 176, rfl⟩
abbrev main_while0b_call9_c_0 : Ref sig .tc := ⟨.hbm, 177, rfl⟩
abbrev main_while0b_call9_c_1 : Ref sig .tc := ⟨.hbm, 178, rfl⟩
abbrev main_while0b_call9_v0 : Ref sig .tc := ⟨.hbm, 179, rfl⟩
abbrev main_while0b_v132 : Ref sig .tc := ⟨.hbm, 180, rfl⟩
abbrev main_while0b_call10_c : Ref sig .tc := ⟨.hbm, 181, rfl⟩
abbrev main_while0b_call10_c_0 : Ref sig .tc := ⟨.hbm, 182, rfl⟩
abbrev main_while0b_call10_c_1 : Ref sig .tc := ⟨.hbm, 183, rfl⟩
abbrev main_while0b_call10_v0 : Ref sig .tc := ⟨.hbm, 184, rfl⟩
abbrev main_while0b_v133 : Ref sig .tc := ⟨.hbm, 185, rfl⟩
abbrev main_while0b_call11_c : Ref sig .tc := ⟨.hbm, 186, rfl⟩
abbrev main_while0b_call11_c_0 : Ref sig .tc := ⟨.hbm, 187, rfl⟩
abbrev main_while0b_call11_c_1 : Ref sig .tc := ⟨.hbm, 188, rfl⟩
abbrev main_while0b_call11_c_2 : Ref sig .tc := ⟨.hbm, 189, rfl⟩
abbrev main_while0b_call11_v0 : Ref sig .tc := ⟨.hbm, 190, rfl⟩
abbrev main_while0b_v134 : Ref sig .tc := ⟨.hbm, 191, rfl⟩
abbrev main_while0b_call12_c : Ref sig .tc := ⟨.hbm, 192, rfl⟩
abbrev main_while0b_call12_c_0 : Ref sig .tc := ⟨.hbm, 193, rfl⟩
abbrev main_while0b_call12_c_1 : Ref sig .tc := ⟨.hbm, 194, rfl⟩
abbrev main_while0b_call12_c_2 : Ref sig .tc := ⟨.hbm, 195, rfl⟩
abbrev main_while0b_call12_v0 : Ref sig .tc := ⟨.hbm, 196, rfl⟩
abbrev main_while0b_v135 : Ref sig .tc := ⟨.hbm, 197, rfl⟩
abbrev main_while0b_call13_c : Ref sig .tc := ⟨.hbm, 198, rfl⟩
abbrev main_while0b_call13_c_0 : Ref sig .tc := ⟨.hbm, 199, rfl⟩
abbrev main_while0b_call13_c_1 : Ref sig .tc := ⟨.hbm, 200, rfl⟩
abbrev main_while0b_call13_c_2 : Ref sig .tc := ⟨.hbm, 201, rfl⟩
abbrev main_while0b_call13_v0 : Ref sig .tc := ⟨.hbm, 202, rfl⟩
abbrev main_while0b_v136 : Ref sig .tc := ⟨.hbm, 203, rfl⟩
abbrev main_while0b_v137 : Ref sig .tc := ⟨.hbm, 204, rfl⟩
abbrev main_while0b_v138 : Ref sig .tc := ⟨.hbm, 205, rfl⟩
abbrev main_while0b_v139 : Ref sig .tc := ⟨.hbm, 206, rfl⟩
abbrev main_while0b_v140 : Ref sig .tc := ⟨.hbm, 207, rfl⟩
abbrev main_while0b_v141 : Ref sig .tc := ⟨.hbm, 208, rfl⟩
abbrev main_while0b_v142 : Ref sig .tc := ⟨.hbm, 209, rfl⟩
abbrev main_while0b_v143 : Ref sig .tc := ⟨.hbm, 210, rfl⟩
abbrev main_while0b_v144 : Ref sig .tc := ⟨.hbm, 211, rfl⟩
abbrev main_while0b_v145 : Ref sig .tc := ⟨.hbm, 212, rfl⟩
abbrev main_while0b_v146 : Ref sig .tc := ⟨.hbm, 213, rfl⟩
abbrev main_while0b_v147 : Ref sig .tc := ⟨.hbm, 214, rfl⟩
abbrev main_while0b_v148 : Ref sig .tc := ⟨.hbm, 215, rfl⟩
abbrev main_while0b_v149 : Ref sig .tc := ⟨.hbm, 216, rfl⟩
abbrev main_while0b_v150 : Ref sig .tc := ⟨.hbm, 217, rfl⟩
abbrev main_while0b_v151 : Ref sig .tc := ⟨.hbm, 218, rfl⟩
abbrev main_while0b_v152 : Ref sig .tc := ⟨.hbm, 219, rfl⟩
abbrev main_while0b_v153 : Ref sig .tc := ⟨.hbm, 220, rfl⟩
abbrev main_while0b_v154 : Ref sig .tc := ⟨.hbm, 221, rfl⟩
abbrev main_while0b_v155 : Ref sig .tc := ⟨.hbm, 222, rfl⟩
abbrev main_while0b_cst_28 : Ref sig .tc := ⟨.hbm, 223, rfl⟩
abbrev main_while0b_v156 : Ref sig .tc := ⟨.hbm, 224, rfl⟩
abbrev main_while0b_v157 : Ref sig .tc := ⟨.hbm, 225, rfl⟩
abbrev main_while0b_v158 : Ref sig .tc := ⟨.hbm, 226, rfl⟩
abbrev main_while0b_v159 : Ref sig .tc := ⟨.hbm, 227, rfl⟩
abbrev main_while0b_v160 : Ref sig .tc := ⟨.hbm, 228, rfl⟩
abbrev main_while0b_v161 : Ref sig .tc := ⟨.hbm, 229, rfl⟩
abbrev main_while0b_v162 : Ref sig .tc := ⟨.hbm, 230, rfl⟩
abbrev main_while0b_v163 : Ref sig .tc := ⟨.hbm, 231, rfl⟩
abbrev main_while0b_v164 : Ref sig .tc := ⟨.hbm, 232, rfl⟩
abbrev main_while0b_v165 : Ref sig .tc := ⟨.hbm, 233, rfl⟩
abbrev main_while0b_v166 : Ref sig .tc := ⟨.hbm, 234, rfl⟩
abbrev main_while0b_v167 : Ref sig .tc := ⟨.hbm, 235, rfl⟩
abbrev main_while0b_v168 : Ref sig .tc := ⟨.hbm, 236, rfl⟩
abbrev main_while0b_v169 : Ref sig .tc := ⟨.hbm, 237, rfl⟩
abbrev main_while0b_v170 : Ref sig .tc := ⟨.hbm, 238, rfl⟩
abbrev main_while0b_v171 : Ref sig .tc := ⟨.hbm, 239, rfl⟩
abbrev main_while0b_v172 : Ref sig .tc := ⟨.hbm, 240, rfl⟩
abbrev main_while0b_v173 : Ref sig .tc := ⟨.hbm, 241, rfl⟩
abbrev main_while0b_v174 : Ref sig .tc := ⟨.hbm, 242, rfl⟩
abbrev main_while0b_v175 : Ref sig .tc := ⟨.hbm, 243, rfl⟩
abbrev main_while0b_v176 : Ref sig .tc := ⟨.hbm, 244, rfl⟩
abbrev main_while0b_v177 : Ref sig .tc := ⟨.hbm, 245, rfl⟩
abbrev main_while0b_v178 : Ref sig .tc := ⟨.hbm, 246, rfl⟩
abbrev main_while0b_v179 : Ref sig .tc := ⟨.hbm, 247, rfl⟩
abbrev main_while0b_v180 : Ref sig .tc := ⟨.hbm, 248, rfl⟩
abbrev main_while0b_v181 : Ref sig .tc := ⟨.hbm, 249, rfl⟩
abbrev main_while0b_v182 : Ref sig .tc := ⟨.hbm, 250, rfl⟩
abbrev main_while0b_v183 : Ref sig .tc := ⟨.hbm, 251, rfl⟩
abbrev main_while0b_v184 : Ref sig .tc := ⟨.hbm, 252, rfl⟩
abbrev main_while0b_v185 : Ref sig .tc := ⟨.hbm, 253, rfl⟩
abbrev main_while0b_v186 : Ref sig .tc := ⟨.hbm, 254, rfl⟩
abbrev main_while0b_cst_29 : Ref sig .tc := ⟨.hbm, 255, rfl⟩
abbrev main_while0b_v187 : Ref sig .tc := ⟨.hbm, 256, rfl⟩
abbrev main_while0b_v188 : Ref sig .tc := ⟨.hbm, 257, rfl⟩
abbrev main_while0b_call14_v0 : Ref sig .tc := ⟨.hbm, 258, rfl⟩
abbrev main_while0b_call14_c : Ref sig .tc := ⟨.hbm, 259, rfl⟩
abbrev main_while0b_call14_c_0 : Ref sig .tc := ⟨.hbm, 260, rfl⟩
abbrev main_while0b_call14_c_1 : Ref sig .tc := ⟨.hbm, 261, rfl⟩
abbrev main_while0b_call14_c_2 : Ref sig .tc := ⟨.hbm, 262, rfl⟩
abbrev main_while0b_v189 : Ref sig .tc := ⟨.hbm, 263, rfl⟩
abbrev main_while0b_c_30 : Ref sig .tc := ⟨.hbm, 264, rfl⟩
abbrev main_while0b_v190 : Ref sig .tc := ⟨.hbm, 265, rfl⟩
abbrev main_v92 : Ref sig .tc := ⟨.hbm, 266, rfl⟩
abbrev main_v93 : Ref sig .tc := ⟨.hbm, 267, rfl⟩
abbrev main_v94 : Ref sig .tc := ⟨.hbm, 268, rfl⟩
abbrev main_v95 : Ref sig .tc := ⟨.hbm, 269, rfl⟩
abbrev main_v96 : Ref sig .tc := ⟨.hbm, 270, rfl⟩
abbrev main_cst_9 : Ref sig .tc := ⟨.hbm, 271, rfl⟩
abbrev main_v97 : Ref sig .tc := ⟨.hbm, 272, rfl⟩
abbrev main_v98 : Ref sig .tc := ⟨.hbm, 273, rfl⟩
abbrev main_cst_10 : Ref sig .tc := ⟨.hbm, 274, rfl⟩
abbrev main_v99 : Ref sig .tc := ⟨.hbm, 275, rfl⟩
abbrev main_v100 : Ref sig .tc := ⟨.hbm, 276, rfl⟩
abbrev main_v101 : Ref sig .tc := ⟨.hbm, 277, rfl⟩
abbrev main_v102 : Ref sig .tc := ⟨.hbm, 278, rfl⟩
abbrev main_cst_11 : Ref sig .tc := ⟨.hbm, 279, rfl⟩
abbrev main_v103 : Ref sig .tc := ⟨.hbm, 280, rfl⟩
abbrev main_v104 : Ref sig .tc := ⟨.hbm, 281, rfl⟩
abbrev main_cst_12 : Ref sig .tc := ⟨.hbm, 282, rfl⟩
abbrev main_v105 : Ref sig .tc := ⟨.hbm, 283, rfl⟩
abbrev main_v106 : Ref sig .tc := ⟨.hbm, 284, rfl⟩
abbrev main_v107 : Ref sig .tc := ⟨.hbm, 285, rfl⟩
abbrev main_v108 : Ref sig .tc := ⟨.hbm, 286, rfl⟩
abbrev main_v109 : Ref sig .tc := ⟨.hbm, 287, rfl⟩
abbrev main_cst_13 : Ref sig .tc := ⟨.hbm, 288, rfl⟩
abbrev main_v110 : Ref sig .tc := ⟨.hbm, 289, rfl⟩
abbrev main_v111 : Ref sig .tc := ⟨.hbm, 290, rfl⟩
abbrev main_cst_14 : Ref sig .tc := ⟨.hbm, 291, rfl⟩
abbrev main_v112 : Ref sig .tc := ⟨.hbm, 292, rfl⟩
abbrev main_v113 : Ref sig .tc := ⟨.hbm, 293, rfl⟩
abbrev main_v114 : Ref sig .tc := ⟨.hbm, 294, rfl⟩
abbrev main_v115 : Ref sig .tc := ⟨.hbm, 295, rfl⟩
abbrev main_cst_15 : Ref sig .tc := ⟨.hbm, 296, rfl⟩
abbrev main_v116 : Ref sig .tc := ⟨.hbm, 297, rfl⟩
abbrev main_v117 : Ref sig .tc := ⟨.hbm, 298, rfl⟩
abbrev main_v118 : Ref sig .tc := ⟨.hbm, 299, rfl⟩
abbrev main_v119 : Ref sig .tc := ⟨.hbm, 300, rfl⟩
abbrev main_v120 : Ref sig .tc := ⟨.hbm, 301, rfl⟩
abbrev main_v121 : Ref sig .tc := ⟨.hbm, 302, rfl⟩
abbrev main_v122 : Ref sig .tc := ⟨.hbm, 303, rfl⟩
abbrev main_v123 : Ref sig .tc := ⟨.hbm, 304, rfl⟩
abbrev main_v124 : Ref sig .tc := ⟨.hbm, 305, rfl⟩
abbrev main_call15_v0 : Ref sig .tc := ⟨.hbm, 306, rfl⟩
abbrev main_call15_v1 : Ref sig .tc := ⟨.hbm, 307, rfl⟩
abbrev main_call15_cst : Ref sig .tc := ⟨.hbm, 308, rfl⟩
abbrev main_call15_v2 : Ref sig .tc := ⟨.hbm, 309, rfl⟩
abbrev main_call15_v3 : Ref sig .tc := ⟨.hbm, 310, rfl⟩
abbrev main_call15_cst_0 : Ref sig .tc := ⟨.hbm, 311, rfl⟩
abbrev main_call15_v4 : Ref sig .tc := ⟨.hbm, 312, rfl⟩
abbrev main_call15_v5 : Ref sig .tc := ⟨.hbm, 313, rfl⟩
abbrev main_v125 : Ref sig .tc := ⟨.hbm, 314, rfl⟩
abbrev main_v126 : Ref sig .tc := ⟨.hbm, 315, rfl⟩
abbrev main_v127 : Ref sig .tc := ⟨.hbm, 316, rfl⟩
abbrev main_v128 : Ref sig .tc := ⟨.hbm, 317, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S1024x4112 : Shape := ⟨2, ![1024, 4112]⟩
abbrev S32768x1024 : Shape := ⟨2, ![32768, 1024]⟩
abbrev S_ : Shape := ⟨0, ![]⟩
abbrev S1024x4224 : Shape := ⟨2, ![1024, 4224]⟩
abbrev S512x33x64x128 : Shape := ⟨4, ![512, 33, 64, 128]⟩
abbrev S512x1024 : Shape := ⟨2, ![512, 1024]⟩
abbrev S8x33x64x128 : Shape := ⟨4, ![8, 33, 64, 128]⟩
abbrev S1024x256 : Shape := ⟨2, ![1024, 256]⟩
abbrev S512x256 : Shape := ⟨2, ![512, 256]⟩
abbrev S64x128 : Shape := ⟨2, ![64, 128]⟩
abbrev S1x1x64x128 : Shape := ⟨4, ![1, 1, 64, 128]⟩
abbrev S1024x128 : Shape := ⟨2, ![1024, 128]⟩
abbrev S512x128 : Shape := ⟨2, ![512, 128]⟩

abbrev nBuf : Space → Nat
  | .hbm => 8
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1024x4112, .f32⟩
  | .hbm, ⟨2, _⟩ => ⟨S32768x1024, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S1024x4224, .bf16⟩
  | .hbm, ⟨7, _⟩ => ⟨S512x33x64x128, .f32⟩
  | .local _ .vmem, ⟨0, _⟩ => ⟨S512x1024, .f32⟩
  | .local _ .vmem, ⟨1, _⟩ => ⟨S512x1024, .f32⟩
  | .local _ .vmem, ⟨2, _⟩ => ⟨S1024x4224, .bf16⟩
  | .local _ .vmem, ⟨3, _⟩ => ⟨S8x33x64x128, .f32⟩
  | .local _ .vmem, ⟨4, _⟩ => ⟨S8x33x64x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x33x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8x4096x1024 : Shape := ⟨3, ![8, 4096, 1024]⟩
abbrev S1024x4112 : Shape := ⟨2, ![1024, 4112]⟩
abbrev S8x4096x4112 : Shape := ⟨3, ![8, 4096, 4112]⟩
abbrev S_ : Shape := ⟨0, ![]⟩
abbrev S8x4096x4224 : Shape := ⟨3, ![8, 4096, 4224]⟩
abbrev S512x64x33x128 : Shape := ⟨4, ![512, 64, 33, 128]⟩
abbrev S512x33x64x128 : Shape := ⟨4, ![512, 33, 64, 128]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x4112, .f32⟩
  | .hbm, ⟨2, _⟩ => ⟨S8x4096x4112, .f32⟩
  | .hbm, ⟨3, _⟩ => ⟨S_, .i32⟩
  | .hbm, ⟨4, _⟩ => ⟨S_, .f32⟩
  | .hbm, ⟨5, _⟩ => ⟨S8x4096x4224, .f32⟩
  | .hbm, ⟨6, _⟩ => ⟨S512x64x33x128, .f32⟩
  | .hbm, ⟨7, _⟩ => ⟨S512x33x64x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel3.lean ====
abbrev S8x4096x1024 : Shape := ⟨3, ![8, 4096, 1024]⟩
abbrev S512x8x64x128 : Shape := ⟨4, ![512, 8, 64, 128]⟩
abbrev S4x8x4096x256 : Shape := ⟨4, ![4, 8, 4096, 256]⟩
abbrev S1024x1024 : Shape := ⟨2, ![1024, 1024]⟩
abbrev S256x1024 : Shape := ⟨2, ![256, 1024]⟩
abbrev S1024 : Shape := ⟨1, ![1024]⟩
abbrev S32768x1024 : Shape := ⟨2, ![32768, 1024]⟩
abbrev S4x32768x256 : Shape := ⟨3, ![4, 32768, 256]⟩
abbrev S1x1024 : Shape := ⟨2, ![1, 1024]⟩
abbrev S16x8x64x128 : Shape := ⟨4, ![16, 8, 64, 128]⟩
abbrev S1x1024x256 : Shape := ⟨3, ![1, 1024, 256]⟩
abbrev S1x1x64x128 : Shape := ⟨4, ![1, 1, 64, 128]⟩
abbrev S64x128 : Shape := ⟨2, ![64, 128]⟩
abbrev S64x1024 : Shape := ⟨2, ![64, 1024]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩

abbrev nBuf : Space → Nat
  | .hbm => 19
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S512x8x64x128, .f32⟩
  | .hbm, ⟨2, _⟩ => ⟨S4x8x4096x256, .f32⟩
  | .hbm, ⟨3, _⟩ => ⟨S1024x1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S4x32768x256, .f32⟩
  | .hbm, ⟨11, _⟩ => ⟨S1024x1024, .bf16⟩
  | .hbm, ⟨12, _⟩ => ⟨S1024x1024, .bf16⟩
  | .hbm, ⟨13, _⟩ => ⟨S256x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S32768x1024, .f32⟩
  | .hbm, ⟨18, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S16x8x64x128, .f32⟩
  | .local _ .vmem, ⟨3, _⟩ => ⟨S16x8x64x128, .f32⟩
  | .local _ .vmem, ⟨4, _⟩ => ⟨S1x1024x256, .f32⟩
  | .local _ .vmem, ⟨5, _⟩ => ⟨S1x1024x256, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x4096x1024 : Shape := ⟨3, ![8, 4096, 1024]⟩
abbrev S512x8x64x128 : Shape := ⟨4, ![512, 8, 64, 128]⟩
abbrev S4x8x4096x256 : Shape := ⟨4, ![4, 8, 4096, 256]⟩
abbrev S1024x1024 : Shape := ⟨2, ![1024, 1024]⟩
abbrev S256x1024 : Shape := ⟨2, ![256, 1024]⟩
abbrev S1024 : Shape := ⟨1, ![1024]⟩
abbrev S512x64x8x128 : Shape := ⟨4, ![512, 64, 8, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x8x4096x256 : Shape := ⟨4, ![1, 8, 4096, 256]⟩
abbrev S8x4096x256 : Shape := ⟨3, ![8, 4096, 256]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S512x8x64x128, .f32⟩
  | .hbm, ⟨2, _⟩ => ⟨S4x8x4096x256, .f32⟩
  | .hbm, ⟨3, _⟩ => ⟨S1024x1024, .f32⟩
  | .hbm, ⟨4, _⟩ => ⟨S1024x1024, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S512x64x8x128, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S1x8x4096x256, .f32⟩
  | .hbm, ⟨55, _⟩ => ⟨S8x4096x256, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S_, .f32⟩
  | .hbm, ⟨65, _⟩ => ⟨S8x4096x1, .f32⟩
  | .hbm, ⟨66, _⟩ => ⟨S8x4096x1, .f32⟩
  | .hbm, ⟨67, _⟩ => ⟨S8x4096x1, .f32⟩
  | .hbm, ⟨68, _⟩ => ⟨S8x4096x1024, .f32⟩
  | .hbm, ⟨69, _⟩ => ⟨S8x4096x1024, .f32⟩
  | .hbm, ⟨70, _⟩ => ⟨S1x1x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x4224 : Shape := ⟨2, ![1024, 4224]⟩
abbrev S6x1024 : Shape := ⟨2, ![6, 1024]⟩
abbrev S1024x1024 : Shape := ⟨2, ![1024, 1024]⟩
abbrev S1024x64 : Shape := ⟨2, ![1024, 64]⟩
abbrev S1x1024 : Shape := ⟨2, ![1, 1024]⟩
abbrev S1024 : Shape := ⟨1, ![1024]⟩
abbrev S8x1024 : Shape := ⟨2, ![8, 1024]⟩
abbrev S8x4096x4224 : Shape := ⟨3, ![8, 4096, 4224]⟩
abbrev S1x512x1024 : Shape := ⟨3, ![1, 512, 1024]⟩
abbrev S1x8x1024 : Shape := ⟨3, ![1, 8, 1024]⟩
abbrev S1x512x4224 : Shape := ⟨3, ![1, 512, 4224]⟩
abbrev S520x1024 : Shape := ⟨2, ![520, 1024]⟩
abbrev S512x1024 : Shape := ⟨2, ![512, 1024]⟩
abbrev S1024x128 : Shape := ⟨2, ![1024, 128]⟩
abbrev S512x128 : Shape := ⟨2, ![512, 128]⟩
abbrev S1x512x128 : Shape := ⟨3, ![1, 512, 128]⟩

abbrev nBuf : Space → Nat
  | .hbm => 37
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x4224, .f32⟩
  | .hbm, ⟨2, _⟩ => ⟨S6x1024, .f32⟩
  | .hbm, ⟨3, _⟩ => ⟨S1024x1024, .f32⟩
  | .hbm, ⟨4, _⟩ => ⟨S1024x64, .f32⟩
  | .hbm, ⟨5, _⟩ => ⟨S1024x1024, .f32⟩
  | .hbm, ⟨6, _⟩ => ⟨S1024x1024, .f32⟩
  | .hbm, ⟨7, _⟩ => ⟨S1024x64, .f32⟩
  | .hbm, ⟨8, _⟩ => ⟨S1024x1024, .f32⟩
  | .hbm, ⟨9, _⟩ => ⟨S1024x4224, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S8x1024, .f32⟩
  | .hbm, ⟨35, _⟩ => ⟨S1024x4224, .bf16⟩
  | .hbm, ⟨36, _⟩ => ⟨S8x4096x4224, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x4224, .bf16⟩
  | .local _ .vmem, ⟨5, _⟩ => ⟨S8x1024, .f32⟩
  | .local _ .vmem, ⟨6, _⟩ => ⟨S1x512x4224, .f32⟩
  | .local _ .vmem, ⟨7, _⟩ => ⟨S1x512x4224, .f32⟩
  | .local _ .vmem, ⟨8, _⟩ => ⟨S520x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x4096x1024 : Shape := ⟨3, ![8, 4096, 1024]⟩
abbrev S1024x4224 : Shape := ⟨2, ![1024, 4224]⟩
abbrev S6x1024 : Shape := ⟨2, ![6, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1024x64 : Shape := ⟨2, ![1024, 64]⟩
abbrev S8x4096x4224 : Shape := ⟨3, ![8, 4096, 4224]⟩
abbrev S_ : Shape := ⟨0, ![]⟩
abbrev S8x4097x1024 : Shape := ⟨3, ![8, 4097, 1024]⟩
abbrev S8x4096x64 : Shape := ⟨3, ![8, 4096, 64]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x4224, .f32⟩
  | .hbm, ⟨2, _⟩ => ⟨S6x1024, .f32⟩
  | .hbm, ⟨3, _⟩ => ⟨S1x1024, .f32⟩
  | .hbm, ⟨4, _⟩ => ⟨S1024, .f32⟩
  | .hbm, ⟨5, _⟩ => ⟨S1024x1, .f32⟩
  | .hbm, ⟨6, _⟩ => ⟨S1024x1024, .f32⟩
  | .hbm, ⟨7, _⟩ => ⟨S1x1024, .f32⟩
  | .hbm, ⟨8, _⟩ => ⟨S1024, .f32⟩
  | .hbm, ⟨9, _⟩ => ⟨S1024x1, .f32⟩
  | .hbm, ⟨10, _⟩ => ⟨S1024x64, .f32⟩
  | .hbm, ⟨11, _⟩ => ⟨S1x1024, .f32⟩
  | .hbm, ⟨12, _⟩ => ⟨S1024, .f32⟩
  | .hbm, ⟨13, _⟩ => ⟨S1024x1, .f32⟩
  | .hbm, ⟨14, _⟩ => ⟨S1024x1024, .f32⟩
  | .hbm, ⟨15, _⟩ => ⟨S1x1024, .f32⟩
  | .hbm, ⟨16, _⟩ => ⟨S1024, .f32⟩
  | .hbm, ⟨17, _⟩ => ⟨S1024x1, .f32⟩
  | .hbm, ⟨18, _⟩ => ⟨S1024x1024, .f32⟩
  | .hbm, ⟨19, _⟩ => ⟨S1x1024, .f32⟩
  | .hbm, ⟨20, _⟩ => ⟨S1024, .f32⟩
  | .hbm, ⟨21, _⟩ => ⟨S1024x1, .f32⟩
  | .hbm, ⟨22, _⟩ => ⟨S1024x64, .f32⟩
  | .hbm, ⟨23, _⟩ => ⟨S1x1024, .f32⟩
  | .hbm, ⟨24, _⟩ => ⟨S1024, .f32⟩
  | .hbm, ⟨25, _⟩ => ⟨S1024x1, .f32⟩
  | .hbm, ⟨26, _⟩ => ⟨S1024x1024, .f32⟩
  | .hbm, ⟨27, _⟩ => ⟨S1024x4224, .f32⟩
  | .hbm, ⟨28, _⟩ => ⟨S8x4096x4224, .f32⟩
  | .hbm, ⟨29, _⟩ => ⟨S_, .i32⟩
  | .hbm, ⟨30, _⟩ => ⟨S_, .f32⟩
  | .hbm, ⟨31, _⟩ => ⟨S8x4097x1024, .f32⟩
  | .hbm, ⟨32, _⟩ => ⟨S8x4096x1024, .f32⟩
  | .hbm, ⟨33, _⟩ => ⟨S8x4096x1024, .f32⟩
  | .hbm, ⟨34, _⟩ => ⟨S1024x4224, .f32⟩
  | .hbm, ⟨35, _⟩ => ⟨S8x4096x4224, .f32⟩
  | .hbm, ⟨36, _⟩ => ⟨S8x4096x4224, .f32⟩
  | .hbm, ⟨37, _⟩ => ⟨S8x4096x1024, .f32⟩
  | .hbm, ⟨38, _⟩ => ⟨S8x4096x64, .f32⟩
  | .hbm, ⟨39, _⟩ => ⟨S8x4096x1024, .f32⟩
  | .hbm, ⟨40, _⟩ => ⟨S8x4096x1024, .f32⟩
  | .hbm, ⟨41, _⟩ => ⟨S8x4096x64, .f32⟩
  | .hbm, ⟨42, _⟩ => ⟨S8x4096x1024, .f32⟩
  | .hbm, ⟨43, _⟩ => ⟨S8x4096x4224, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_c : Ref sig .tc := ⟨.hbm, 29, rfl⟩
abbrev main_call0_v0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.Ml.Setup.lean ====
/- What the hand-written frame of the mLSTM mixer is stated over: the branch condition in closed form over the grid, the
   staging and scratch memrefs, and the launch's invariant with the scratch buffers as memrefs. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Ml

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 64) — by arithmetic of the point. -/
theorem hcond0_0 : ∀ t : Fin cfg0.N, cond0_0 (grid0.coords t) ↔ t.val % 64 = 0 :=
  (fun t => by
    have ht : t.val < 512 := Nat.lt_of_lt_of_eq t.isLt N_0
    have e0 : (grid0.coords t 0).val = t.val / 64 % 8 := Pipeline.Grid.coords_val t 0 (by decide) rfl
    have e1 : (grid0.coords t 1).val = t.val / 1 % 64 := Pipeline.Grid.coords_val t 1 (by decide) rfl
    simp only [cond0_0, e0, e1]
    word_cmp
   : ∀ t : Fin grid0.N, cond0_0 (grid0.coords t) ↔ t.val % 64 = 0)

/-! ## The kernel body on any staging memrefs: a subtype the run finds -/

/-- One staging buffer of output window 5, through which its contents are stated (`View.read_writes_of_cover`: the
    choice does not matter). -/
abbrev VO0_5 : View sig .tc .vmem S1x8x64x128 .f32 := (Memref.whole cc0_stg5_0 : Memref sig .tc .vmem S1x8x64x128 .f32).view
/-- Each window's current staging memref at point `t`, spelled as the pipeline passes it (`bodyAt0`), and its wholeness. -/
abbrev ms0_0 (t : Fin cfg0.N) : Memref sig .tc .vmem S1x33x64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x64x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S24x1024 .f32 := Memref.whole cc0_scratch0
abbrev scM0_1 : Memref sig .tc .vmem S8x64x256 .f32 := Memref.whole cc0_scratch1
abbrev scM0_2 : Memref sig .tc .vmem S8x128 .f32 := Memref.whole cc0_scratch2
/-- The scratch `arg8` the kernel carries between points, as a view: what it holds is stated through it. -/
abbrev VS0_0 : View sig .tc .vmem S24x1024 .f32 := scM0_0.view
/-- The scratch `arg9` the kernel carries between points, as a view: what it holds is stated through it. -/
abbrev VS0_1 : View sig .tc .vmem S8x64x256 .f32 := scM0_1.view
/-- The scratch `arg10` the kernel carries between points, as a view: what it holds is stated through it. -/
abbrev VS0_2 : View sig .tc .vmem S8x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Ml

end
-- ==== Proof.Ml.Run.lean ====
/- The whole-body run of the mLSTM mixer at a point that is not the first of its batch: the pieces each buffer ends
   with are found by the run. -/
module

public import proofs.«01_k».proof.Proof.Ml.Setup

@[expose] public section

-- membership in a rectangle of production extents (`View.cover_of_tiled`): the elaborator's structural look
-- recurses once per coordinate of the long axes
set_option maxRecDepth 16384

noncomputable section

namespace Cert.KernelIdeal.Ml

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option sl_exec.resultNames true in
set_option maxHeartbeats 2612000 in
/-- The body at a point that is not the first of its batch, the three scratch buffers holding `xs0`, `xs1`, `xs2`: the
    pieces it leaves in the output's staging buffer and in each scratch buffer, last first, with the proof that the body runs
    from the inputs at their contents to the inputs as they were and those pieces written. The pieces are found by the run. -/
noncomputable def kernelRun0_B (c : Dev nD) (i : grid0.Coords) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) (hc0 : ¬cond0_0 i)
    (x0 : Vec F S1x33x64x128 .f32) (x1 : Vec F S4x1024 .f32) (x2 : Vec F S1x128 .f32) (x3 : Vec F S1x128 .f32) (x4 : Vec F S1x1024 .f32) (xs0 : Vec F S24x1024 .f32) (xs1 : Vec F S8x64x256 .f32) (xs2 : Vec F S8x128 .f32) :
    Σ' (L5 : List (View.Piece (Elt F) S1x8x64x128 .f32)), Σ' (LS0 : List (View.Piece (Elt F) S24x1024 .f32)), Σ' (LS1 : List (View.Piece (Elt F) S8x64x256 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_ml_mixer i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_ml_mixer_eq_skeleton]; unfold cc0_ml_mixer_skel
    simp only [k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Ml

end
-- ==== Proof.Ml.Reset.lean ====
/- The first point of a batch: the body there is a reset of the three scratch buffers followed by the body of a later
   point, so the run of Ml/Run.lean serves it too. -/
module

public import proofs.«01_k».proof.Proof.Ml.Run
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Ml

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point of the grid that is not the first of its batch. -/
def i0 : grid0.Coords := grid0.coords ⟨1, lt_of_lt_of_eq (by decide) N_0.symm⟩

theorem i0_cond : ¬ cond0_0 i0 := fun h =>
  absurd ((hcond0_0 ⟨1, lt_of_lt_of_eq (by decide) N_0.symm⟩).mp h) (show ¬ 1 % 64 = 0 by decide)

/-- What the body does first at the first point of a batch: the carried time slices, states and maxima at their
    initial values. -/
noncomputable def resetProg (arg8 : Memref sig .tc .vmem S24x1024 .f32) (arg9 : Memref sig .tc .vmem S8x64x256 .f32) (arg10 : Memref sig .tc .vmem S8x128 .f32) :
    Prog (TpuEff nD τ sig (Elt F) Λ₀ .tc) PUnit := do
  let v1792 : Vec F S24x1024 .f32 ← Prog.lift (.load arg8 (Rect.unit (s := S24x1024) ![0, 0] S24x1024.size inb_S24x1024_S24x1024_0_0).toLoadRect (View.loadsAt_vmem h_S24x1024))
  Prog.lift (.store arg8 (Rect.unit (s := S24x1024) ![0, 0] S24x1024.size inb_S24x1024_S24x1024_0_0) (k0_pay7 (F := F)) Finset.univ (View.stores_vmem_bits_univ h_S24x1024 rfl) (.inl rfl))
  let v1796 : Vec F S8x64x256 .f32 ← Prog.lift (.load arg9 (Rect.unit (s := S8x64x256) ![0, 0, 0] S8x64x256.size inb_S8x64x256_S8x64x256_0_0_0).toLoadRect (View.loadsAt_vmem h_S8x64x256))
  Prog.lift (.store arg9 (Rect.unit (s := S8x64x256) ![0, 0, 0] S8x64x256.size inb_S8x64x256_S8x64x256_0_0_0) (k0_pay8 (F := F)) Finset.univ (View.stores_vmem_bits_univ h_S8x64x256 rfl) (.inl rfl))
  let v1800 : Vec F S8x128 .f32 ← Prog.lift (.load arg10 (Rect.unit (s := S8x128) ![0, 0] S8x128.size inb_S8x128_S8x128_0_0).toLoadRect (View.loadsAt_vmem h_S8x128))
  Prog.lift (.store arg10 (Rect.unit (s := S8x128) ![0, 0] S8x128.size inb_S8x128_S8x128_0_0) (k0_pay9 (F := F)) Finset.univ (View.stores_vmem_bits_univ h_S8x128 rfl) (.inl rfl))
  pure ⟨⟩

theorem part1_reset (i : grid0.Coords) (hc : cond0_0 i) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) :
    k0_part1_skel (F := F) i arg2 harg2 arg3 harg3 arg4 harg4 arg5 harg5 arg6 harg6 arg7 harg7 arg8 harg8 arg9 harg9 arg10 harg10 = resetProg arg8 arg9 arg10 >>= fun _ => k0_part1_skel i0 arg2 harg2 arg3 harg3 arg4 harg4 arg5 harg5 arg6 harg6 arg7 harg7 arg8 harg8 arg9 harg9 arg10 harg10 := by
  unfold k0_part1_skel resetProg
  dsimp only
  rw [dif_pos hc, dif_neg i0_cond]
  simp only [bind_assoc, pure_bind]

theorem part1_later (i : grid0.Coords) (hc : ¬ cond0_0 i) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) :
    k0_part1_skel (F := F) i arg2 harg2 arg3 harg3 arg4 harg4 arg5 harg5 arg6 harg6 arg7 harg7 arg8 harg8 arg9 harg9 arg10 harg10 = k0_part1_skel i0 arg2 harg2 arg3 harg3 arg4 harg4 arg5 harg5 arg6 harg6 arg7 harg7 arg8 harg8 arg9 harg9 arg10 harg10 := by
  unfold k0_part1_skel
  dsimp only
  rw [dif_neg hc, dif_neg i0_cond]

theorem part58_reset (i : grid0.Coords) (hc : cond0_0 i) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) :
    k0_part58_skel (F := F) i arg2 harg2 arg3 harg3 arg4 harg4 arg5 harg5 arg6 harg6 arg7 harg7 arg8 harg8 arg9 harg9 arg10 harg10 = resetProg arg8 arg9 arg10 >>= fun _ => k0_part58_skel i0 arg2 harg2 arg3 harg3 arg4 harg4 arg5 harg5 arg6 harg6 arg7 harg7 arg8 harg8 arg9 harg9 arg10 harg10 := by
  unfold k0_part58_skel
  simp only [k0_part1_eq_skeleton]
  refine (congrArg (fun z => z >>= _) (part1_reset i hc arg2 harg2 arg3 harg3 arg4 harg4 arg5 harg5 arg6 harg6 arg7 harg7 arg8 harg8 arg9 harg9 arg10 harg10)).trans ?_
  exact bind_assoc _ _ _

theorem part58_later (i : grid0.Coords) (hc : ¬ cond0_0 i) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) :
    k0_part58_skel (F := F) i arg2 harg2 arg3 harg3 arg4 harg4 arg5 harg5 arg6 harg6 arg7 harg7 arg8 harg8 arg9 harg9 arg10 harg10 = k0_part58_skel i0 arg2 harg2 arg3 harg3 arg4 harg4 arg5 harg5 arg6 harg6 arg7 harg7 arg8 harg8 arg9 harg9 arg10 harg10 := by
  unfold k0_part58_skel
  simp only [k0_part1_eq_skeleton]
  exact (congrArg (fun z => z >>= _) (part1_later i hc arg2 harg2 arg3 harg3 arg4 harg4 arg5 harg5 arg6 harg6 arg7 harg7 arg8 harg8 arg9 harg9 arg10 harg10))

theorem body_reset (i : grid0.Coords) (hc : cond0_0 i) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) :
    cc0_ml_mixer (F := F) i arg2 harg2 arg3 harg3 arg4 harg4 arg5 harg5 arg6 harg6 arg7 harg7 arg8 harg8 arg9 harg9 arg10 harg10 = resetProg arg8 arg9 arg10 >>= fun _ => cc0_ml_mixer i0 arg2 harg2 arg3 harg3 arg4 harg4 arg5 harg5 arg6 harg6 arg7 harg7 arg8 harg8 arg9 harg9 arg10 harg10 := by
  simp only [cc0_ml_mixer_eq_skeleton]
  unfold cc0_ml_mixer_skel
  simp only [k0_part58_eq_skeleton]
  refine (congrArg (fun z => z >>= _) (part58_reset i hc arg2 harg2 arg3 harg3 arg4 harg4 arg5 harg5 arg6 harg6 arg7 harg7 arg8 harg8 arg9 harg9 arg10 harg10)).trans ?_
  exact bind_assoc _ _ _

theorem body_later (i : grid0.Coords) (hc : ¬ cond0_0 i) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole) (arg7 : Memref sig .tc .vmem S1x8x64x128 .f32) (harg7 : arg7.IsWhole) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) :
    cc0_ml_mixer (F := F) i arg2 harg2 arg3 harg3 arg4 harg4 arg5 harg5 arg6 harg6 arg7 harg7 arg8 harg8 arg9 harg9 arg10 harg10 = cc0_ml_mixer i0 arg2 harg2 arg3 harg3 arg4 harg4 arg5 harg5 arg6 harg6 arg7 harg7 arg8 harg8 arg9 harg9 arg10 harg10 := by
  simp only [cc0_ml_mixer_eq_skeleton]
  unfold cc0_ml_mixer_skel
  simp only [k0_part58_eq_skeleton]
  exact (congrArg (fun z => z >>= _) (part58_later i hc arg2 harg2 arg3 harg3 arg4 harg4 arg5 harg5 arg6 harg6 arg7 harg7 arg8 harg8 arg9 harg9 arg10 harg10))

theorem hz2 : (![0, 0] : Fin 2 → Nat) = fun _ => 0 := by decide
theorem hz3 : (![0, 0, 0] : Fin 3 → Nat) = fun _ => 0 := by decide

/-- The reset, run: the scratch buffers end at their initial contents. -/
theorem reset_run (c : Dev nD) (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole) (E : Set ℕ) (K : PUnit → sProp 𝕄) :
    iprop((∃ d, owns (c : Thread nD τ) arg8 fullShare d) ∗ (∃ d, owns (c : Thread nD τ) arg9 fullShare d) ∗ (∃ d, owns (c : Thread nD τ) arg10 fullShare d)
      ∗ (iprop(owns (c : Thread nD τ) arg8 fullShare (k0_pay7 (F := F)) ∗ owns (c : Thread nD τ) arg9 fullShare (k0_pay8 (F := F)) ∗ owns (c : Thread nD τ) arg10 fullShare (k0_pay9 (F := F))) -∗ K ⟨⟩))
    ⊢ wp frame (wpE (defs₀ (F := F)) Variants.none c none) E (resetProg (F := F) arg8 arg9 arg10) K := by
  unfold resetProg owns
  iintro ⟨⟨%d0, %f0, -, H0⟩, ⟨%d1, %f1, -, H1⟩, ⟨%d2, %f2, -, H2⟩, Hk⟩
  sl_exec
  sl_step
  iapply Hk
  isplitl [H0]
  · iexists _; isplitr
    swap; · iexact H0
    ipureintro
    rw [View.read_writes_eq_canon _ _ _ (View.cover_of_wholeMem _ (by sl_whole_mem))]
    exact View.canon_unit_zero hz2 _ _
  isplitl [H1]
  · iexists _; isplitr
    swap; · iexact H1
    ipureintro
    rw [View.read_writes_eq_canon _ _ _ (View.cover_of_wholeMem _ (by sl_whole_mem))]
    exact View.canon_unit_zero hz3 _ _
  iexists _; isplitr
  swap; · iexact H2
  ipureintro
  rw [View.read_writes_eq_canon _ _ _ (View.cover_of_wholeMem _ (by sl_whole_mem))]
  exact View.canon_unit_zero hz2 _ _

end Cert.KernelIdeal.Ml

end
-- ==== Proof.Ml.Frame.lean ====
/- The frame of the mLSTM mixer: what the output block and the carried scratch hold after each point, the proof data over
   them, the body's obligation at every point, the launch, and the claim that the arguments end unchanged. -/
module

public import proofs.«01_k».proof.Proof.Ml.Reset
public import Idealize.ShloMosaic.Lib.Claim

@[expose] public section

-- membership in a rectangle of production extents (`View.cover_of_tiled`): the elaborator's structural look
-- recurses once per coordinate of the long axes
set_option maxRecDepth 16384

noncomputable section

namespace Cert.KernelIdeal.Ml

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a run leaves, point by point -/

/-- The run of the body at point `t`, from scratch contents `xs`. -/
abbrev runAt (c : Dev nD) (t : Fin cfg0.N) (xs0 : Vec F S24x1024 .f32) (xs1 : Vec F S8x64x256 .f32) (xs2 : Vec F S8x128 .f32) :=
  kernelRun0_B c i0 (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) i0_cond
    (iblk m c 0 t) (iblk m c 1 t) (iblk m c 2 t) (iblk m c 3 t) (iblk m c 4 t) xs0 xs1 xs2

/-- The rectangle of the output block that head `h`'s rows of residue `b` modulo 8 are stored to. -/
def outRect (h b : Fin 8) : Rect S1x8x64x128 :=
  ⟨⟨![0, h.val, b.val, 0], S1x1x8x128.size, ![1, 1, 8, 1], by
    intro a; right
    match a with
    | ⟨0, _⟩ => exact Nat.zero_lt_one
    | ⟨1, _⟩ => exact h.isLt
    | ⟨2, _⟩ => show b.val + 8 * 7 < 64; omega
    | ⟨3, _⟩ => show 0 + 1 * 127 < 128; omega⟩, spos_1_1_8_1⟩

/-- An index of the output block lies in the rectangle of its head and its row's residue. -/
theorem mem_outRect (y : S1x8x64x128.Idx) (h b : Fin 8) (hh : (y 1).val = h.val) (hb : (y 2).val % 8 = b.val) : y ∈ (outRect h b).set := by
  have h2 : (y 2).val < 64 := (y 2).isLt
  refine (outRect h b).mem_set.mpr fun a => ?_
  match a with
  | ⟨0, _⟩ => exact ⟨0, Nat.zero_lt_one, by have := (y 0).isLt; show (y 0).val = 0 + 1 * 0; change (y 0).val < 1 at this; omega⟩
  | ⟨1, _⟩ => exact ⟨0, Nat.zero_lt_one, by show (y 1).val = h.val + 1 * 0; omega⟩
  | ⟨2, _⟩ => exact ⟨(y 2).val / 8, by show (y 2).val / 8 < 8; omega, by show (y 2).val = b.val + 8 * ((y 2).val / 8); omega⟩
  | ⟨3, _⟩ => exact ⟨(y 3).val, (y 3).isLt, by show (y 3).val = 0 + 1 * (y 3).val; omega⟩

/-- The 64 rectangles the output's pieces are written through, the last first. -/
def outRects : List (Rect S1x8x64x128) := List.ofFn fun n : Fin 64 => outRect ⟨7 - n.val / 8, by omega⟩ ⟨7 - n.val % 8, by omega⟩

theorem out_rects (c : Dev nD) (t : Fin cfg0.N) (xs0 : Vec F S24x1024 .f32) (xs1 : Vec F S8x64x256 .f32) (xs2 : Vec F S8x128 .f32) :
    (runAt m c t xs0 xs1 xs2).1.map Sigma.fst = outRects := by sl_kernel_rfl

/-- The output's pieces cover its block. -/
theorem cover_out (c : Dev nD) (t : Fin cfg0.N) (xs0 : Vec F S24x1024 .f32) (xs1 : Vec F S8x64x256 .f32) (xs2 : Vec F S8x128 .f32) (y : S1x8x64x128.Idx) :
    ∃ pc ∈ (runAt m c t xs0 xs1 xs2).1, y ∈ pc.1.set := by
  have h1 : (y 1).val < 8 := (y 1).isLt
  have h2 : (y 2).val < 64 := (y 2).isLt
  have hm : outRect ⟨(y 1).val, h1⟩ ⟨(y 2).val % 8, by omega⟩ ∈ (runAt m c t xs0 xs1 xs2).1.map Sigma.fst := by
    rw [out_rects]
    refine List.mem_ofFn.mpr ⟨⟨(7 - (y 1).val) * 8 + (7 - (y 2).val % 8), by omega⟩, ?_⟩
    congr 1 <;> · refine Fin.ext ?_; dsimp only; omega
  obtain ⟨pc, hpc, he⟩ := List.mem_map.mp hm
  exact ⟨pc, hpc, he ▸ mem_outRect y _ _ rfl rfl⟩

theorem cover_hist (c : Dev nD) (t : Fin cfg0.N) (xs0 : Vec F S24x1024 .f32) (xs1 : Vec F S8x64x256 .f32) (xs2 : Vec F S8x128 .f32) (y : S24x1024.Idx) :
    ∃ pc ∈ (runAt m c t xs0 xs1 xs2).2.1, y ∈ pc.1.set :=
  View.cover_of_tiledL (runAt m c t xs0 xs1 xs2).2.1 S24x1024.size (by sl_kernel_rfl) y

theorem cover_state (c : Dev nD) (t : Fin cfg0.N) (xs0 : Vec F S24x1024 .f32) (xs1 : Vec F S8x64x256 .f32) (xs2 : Vec F S8x128 .f32) (y : S8x64x256.Idx) :
    ∃ pc ∈ (runAt m c t xs0 xs1 xs2).2.2.1, y ∈ pc.1.set :=
  View.cover_of_tiledL (runAt m c t xs0 xs1 xs2).2.2.1 S1x64x256.size (by sl_kernel_rfl) y

theorem cover_max (c : Dev nD) (t : Fin cfg0.N) (xs0 : Vec F S24x1024 .f32) (xs1 : Vec F S8x64x256 .f32) (xs2 : Vec F S8x128 .f32) (y : S8x128.Idx) :
    ∃ pc ∈ (runAt m c t xs0 xs1 xs2).2.2.2.1, y ∈ pc.1.set :=
  View.cover_of_tiledL (runAt m c t xs0 xs1 xs2).2.2.2.1 S8x128.size (by sl_kernel_rfl) y

/-- The carried scratch: time slices, states, running maxima. -/
abbrev St (F : FTy → Type) : Type := Vec F S24x1024 .f32 × Vec F S8x64x256 .f32 × Vec F S8x128 .f32

/-- What the body leaves at point `t` from the scratch `s`: its output block and the scratch after it. -/
def stepAt (c : Dev nD) (t : Fin cfg0.N) (s : St F) : Vec F S1x8x64x128 .f32 × St F :=
  (View.canon (runAt m c t s.1 s.2.1 s.2.2).1, View.canon (runAt m c t s.1 s.2.1 s.2.2).2.1,
    View.canon (runAt m c t s.1 s.2.1 s.2.2).2.2.1, View.canon (runAt m c t s.1 s.2.1 s.2.2).2.2.2.1)

/-- The scratch a batch starts from. -/
def st0 : St F := (k0_pay7 (F := F), k0_pay8 (F := F), k0_pay9 (F := F))

/-- What the output block and the scratch hold after point `n`. -/
def outsAt (c : Dev nD) : (n : ℕ) → n < cfg0.N → Vec F S1x8x64x128 .f32 × St F
  | 0, hn => stepAt m c ⟨0, hn⟩ st0
  | n + 1, hn => stepAt m c ⟨n + 1, hn⟩ (if (n + 1) % 64 = 0 then st0 else (outsAt c n (Nat.lt_of_succ_lt hn)).2)

theorem outsAt_first (c : Dev nD) (t : Fin cfg0.N) (h0 : t.val % 64 = 0) : outsAt m c t.val t.isLt = stepAt m c t st0 := by
  obtain ⟨n, hn⟩ := t
  cases n with
  | zero => rfl
  | succ n => unfold outsAt; rw [if_pos h0]

theorem outsAt_later (c : Dev nD) (t : Fin cfg0.N) (h0 : ¬ t.val % 64 = 0) :
    outsAt m c t.val t.isLt = stepAt m c t (outsAt m c (t.val - 1) (by omega)).2 := by
  obtain ⟨n, hn⟩ := t
  cases n with
  | zero => exact absurd (Nat.zero_mod _) h0
  | succ n =>
    rw [outsAt, if_neg h0]
    rfl

/-- The invariant before position `n`: before the first point every scratch at anything, afterwards at what the point
    before left. -/
def PhiS (c : Dev nD) : (n : ℕ) → n ≤ cfg0.N → sProp 𝕄
  | 0, _ => Pipeline.ΦA spec0 c
  | n + 1, hn => iprop(iprop(owns (c : Thread nD τ) scM0_0 fullShare (outsAt m c n hn).2.1 ∗ owns (c : Thread nD τ) scM0_1 fullShare (outsAt m c n hn).2.2.1 ∗ owns (c : Thread nD τ) scM0_2 fullShare (outsAt m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outsAt m c n hn).2.1 ∗ owns (c : Thread nD τ) scM0_1 fullShare (outsAt m c n hn).2.2.1 ∗ owns (c : Thread nD τ) scM0_2 fullShare (outsAt m c n hn).2.2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (outsAt m c (n - 1) (by omega)).2.1 ∗ owns (c : Thread nD τ) scM0_1 fullShare (outsAt m c (n - 1) (by omega)).2.2.1 ∗ owns (c : Thread nD τ) scM0_2 fullShare (outsAt m c (n - 1) (by omega)).2.2.2) ∗ (∃ r, prngReg c r)) := by
  cases n with
  | zero => exact absurd rfl hz
  | succ n => rfl

/-! ## The proof data -/

/-- The pipeline's proof data on core `c`: the arrays as launched, each input's buffer at its block, the output's at
    `outsAt`; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 2000000 in
/-- The body from scratch contents `s`, the later point's run. -/
theorem body_from (c : Dev nD) (t : Fin cfg0.N) (s : St F) (Φ : sProp 𝕄) :
    iprop(iprop(owns (c : Thread nD τ) scM0_0 fullShare s.1 ∗ owns (c : Thread nD τ) scM0_1 fullShare s.2.1 ∗ owns (c : Thread nD τ) scM0_2 fullShare s.2.2) ∗ Φ
      ∗ owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ (∃ d, owns (c : Thread nD τ) (ms0_5 t) fullShare d))
    ⊢ wp frame (wpE (defs₀ (F := F)) Variants.none c none) Set.univ
        (cc0_ml_mixer (F := F) i0 (ms0_0 t) (hs0_0 t) (ms0_1 t) (hs0_1 t) (ms0_2 t) (hs0_2 t) (ms0_3 t) (hs0_3 t) (ms0_4 t) (hs0_4 t) (ms0_5 t) (hs0_5 t)
          scM0_0 (Memref.isWhole_whole _) scM0_1 (Memref.isWhole_whole _) scM0_2 (Memref.isWhole_whole _))
        (fun _ => iprop(iprop(owns (c : Thread nD τ) scM0_0 fullShare (stepAt m c t s).2.1 ∗ owns (c : Thread nD τ) scM0_1 fullShare (stepAt m c t s).2.2.1 ∗ owns (c : Thread nD τ) scM0_2 fullShare (stepAt m c t s).2.2.2) ∗ Φ
          ∗ owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) (ms0_4 t) fullShare (iblk m c 4 t) ∗ owns (c : Thread nD τ) (ms0_5 t) fullShare (stepAt m c t s).1)) := by
  unfold stepAt; dsimp only
  iintro ⟨⟨HS0, HS1, HS2⟩, Hg, H0, H1, H2, H3, H4, ⟨%d5, H5⟩⟩
  iapply ((runAt m c t s.1 s.2.1 s.2.2).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, ⟨%e5, H5⟩, ⟨%es0, HS0⟩, ⟨%es1, HS1⟩, ⟨%es2, HS2⟩⟩
  isplitl [HS0 HS1 HS2]
  · isplitl [HS0]
    · unfold owns; iexists _; isplitr
      swap; · iexact HS0
      ipureintro; exact View.read_writes_eq_canon _ _ _ (cover_hist m c t _ _ _)
    isplitl [HS1]
    · unfold owns; iexists _; isplitr
      swap; · iexact HS1
      ipureintro; exact View.read_writes_eq_canon _ _ _ (cover_state m c t _ _ _)
    unfold owns; iexists _; isplitr
    swap; · iexact HS2
    ipureintro; exact View.read_writes_eq_canon _ _ _ (cover_max m c t _ _ _)
  isplitl [Hg]; · iexact Hg
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_eq_canon _ _ _ (cover_out m c t _ _ _)

/-- The body from scratch at anything, at the first point of a batch. -/
theorem body_first (c : Dev nD) (t : Fin cfg0.N) (hc : cond0_0 (grid0.coords t)) (Φ : sProp 𝕄) :
    iprop(iprop((∃ d, owns (c : Thread nD τ) scM0_0 fullShare d) ∗ (∃ d, owns (c : Thread nD τ) scM0_1 fullShare d) ∗ (∃ d, owns (c : Thread nD τ) scM0_2 fullShare d)) ∗ Φ
      ∗ owns (c : Thread nD τ) (ms0_0 t) fullShare (iblk m c 0 t) ∗ owns (c : Thread nD τ) (ms0_1 t) fullShare (iblk m c 1 t)
      ∗ owns (c : Thread nD τ) (ms0_2 t) fullShare (iblk m c 2 t) ∗ owns (c : Thread nD τ) (ms0_3 t) fullShare (iblk m c 3 t)
      ∗ owns (c : Thread nD τ) (ms0_4 t) fullShare (iblk m c 4 t) ∗ (∃ d, owns (c : Thread nD τ) (ms0_5 t) fullShare d))
    ⊢ wp frame (wpE (defs₀ (F := F)) Variants.none c none) Set.univ (bodyAt0 (F := F) t)
        (fun _ => iprop(iprop(owns (c : Thread nD τ) scM0_0 fullShare (stepAt m c t st0).2.1 ∗ owns (c : Thread nD τ) scM0_1 fullShare (stepAt m c t st0).2.2.1 ∗ owns (c : Thread nD τ) scM0_2 fullShare (stepAt m c t st0).2.2.2) ∗ Φ
          ∗ owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) (ms0_4 t) fullShare (iblk m c 4 t) ∗ owns (c : Thread nD τ) (ms0_5 t) fullShare (stepAt m c t st0).1)) := by
  unfold bodyAt0
  rw [body_reset _ hc, wp_bind]
  iintro ⟨⟨HS0, HS1, HS2⟩, Hg, H⟩
  iapply (reset_run c scM0_0 (Memref.isWhole_whole _) scM0_1 (Memref.isWhole_whole _) scM0_2 (Memref.isWhole_whole _) Set.univ _)
  isplitl [HS0]; · iexact HS0
  isplitl [HS1]; · iexact HS1
  isplitl [HS2]; · iexact HS2
  iintro ⟨HS0, HS1, HS2⟩
  iapply (body_from m c t st0 Φ)
  isplitl [HS0 HS1 HS2]
  · isplitl [HS0]; · iexact HS0
    isplitl [HS1]; · iexact HS1
    iexact HS2
  isplitl [Hg]; · iexact Hg
  iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  by_cases h0 : t.val % 64 = 0
  · rw [outsAt_first m c t h0]
    refine Idealize.SL.BI.BIBase.Entails.trans ?_ ((body_first m c t ((hcond0_0 t).mpr h0) iprop((∃ r, prngReg c r) ∗ (dats m 0 c).owesAt () t.castSucc)).trans (Idealize.SL.Sem.wp_mono _ _ _ fun _ => ?_))
    · by_cases hz : t.val = 0
      · rw [PhiS_castSucc m c t, PhiS_zero m c _ _ hz, PhiA0_eq]
        iintro ⟨⟨HS, Hg⟩, Ho, ⟨%d0, H0⟩, ⟨%d1, H1⟩, ⟨%d2, H2⟩, ⟨%d3, H3⟩, ⟨%d4, H4⟩, ⟨%d5, H5⟩⟩
        isplitl [HS]; · iexact HS
        isplitl [Hg Ho]
        · isplitl [Hg]; · iexact Hg
          iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        isplitl [HS0 HS1 HS2]
        · isplitl [HS0]; · iexists _; iexact HS0
          isplitl [HS1]; · iexists _; iexact HS1
          iexists _; iexact HS2
        isplitl [Hg Ho]
        · isplitl [Hg]; · iexact Hg
          iexact Ho
        isplitl [H0]; · iexact H0
        isplitl [H1]; · iexact H1
        isplitl [H2]; · iexact H2
        isplitl [H3]; · iexact H3
        isplitl [H4]; · iexact H4
        iexists _; iexact H5
    · iintro ⟨HS, ⟨Hg, Ho⟩, H⟩
      isplitl [HS Hg]
      · isplitl [HS]; · iexact HS
        iexact Hg
      isplitl [Ho]; · iexact Ho
      iexact H
  · have hz : t.val ≠ 0 := fun h => h0 (by rw [h])
    rw [outsAt_later m c t h0, PhiS_castSucc m c t, PhiS_pos m c _ _ hz]
    unfold bodyAt0
    rw [body_later _ (fun h => h0 ((hcond0_0 t).mp h))]
    refine Idealize.SL.BI.BIBase.Entails.trans ?_ ((body_from m c t (outsAt m c (t.val - 1) (Nat.lt_of_le_of_lt (Nat.sub_le _ _) t.isLt)).2 iprop((∃ r, prngReg c r) ∗ (dats m 0 c).owesAt () t.castSucc)).trans (Idealize.SL.Sem.wp_mono _ _ _ fun _ => ?_))
    · iintro ⟨⟨HS, Hg⟩, Ho, ⟨%d0, H0⟩, ⟨%d1, H1⟩, ⟨%d2, H2⟩, ⟨%d3, H3⟩, ⟨%d4, H4⟩, ⟨%d5, H5⟩⟩
      isplitl [HS]; · iexact HS
      isplitl [Hg Ho]
      · isplitl [Hg]; · iexact Hg
        iexact Ho
      isplitl [H0]; · iexact H0
      isplitl [H1]; · iexact H1
      isplitl [H2]; · iexact H2
      isplitl [H3]; · iexact H3
      isplitl [H4]; · iexact H4
      iexists _; iexact H5
    · iintro ⟨HS, ⟨Hg, Ho⟩, H⟩
      isplitl [HS Hg]
      · isplitl [HS]; · iexact HS
        iexact Hg
      isplitl [Ho]; · iexact Ho
      iexact H

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Ml

end
-- ==== Proof.Ml.Ref.lean ====
/- The reference of the mLSTM mixer: no operation of its program writes an argument, so its arguments end unchanged. -/
module

public import proofs.«01_k».proof.Proof.Gen.ReferenceIdeal.Run
public import proofs.«01_k».proof.Defs

@[expose] public section

noncomputable section

namespace Cert.ReferenceIdeal.Ml

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The argument buffers. -/
abbrev argRefs : List (Ref sig .tc) := [main_arg0, main_arg1, main_arg2, main_arg3, main_arg4]

/-- A stretch of operations that writes no argument. -/
abbrev Keeps (ops : List (HloOp τ sig (Elt F))) : Prop :=
  ops.Forall fun op => ∀ b ∈ argRefs, Proc.devRef (τ := τ) .tc b ∉ op.writes

/-- An operation that writes one buffer, not an argument. -/
theorem keeps_one {w : Ref sig .tc} (h : w ∉ argRefs) : ∀ b ∈ argRefs, Proc.devRef (τ := τ) .tc b ∉ ({Proc.devRef .tc w} : Finset (DevRef τ sig)) :=
  fun b hb hm => h (Proc.devRef_injective _ (Finset.mem_singleton.mp hm) ▸ hb)

theorem keeps_condOps : Keeps (condOps (F := F)) := by
  simp only [Keeps, List.forall_cons, List.Forall]
  repeat' apply And.intro
  all_goals exact keeps_one (by decide)

theorem keeps_hostOps0 : Keeps (hostOps0 (F := F)) := by
  simp only [Keeps, List.forall_cons, List.Forall]
  repeat' apply And.intro
  all_goals exact keeps_one (by decide)

theorem keeps_hostOps0_1 : Keeps (hostOps0_1 (F := F)) := by
  simp only [Keeps, List.forall_cons, List.Forall]
  repeat' apply And.intro
  all_goals exact keeps_one (by decide)

theorem keeps_hostOps0_2 : Keeps (hostOps0_2 (F := F)) := by
  simp only [Keeps, List.forall_cons, List.Forall]
  repeat' apply And.intro
  all_goals exact keeps_one (by decide)

theorem keeps_hostOps0_3 : Keeps (hostOps0_3 (F := F)) := by
  simp only [Keeps, List.forall_cons, List.Forall]
  repeat' apply And.intro
  all_goals exact keeps_one (by decide)

theorem keeps_hostOps0_4 : Keeps (hostOps0_4 (F := F)) := by
  simp only [Keeps, List.forall_cons, List.Forall]
  repeat' apply And.intro
  all_goals exact keeps_one (by decide)

theorem keeps_hostOps0_5 : Keeps (hostOps0_5 (F := F)) := by
  simp only [Keeps, List.forall_cons, List.Forall]
  repeat' apply And.intro
  all_goals exact keeps_one (by decide)

theorem keeps_hostOps0_6 : Keeps (hostOps0_6 (F := F)) := by
  simp only [Keeps, List.forall_cons, List.Forall]
  repeat' apply And.intro
  all_goals exact keeps_one (by decide)

theorem keeps_hostOps0_7 : Keeps (hostOps0_7 (F := F)) := by
  simp only [Keeps, List.forall_cons, List.Forall]
  repeat' apply And.intro
  all_goals exact keeps_one (by decide)

theorem keeps_hostOps0_8 : Keeps (hostOps0_8 (F := F)) := by
  simp only [Keeps, List.forall_cons, List.Forall]
  repeat' apply And.intro
  all_goals exact keeps_one (by decide)

theorem keeps_hostOps0_9 : Keeps (hostOps0_9 (F := F)) := by
  simp only [Keeps, List.forall_cons, List.Forall]
  repeat' apply And.intro
  all_goals exact keeps_one (by decide)

theorem keeps_hostOps0_10 : Keeps (hostOps0_10 (F := F)) := by
  simp only [Keeps, List.forall_cons, List.Forall]
  repeat' apply And.intro
  all_goals exact keeps_one (by decide)

theorem keeps_hostOps0_11 : Keeps (hostOps0_11 (F := F)) := by
  simp only [Keeps, List.forall_cons, List.Forall]
  repeat' apply And.intro
  all_goals exact keeps_one (by decide)

theorem keeps_hostOps0_12 : Keeps (hostOps0_12 (F := F)) := by
  simp only [Keeps, List.forall_cons, List.Forall]
  repeat' apply And.intro
  all_goals exact keeps_one (by decide)

theorem keeps_hostOps0_13 : Keeps (hostOps0_13 (F := F)) := by
  simp only [Keeps, List.forall_cons, List.Forall]
  repeat' apply And.intro
  all_goals exact keeps_one (by decide)

theorem keeps_hostOps0_14 : Keeps (hostOps0_14 (F := F)) := by
  simp only [Keeps, List.forall_cons, List.Forall]
  repeat' apply And.intro
  all_goals exact keeps_one (by decide)

theorem keeps_hostOps0_15 : Keeps (hostOps0_15 (F := F)) := by
  simp only [Keeps, List.forall_cons, List.Forall]
  repeat' apply And.intro
  all_goals exact keeps_one (by decide)

theorem keeps_while0Ops0 : Keeps (while0Ops0 (F := F)) := by
  simp only [Keeps, List.forall_cons, List.Forall]
  repeat' apply And.intro
  all_goals exact keeps_one (by decide)

theorem keeps_while0Ops0_1 : Keeps (while0Ops0_1 (F := F)) := by
  simp only [Keeps, List.forall_cons, List.Forall]
  repeat' apply And.intro
  all_goals exact keeps_one (by decide)

theorem keeps_while0Ops0_2 : Keeps (while0Ops0_2 (F := F)) := by
  simp only [Keeps, List.forall_cons, List.Forall]
  repeat' apply And.intro
  all_goals exact keeps_one (by decide)

theorem keeps_while0Ops0_3 : Keeps (while0Ops0_3 (F := F)) := by
  simp only [Keeps, List.forall_cons, List.Forall]
  repeat' apply And.intro
  all_goals exact keeps_one (by decide)

theorem keeps_while0Ops0_4 : Keeps (while0Ops0_4 (F := F)) := by
  simp only [Keeps, List.forall_cons, List.Forall]
  repeat' apply And.intro
  all_goals exact keeps_one (by decide)

theorem keeps_while0Ops0_5 : Keeps (while0Ops0_5 (F := F)) := by
  simp only [Keeps, List.forall_cons, List.Forall]
  repeat' apply And.intro
  all_goals exact keeps_one (by decide)

theorem keeps_while0Ops0_6 : Keeps (while0Ops0_6 (F := F)) := by
  simp only [Keeps, List.forall_cons, List.Forall]
  repeat' apply And.intro
  all_goals exact keeps_one (by decide)

theorem keeps_while0Ops0_7 : Keeps (while0Ops0_7 (F := F)) := by
  simp only [Keeps, List.forall_cons, List.Forall]
  repeat' apply And.intro
  all_goals exact keeps_one (by decide)

theorem keeps_while0Ops0_8 : Keeps (while0Ops0_8 (F := F)) := by
  simp only [Keeps, List.forall_cons, List.Forall]
  repeat' apply And.intro
  all_goals exact keeps_one (by decide)

theorem keeps_while0Ops0_9 : Keeps (while0Ops0_9 (F := F)) := by
  simp only [Keeps, List.forall_cons, List.Forall]
  repeat' apply And.intro
  all_goals exact keeps_one (by decide)

theorem keeps_while0Ops0_10 : Keeps (while0Ops0_10 (F := F)) := by
  simp only [Keeps, List.forall_cons, List.Forall]
  repeat' apply And.intro
  all_goals exact keeps_one (by decide)

/-- Stretches that write no argument leave it. -/
theorem afterL_keeps {b : Ref sig .tc} (hb : b ∈ argRefs) : ∀ (l : List (List (HloOp τ sig (Elt F)))) (V : Valuation τ sig (Elt F)),
    l.Forall Keeps → afterL l V (Proc.devRef .tc b) = V (Proc.devRef .tc b)
  | [], _, _ => rfl
  | ops :: l, V, h => by
    obtain ⟨h1, h2⟩ := List.forall_cons _ _ _ |>.mp h
    rw [afterL_cons, afterL_keeps hb l _ h2]
    exact after_of_forall_not_mem ops V fun op hop => (List.forall_iff_forall_mem.mp h1) op hop b hb

theorem keeps_pre : (preI (F := F)).Forall Keeps := ⟨keeps_hostOps0, keeps_hostOps0_1, keeps_hostOps0_2, keeps_hostOps0_3, keeps_hostOps0_4, keeps_hostOps0_5, keeps_hostOps0_6, keeps_hostOps0_7, keeps_hostOps0_8, keeps_hostOps0_9, keeps_hostOps0_10, keeps_hostOps0_11, keeps_hostOps0_12⟩
theorem keeps_body : (bodyI (F := F)).Forall Keeps := ⟨keeps_while0Ops0, keeps_while0Ops0_1, keeps_while0Ops0_2, keeps_while0Ops0_3, keeps_while0Ops0_4, keeps_while0Ops0_5, keeps_while0Ops0_6, keeps_while0Ops0_7, keeps_while0Ops0_8, keeps_while0Ops0_9, keeps_while0Ops0_10⟩
theorem keeps_post : (postI (F := F)).Forall Keeps := ⟨keeps_hostOps0_13, keeps_hostOps0_14, keeps_hostOps0_15⟩

/-- The loop's condition leaves the arguments. -/
theorem cond_arg {b : Ref sig .tc} (hb : b ∈ argRefs) (V : Valuation τ sig (Elt F)) : after condOps V (Proc.devRef .tc b) = V (Proc.devRef .tc b) :=
  after_of_forall_not_mem condOps V fun op hop => (List.forall_iff_forall_mem.mp keeps_condOps) op hop b hb

/-- Every trip finds the arguments as launched. -/
theorem atTrip_arg {b : Ref sig .tc} (hb : b ∈ argRefs) (m : (ℓ : Loc nD τ sig) → Buf (Elt F) ℓ) (c : Dev nD) :
    ∀ k, atTrip condOps bodyI (entryContents preI m) k c (Proc.devRef .tc b) = m ((c.tc : Thread nD τ).loc b)
  | 0 => afterL_keeps hb preI _ keeps_pre
  | k + 1 => by rw [atTrip_succ, afterL_keeps hb _ _ keeps_body, cond_arg hb, atTrip_arg hb m c k]

/-- The program ends with the arguments as launched. -/
theorem final_arg {b : Ref sig .tc} (hb : b ∈ argRefs) (m : (ℓ : Loc nD τ sig) → Buf (Elt F) ℓ) (c : Dev nD) :
    finalContents condOps preI bodyI postI 64 m c (Proc.devRef .tc b) = m ((c.tc : Thread nD τ).loc b) := by
  unfold finalContents
  rw [afterL_keeps hb _ _ keeps_post, cond_arg hb, atTrip_arg hb]

/-- The arguments end unchanged and the counters at zero. -/
theorem frame : Cert.quiescent_ReferenceIdeal := by
  intro m ρ _
  exact (θ_run Cert.ReferenceIdeal.defs _ _).mono (fun r h => ⟨fun c =>
      ⟨(h c main_arg0 (by decide)).trans (final_arg (by decide) m c), (h c main_arg1 (by decide)).trans (final_arg (by decide) m c),
        (h c main_arg2 (by decide)).trans (final_arg (by decide) m c), (h c main_arg3 (by decide)).trans (final_arg (by decide) m c),
        (h c main_arg4 (by decide)).trans (final_arg (by decide) m c)⟩,
      Idealize.ShloMosaic.sem_eq_zero_of_no_sems (by decide) r.2⟩) (run_fold m ρ)

end Cert.ReferenceIdeal.Ml

end
-- ==== Proof.Ml.Spec.lean ====
/- The stabilised mLSTM recurrence over the extended reals, chunk by chunk: what both programs compute. -/
module

public import Idealize.ShloMosaic.PureOps.Ideal

@[expose] public section

noncomputable section

namespace Cert.MlSpec

open Idealize.ShloMosaic

/-- The times up to `t`. -/
def upTo (t : Fin 64) : Finset (Fin 64) := Finset.univ.filter fun j => j ≤ t

theorem mem_upTo (t j : Fin 64) : j ∈ upTo t ↔ j ≤ t := by simp [upTo]

def silu (x : EReal) : EReal := x * Ideal.logistic x
def abs (x : EReal) : EReal := FloatOps.absf (F := Ideal) (φ := .f32) x
/-- The logarithm of the logistic function. -/
def lsig (y : EReal) : EReal := -(max (-y) 0 + Ideal.log1p (Ideal.exp (-(abs (-y)))))

/-- One head's chunk: queries, (scaled) keys, values, and the two logarithmic gates. -/
structure In where
  q : Fin 64 → Fin 64 → EReal
  k : Fin 64 → Fin 64 → EReal
  v : Fin 64 → Fin 128 → EReal
  i : Fin 64 → EReal
  f : Fin 64 → EReal

/-- One head's state: the matrix, its normaliser, the running maximum. -/
structure State where
  C : Fin 64 → Fin 128 → EReal
  N : Fin 64 → EReal
  m : EReal

/-- The forget gates' prefix sums, -/
def B (x : In) (t : Fin 64) : EReal := ∑ j ∈ upTo t, x.f j
/-- the largest logarithmic weight within the chunk, -/
def mi (x : In) (t : Fin 64) : EReal := (upTo t).sup fun j => B x t - B x j + x.i j
/-- the state's, -/
def ms (x : In) (s : State) (t : Fin 64) : EReal := s.m + B x t
/-- the stabiliser. -/
def mt (x : In) (s : State) (t : Fin 64) : EReal := max (ms x s t) (mi x t)
def inter (x : In) (s : State) (t : Fin 64) : EReal := Ideal.exp (ms x s t - mt x s t)
/-- The weight of time `j` at time `t`. -/
def wt (x : In) (s : State) (t j : Fin 64) : EReal :=
  (if j ≤ t then Ideal.exp (B x t - B x j + x.i j - mt x s t) else 0) * ∑ d, x.q t d * x.k j d
def num (x : In) (s : State) (t : Fin 64) (e : Fin 128) : EReal := inter x s t * ∑ d, x.q t d * s.C d e + ∑ j, wt x s t j * x.v j e
def den (x : In) (s : State) (t : Fin 64) : EReal := inter x s t * ∑ d, x.q t d * s.N d + ∑ j, wt x s t j
def out (x : In) (s : State) (t : Fin 64) (e : Fin 128) : EReal := Ideal.div (num x s t e) (max (abs (den x s t)) (Ideal.exp (-(mt x s t))))

def carry (x : In) (s : State) : EReal := Ideal.exp (s.m + B x 63 - mt x s 63)
def kw (x : In) (s : State) (j d : Fin 64) : EReal := x.k j d * Ideal.exp (B x 63 - B x j + x.i j - mt x s 63)
/-- The state after the chunk. -/
def next (x : In) (s : State) : State where
  C d e := s.C d e * carry x s + ∑ j, kw x s j d * x.v j e
  N d := s.N d * carry x s + ∑ j, kw x s j d
  m := mt x s 63

/-- The state before the first chunk. -/
def start : State := ⟨fun _ _ => 0, fun _ => 0, ⊥⟩

/-! ## The layer's mixer -/

/-- The arguments: the projected input by batch, time and channel; the convolution's taps; the gates' biases; the
    normalisation's weights. -/
structure Args where
  X : Fin 8 → ℕ → Fin 4112 → EReal
  cw : Fin 4 → Fin 1024 → EReal
  ib : Fin 8 → EReal
  fb : Fin 8 → EReal
  gn : Fin 1024 → EReal

variable (a : Args)

/-- Channel `c` of the queries and keys, `d` steps before time `s`. -/
def past (d : ℕ) (b : Fin 8) (s : ℕ) (c : Fin 1024) : EReal := if d ≤ s then a.X b (s - d) ⟨c.val, by omega⟩ else 0
def conv (b : Fin 8) (s : ℕ) (c : Fin 1024) : EReal :=
  a.cw 3 c * past a 0 b s c + a.cw 2 c * past a 1 b s c + a.cw 1 c * past a 2 b s c + a.cw 0 c * past a 3 b s c

/-- Head `h`'s chunk `n` in batch `b`. -/
def chunk (b h : Fin 8) (n : ℕ) : In where
  q t d := silu (conv a b (64 * n + t) ⟨64 * h.val + d, by omega⟩)
  k t d := silu (conv a b (64 * n + t) ⟨512 + 64 * h.val + d, by omega⟩) * Ideal.ofBits .f32 1040187392#32
  v t e := a.X b (64 * n + t) ⟨1024 + 128 * h.val + e, by omega⟩
  i t := a.X b (64 * n + t) ⟨4096 + h.val, by omega⟩ + a.ib h
  f t := lsig (a.X b (64 * n + t) ⟨4104 + h.val, by omega⟩ + a.fb h)

/-- The state before chunk `n`. -/
def stateAt (b h : Fin 8) : ℕ → State
  | 0 => start
  | n + 1 => next (chunk a b h n) (stateAt b h n)

def mean (x : Fin 128 → EReal) : EReal := Ideal.div (∑ e, x e) (Ideal.ofBits .f32 1124073472#32)
/-- Normalised over the lanes, weighted, gated by `z`. -/
def norm (x g z : Fin 128 → EReal) (e : Fin 128) : EReal :=
  (x e - mean x) * Ideal.rsqrt (mean (fun e => (x e - mean x) * (x e - mean x)) + Ideal.ofBits .f32 897988541#32) * g e * silu (z e)

/-- The result: batch `b`, chunk `n`, head `h`, time `t` within the chunk, lane `e`. -/
def result (b : Fin 8) (n : ℕ) (h : Fin 8) (t : Fin 64) (e : Fin 128) : EReal :=
  norm (fun e => Ideal.logistic (a.X b (64 * n + t) ⟨2048 + 128 * h.val + e.val, by omega⟩) * out (chunk a b h n) (stateAt a b h n) t e)
    (fun e => a.gn ⟨128 * h.val + e.val, by omega⟩) (fun e => a.X b (64 * n + t) ⟨3072 + 128 * h.val + e.val, by omega⟩) e

end Cert.MlSpec

end
-- ==== Proof.Ml.Args.lean ====
/- The mixer's arguments, from the arrays a program is given. -/
module

public import proofs.«01_k».proof.Proof.Ml.Spec
public import Idealize.ShloMosaic.Lib.Pointwise.Index

@[expose] public section

noncomputable section

namespace Cert.MlSpec

open Idealize.ShloMosaic

/-- The layer's arguments: batch, time and channel of `A`; the taps; the two biases; the weights. -/
def ofArrays (A : (⟨3, ![8, 4096, 4112]⟩ : Shape).Idx → EReal) (W : (⟨2, ![4, 1024]⟩ : Shape).Idx → EReal)
    (I Fb : (⟨1, ![8]⟩ : Shape).Idx → EReal) (G : (⟨1, ![1024]⟩ : Shape).Idx → EReal) : Args where
  X b s ch := if h : s < 4096 then A (ix3 b ⟨s, h⟩ ch) else 0
  cw j ch := W (ix2 j ch)
  ib h := I (ix1 h)
  fb h := Fb (ix1 h)
  gn ch := G (ix1 ch)

end Cert.MlSpec

end
-- ==== Proof.Ml.RefOps.lean ====
/- The reference's trip: its operations at an index. -/
module

public import proofs.«01_k».proof.Proof.Gen.ReferenceIdeal.Run
public import proofs.«01_k».proof.Proof.Ml.Args
public import Idealize.ShloMosaic.Lib.Pointwise

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem

/-- A counter word read signed. -/
theorem ctr_int (n : ℕ) (hn : n < 64) : (BitVec.ofNat 32 n).toInt = n := by
  interval_cases n <;> rfl

/-- The counter as a scalar array. -/
def ctr (n : ℕ) : IVec S_ 32 := fun _ => BitVec.ofNat 32 n

theorem slice4 (A : FVec Ideal S64x8x8x64 .f32) (n : ℕ) (hn : n < 64) (b h : Fin 8) (t : Fin 64) :
    (shapeCast S8x8x64 (Host.dynamicSlice S1x8x8x64 A (fun k => (((![ctr n, constantI S_ 32 0#32, constantI S_ 32 0#32, constantI S_ 32 0#32] : Fin 4 → IVec S_ 32)) k (Shape.Idx.first h_S_)).toInt) sliceFits_S64x8x8x64_S1x8x8x64) shapeCasts_S1x8x8x64_S8x8x64 : FVec Ideal S8x8x64 .f32) (ix3 b h t)
      = A (ix4 ⟨n, hn⟩ b h t) := by
  have c0 (H : S1x8x8x64.rank = S64x8x8x64.rank) : Host.clampedStart S64x8x8x64 S1x8x8x64 H (fun k => (((![ctr n, constantI S_ 32 0#32, constantI S_ 32 0#32, constantI S_ 32 0#32] : Fin 4 → IVec S_ 32)) k (Shape.Idx.first h_S_)).toInt) 0 = n := Host.clampedStart_of_le _ _ _ n (ctr_int n hn) (by show n + 1 ≤ 64; omega)
  have c1 (H : S1x8x8x64.rank = S64x8x8x64.rank) : Host.clampedStart S64x8x8x64 S1x8x8x64 H (fun k => (((![ctr n, constantI S_ 32 0#32, constantI S_ 32 0#32, constantI S_ 32 0#32] : Fin 4 → IVec S_ 32)) k (Shape.Idx.first h_S_)).toInt) 1 = 0 := Host.clampedStart_of_le _ _ _ 0 rfl (Nat.le_refl _)
  have c2 (H : S1x8x8x64.rank = S64x8x8x64.rank) : Host.clampedStart S64x8x8x64 S1x8x8x64 H (fun k => (((![ctr n, constantI S_ 32 0#32, constantI S_ 32 0#32, constantI S_ 32 0#32] : Fin 4 → IVec S_ 32)) k (Shape.Idx.first h_S_)).toInt) 2 = 0 := Host.clampedStart_of_le _ _ _ 0 rfl (Nat.le_refl _)
  have c3 (H : S1x8x8x64.rank = S64x8x8x64.rank) : Host.clampedStart S64x8x8x64 S1x8x8x64 H (fun k => (((![ctr n, constantI S_ 32 0#32, constantI S_ 32 0#32, constantI S_ 32 0#32] : Fin 4 → IVec S_ 32)) k (Shape.Idx.first h_S_)).toInt) 3 = 0 := Host.clampedStart_of_le _ _ _ 0 rfl (Nat.le_refl _)
  pointwise
  simp only [c0, c1, c2, c3, Nat.zero_add]

theorem slice5 (A : FVec Ideal S64x8x8x64x64 .f32) (n : ℕ) (hn : n < 64) (b h : Fin 8) (t j : Fin 64) :
    (shapeCast S8x8x64x64 (Host.dynamicSlice S1x8x8x64x64 A (fun k => (((![ctr n, constantI S_ 32 0#32, constantI S_ 32 0#32, constantI S_ 32 0#32, constantI S_ 32 0#32] : Fin 5 → IVec S_ 32)) k (Shape.Idx.first h_S_)).toInt) sliceFits_S64x8x8x64x64_S1x8x8x64x64) shapeCasts_S1x8x8x64x64_S8x8x64x64 : FVec Ideal S8x8x64x64 .f32) (ix4 b h t j)
      = A (ix5 ⟨n, hn⟩ b h t j) := by
  have c0 (H : S1x8x8x64x64.rank = S64x8x8x64x64.rank) : Host.clampedStart S64x8x8x64x64 S1x8x8x64x64 H (fun k => (((![ctr n, constantI S_ 32 0#32, constantI S_ 32 0#32, constantI S_ 32 0#32, constantI S_ 32 0#32] : Fin 5 → IVec S_ 32)) k (Shape.Idx.first h_S_)).toInt) 0 = n := Host.clampedStart_of_le _ _ _ n (ctr_int n hn) (by show n + 1 ≤ 64; omega)
  have c1 (H : S1x8x8x64x64.rank = S64x8x8x64x64.rank) : Host.clampedStart S64x8x8x64x64 S1x8x8x64x64 H (fun k => (((![ctr n, constantI S_ 32 0#32, constantI S_ 32 0#32, constantI S_ 32 0#32, constantI S_ 32 0#32] : Fin 5 → IVec S_ 32)) k (Shape.Idx.first h_S_)).toInt) 1 = 0 := Host.clampedStart_of_le _ _ _ 0 rfl (Nat.le_refl _)
  have c2 (H : S1x8x8x64x64.rank = S64x8x8x64x64.rank) : Host.clampedStart S64x8x8x64x64 S1x8x8x64x64 H (fun k => (((![ctr n, constantI S_ 32 0#32, constantI S_ 32 0#32, constantI S_ 32 0#32, constantI S_ 32 0#32] : Fin 5 → IVec S_ 32)) k (Shape.Idx.first h_S_)).toInt) 2 = 0 := Host.clampedStart_of_le _ _ _ 0 rfl (Nat.le_refl _)
  have c3 (H : S1x8x8x64x64.rank = S64x8x8x64x64.rank) : Host.clampedStart S64x8x8x64x64 S1x8x8x64x64 H (fun k => (((![ctr n, constantI S_ 32 0#32, constantI S_ 32 0#32, constantI S_ 32 0#32, constantI S_ 32 0#32] : Fin 5 → IVec S_ 32)) k (Shape.Idx.first h_S_)).toInt) 3 = 0 := Host.clampedStart_of_le _ _ _ 0 rfl (Nat.le_refl _)
  have c4 (H : S1x8x8x64x64.rank = S64x8x8x64x64.rank) : Host.clampedStart S64x8x8x64x64 S1x8x8x64x64 H (fun k => (((![ctr n, constantI S_ 32 0#32, constantI S_ 32 0#32, constantI S_ 32 0#32, constantI S_ 32 0#32] : Fin 5 → IVec S_ 32)) k (Shape.Idx.first h_S_)).toInt) 4 = 0 := Host.clampedStart_of_le _ _ _ 0 rfl (Nat.le_refl _)
  pointwise
  simp only [c0, c1, c2, c3, c4, Nat.zero_add]

theorem slice5v (A : FVec Ideal S64x8x8x64x128 .f32) (n : ℕ) (hn : n < 64) (b h : Fin 8) (t : Fin 64) (e : Fin 128) :
    (shapeCast S8x8x64x128 (Host.dynamicSlice S1x8x8x64x128 A (fun k => (((![ctr n, constantI S_ 32 0#32, constantI S_ 32 0#32, constantI S_ 32 0#32, constantI S_ 32 0#32] : Fin 5 → IVec S_ 32)) k (Shape.Idx.first h_S_)).toInt) sliceFits_S64x8x8x64x128_S1x8x8x64x128) shapeCasts_S1x8x8x64x128_S8x8x64x128 : FVec Ideal S8x8x64x128 .f32) (ix4 b h t e)
      = A (ix5 ⟨n, hn⟩ b h t e) := by
  have c0 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 0 = n := Host.clampedStart_of_le _ _ _ n (ctr_int n hn) (by show n + 1 ≤ 64; omega)
  have c1 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 1 = 0 := Host.clampedStart_of_le _ _ _ 0 rfl (Nat.le_refl _)
  have c2 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 2 = 0 := Host.clampedStart_of_le _ _ _ 0 rfl (Nat.le_refl _)
  have c3 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 3 = 0 := Host.clampedStart_of_le _ _ _ 0 rfl (Nat.le_refl _)
  have c4 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 4 = 0 := Host.clampedStart_of_le _ _ _ 0 rfl (Nat.le_refl _)
  pointwise
  simp only [c0, c1, c2, c3, c4, Nat.zero_add]

theorem upd5 (A : FVec Ideal S64x8x8x64x128 .f32) (U : FVec Ideal S8x8x64x128 .f32) (n : ℕ) (hn : n < 64) (k : Fin 64) (b h : Fin 8) (t : Fin 64) (e : Fin 128) :
    (Host.dynamicUpdateSlice A (broadcastInDim S1x8x8x64x128 ![1, 2, 3, 4] bcast_S8x8x64x128_S1x8x8x64x128_1_2_3_4 U) (fun k => (((![ctr n, constantI S_ 32 0#32, constantI S_ 32 0#32, constantI S_ 32 0#32, constantI S_ 32 0#32] : Fin 5 → IVec S_ 32)) k (Shape.Idx.first h_S_)).toInt) updateFits_S64x8x8x64x128_S1x8x8x64x128 : FVec Ideal S64x8x8x64x128 .f32) (ix5 k b h t e)
      = if k.val = n then U (ix4 b h t e) else A (ix5 k b h t e) := by
  have c0 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 0 = n := Host.clampedStart_of_le _ _ _ n (ctr_int n hn) (by show n + 1 ≤ 64; omega)
  have c1 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 1 = 0 := Host.clampedStart_of_le _ _ _ 0 rfl (Nat.le_refl _)
  have c2 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 2 = 0 := Host.clampedStart_of_le _ _ _ 0 rfl (Nat.le_refl _)
  have c3 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 3 = 0 := Host.clampedStart_of_le _ _ _ 0 rfl (Nat.le_refl _)
  have c4 (H : S1x8x8x64x128.rank = S64x8x8x64x128.rank) : Host.clampedStart S64x8x8x64x128 S1x8x8x64x128 H (fun k => (((![ctr n, constantI S_ 32 0#32, constantI S_ 32 0#32, constantI S_ 32 0#32, constantI S_ 32 0#32] : Fin 5 → IVec S_ 32)) k (Shape.Idx.first h_S_)).toInt) 4 = 0 := Host.clampedStart_of_le _ _ _ 0 rfl (Nat.le_refl _)
  pointwise
  simp only [c0, c1, c2, c3, c4, Nat.zero_le, and_true, Nat.sub_zero]
  by_cases hk : k.val = n
  · rw [dif_pos (by omega), if_pos hk]
  · rw [dif_neg (by omega), if_neg hk]

theorem col4 (x : FVec Ideal S8x8x64 .f32) (b h : Fin 8) (t j : Fin 64) :
    (broadcastInDim S8x8x64x64 ![0, 1, 2, 3] bcast_S8x8x64x1_S8x8x64x64_0_1_2_3 (broadcastInDim S8x8x64x1 ![0, 1, 2] bcast_S8x8x64_S8x8x64x1_0_1_2 x) : FVec Ideal S8x8x64x64 .f32) (ix4 b h t j) = x (ix3 b h t) := by
  pointwise
theorem col4v (x : FVec Ideal S8x8x64 .f32) (b h : Fin 8) (t : Fin 64) (j : Fin 128) :
    (broadcastInDim S8x8x64x128 ![0, 1, 2, 3] bcast_S8x8x64x1_S8x8x64x128_0_1_2_3 (broadcastInDim S8x8x64x1 ![0, 1, 2] bcast_S8x8x64_S8x8x64x1_0_1_2 x) : FVec Ideal S8x8x64x128 .f32) (ix4 b h t j) = x (ix3 b h t) := by
  pointwise
theorem col2 (x : FVec Ideal S8x8 .f32) (b h : Fin 8) (t : Fin 64) :
    (broadcastInDim S8x8x64 ![0, 1, 2] bcast_S8x8x1_S8x8x64_0_1_2 (broadcastInDim S8x8x1 ![0, 1] bcast_S8x8_S8x8x1_0_1 x) : FVec Ideal S8x8x64 .f32) (ix3 b h t) = x (ix2 b h) := by
  pointwise
theorem col2v (x : FVec Ideal S8x8 .f32) (b h : Fin 8) (t : Fin 64) (e : Fin 128) :
    (broadcastInDim S8x8x64x128 ![0, 1, 2, 3] bcast_S8x8x1x1_S8x8x64x128_0_1_2_3 (broadcastInDim S8x8x1x1 ![0, 1] bcast_S8x8_S8x8x1x1_0_1 x) : FVec Ideal S8x8x64x128 .f32) (ix4 b h t e) = x (ix2 b h) := by
  pointwise
theorem last3 (x : FVec Ideal S8x8x64 .f32) (b h : Fin 8) :
    (shapeCast S8x8 (extractStridedSlice S8x8x1 ![0, 0, 63] x slices_S8x8x64_S8x8x1_0_0_63) shapeCasts_S8x8x1_S8x8 : FVec Ideal S8x8 .f32) (ix2 b h) = x (ix3 b h 63) := by
  pointwise
theorem dotT (x : FVec Ideal S8x8x64x64 .f32) (y : FVec Ideal S8x8x64x128 .f32) (b h : Fin 8) (d : Fin 64) (e : Fin 128) :
    (Host.dotGeneral dot_S8x8x64x64_S8x8x64x128_S8x8x64x128_2_2_3_3_01_01 none x y : FVec Ideal S8x8x64x128 .f32) (ix4 b h d e) = ∑ j : Fin 64, x (ix4 b h j d) * y (ix4 b h j e) := by
  pointwise
theorem dotN (x : FVec Ideal S8x8x64x64 .f32) (y : FVec Ideal S8x8x64x128 .f32) (b h : Fin 8) (d : Fin 64) (e : Fin 128) :
    (Host.dotGeneral dot_S8x8x64x64_S8x8x64x128_S8x8x64x128_3_2_2_3_01_01 none x y : FVec Ideal S8x8x64x128 .f32) (ix4 b h d e) = ∑ j : Fin 64, x (ix4 b h d j) * y (ix4 b h j e) := by
  pointwise
theorem dotV (x : FVec Ideal S8x8x64x64 .f32) (y : FVec Ideal S8x8x64 .f32) (b h : Fin 8) (d : Fin 64) :
    (Host.dotGeneral dot_S8x8x64x64_S8x8x64_S8x8x64_3_2_2_n_01_01 none x y : FVec Ideal S8x8x64 .f32) (ix3 b h d) = ∑ j : Fin 64, x (ix4 b h d j) * y (ix3 b h j) := by
  pointwise
theorem sum2 (x : FVec Ideal S8x8x64x64 .f32) (b h : Fin 8) (d : Fin 64) :
    (Host.reduceAdd x (constant S_ .f32 0x00000000#32) reducesTo_S8x8x64x64_S8x8x64_d2 h_S_ : FVec Ideal S8x8x64 .f32) (ix3 b h d) = ∑ j : Fin 64, x (ix4 b h j d) := by
  pointwise
theorem sum3 (x : FVec Ideal S8x8x64x64 .f32) (b h : Fin 8) (d : Fin 64) :
    (Host.reduceAdd x (constant S_ .f32 0x00000000#32) reducesTo_S8x8x64x64_S8x8x64_d3 h_S_ : FVec Ideal S8x8x64 .f32) (ix3 b h d) = ∑ j : Fin 64, x (ix4 b h d j) := by
  pointwise

end Cert.ReferenceIdeal.Ml

end
-- ==== Proof.Ml.RefCum.lean ====
/- A host prefix sum over the last axis, over the extended reals. -/
module

public import proofs.«01_k».proof.Proof.Ml.RefOps

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem

/-- A left fold of additions is the sum. -/
theorem foldl_sum {α : Type} (g : α → EReal) : ∀ (l : List α) (v : EReal), l.foldl (fun r n => r + g n) v = v + (l.map g).sum
  | [], v => (add_zero v).symm
  | a :: l, v => by rw [List.foldl_cons, foldl_sum g l, List.map_cons, List.sum_cons, add_assoc]

/-- The window: 64 times. -/
abbrev winS : Shape := ⟨4, ![1, 1, 1, 64]⟩

theorem win_symm (n : Fin 64) (H : 64 = winS.numel) : winS.rowMajor.symm (n.cast H) = ix4 (0 : Fin 1) (0 : Fin 1) (0 : Fin 1) n :=
  (winS.rowMajor.symm_apply_eq).2 (Fin.ext (by
    rw [Shape.rowMajor_val_four]
    show n.val = _
    simp))

/-- A window's sum, moved to the times it reads. -/
theorem win_sum (x : Fin 64 → EReal) (t : Fin 64) : (∑ n : Fin 64, if 63 ≤ t.val + n.val then x ⟨t.val + n.val - 63, by omega⟩ else 0) = ∑ j ∈ MlSpec.upTo t, x j := by
  rw [← Finset.sum_filter]
  refine Finset.sum_nbij' (fun n => ⟨t.val + n.val - 63, by omega⟩) (fun j => ⟨min 63 (j.val + 63 - t.val), by omega⟩) ?_ ?_ ?_ ?_ ?_
  · intro n hn
    have h := (Finset.mem_filter.1 hn).2
    exact (MlSpec.mem_upTo _ _).2 (Fin.le_def.2 (by dsimp only; omega))
  · intro j hj
    have h := Fin.le_def.1 ((MlSpec.mem_upTo _ _).1 hj)
    exact Finset.mem_filter.2 ⟨Finset.mem_univ _, by dsimp only; omega⟩
  · intro n hn
    have h := (Finset.mem_filter.1 hn).2
    exact Fin.ext (by dsimp only; omega)
  · intro j hj
    have h := Fin.le_def.1 ((MlSpec.mem_upTo _ _).1 hj)
    exact Fin.ext (by dsimp only; omega)
  · intro n hn
    rfl

theorem cumsum (x : FVec Ideal S8x8x64x64 .f32) (v : FVec Ideal S_ .f32) (hv : ∀ i, v i = (0 : EReal)) (b h : Fin 8) (k t : Fin 64) :
    (Host.reduceWindowAdd ![1, 1, 1, 64] ![1, 1, 1, 1] ![0, 0, 0, 63] ![0, 0, 0, 0] x v reduceWindows_S8x8x64x64_S8x8x64x64_w1s1p0_0_w1s1p0_0_w1s1p0_0_w64s1p63_0 h_S_ : FVec Ideal S8x8x64x64 .f32) (ix4 b h k t)
      = ∑ j ∈ MlSpec.upTo t, x (ix4 b h k j) := by
  unfold Host.reduceWindowAdd
  rw [Ideal.hostReduceWindowAdd_def, hv]
  unfold Ideal.hostReduceWindowAdd Host.reduceWindow
  dsimp only
  rw [foldl_sum, zero_add, ← Fin.sum_univ_def]
  have H : 64 = winS.numel := by decide
  rw [← win_sum]
  refine (Equiv.sum_comp (finCongr H) _).symm.trans (Finset.sum_congr rfl fun n _ => ?_)
  have e := win_symm n H
  have w0 : (winS.rowMajor.symm (n.cast H) 0).val = 0 := by rw [e]; rfl
  have w1 : (winS.rowMajor.symm (n.cast H) 1).val = 0 := by rw [e]; rfl
  have w2 : (winS.rowMajor.symm (n.cast H) 2).val = 0 := by rw [e]; rfl
  have w3 : (winS.rowMajor.symm (n.cast H) 3).val = n.val := by rw [e]; rfl
  by_cases hn : 63 ≤ t.val + n.val
  · rw [if_pos hn]
    refine (dif_pos ?_).trans ?_
    · intro a
      match a with
      | ⟨0, _⟩ => show 0 ≤ b.val * 1 + (winS.rowMajor.symm (n.cast H) 0).val ∧ b.val * 1 + (winS.rowMajor.symm (n.cast H) 0).val - 0 < 8; omega
      | ⟨1, _⟩ => show 0 ≤ h.val * 1 + (winS.rowMajor.symm (n.cast H) 1).val ∧ h.val * 1 + (winS.rowMajor.symm (n.cast H) 1).val - 0 < 8; omega
      | ⟨2, _⟩ => show 0 ≤ k.val * 1 + (winS.rowMajor.symm (n.cast H) 2).val ∧ k.val * 1 + (winS.rowMajor.symm (n.cast H) 2).val - 0 < 64; omega
      | ⟨3, _⟩ => show 63 ≤ t.val * 1 + (winS.rowMajor.symm (n.cast H) 3).val ∧ t.val * 1 + (winS.rowMajor.symm (n.cast H) 3).val - 63 < 64; omega
    · refine congrArg x (funext fun a => Fin.ext ?_)
      match a with
      | ⟨0, _⟩ => show b.val * 1 + (winS.rowMajor.symm (n.cast H) 0).val - 0 = b.val; omega
      | ⟨1, _⟩ => show h.val * 1 + (winS.rowMajor.symm (n.cast H) 1).val - 0 = h.val; omega
      | ⟨2, _⟩ => show k.val * 1 + (winS.rowMajor.symm (n.cast H) 2).val - 0 = k.val; omega
      | ⟨3, _⟩ => show t.val * 1 + (winS.rowMajor.symm (n.cast H) 3).val - 63 = t.val + n.val - 63; omega
  · rw [if_neg hn]
    refine dif_neg fun hin => hn ?_
    have h3 := (hin ⟨3, by decide⟩).1
    change 63 ≤ t.val * 1 + (winS.rowMajor.symm (n.cast H) 3).val at h3
    omega

end Cert.ReferenceIdeal.Ml

end
-- ==== Proof.Ml.RefPre.lean ====
/- The operations of the reference before its loop, grouped, and each group at an index. -/
module

public import proofs.«01_k».proof.Proof.Ml.RefCum

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem

def op_v0 (x_arg0 : FVec Ideal S8x4096x4112 .f32) : FVec Ideal S8x4096x1024 .f32 :=
  extractStridedSlice S8x4096x1024 ![0, 0, 0] x_arg0 slices_S8x4096x4112_S8x4096x1024_0_0_0

def op_v1 (x_arg0 : FVec Ideal S8x4096x4112 .f32) : FVec Ideal S8x4096x1024 .f32 :=
  extractStridedSlice S8x4096x1024 ![0, 0, 1024] x_arg0 slices_S8x4096x4112_S8x4096x1024_0_0_1024

def op_v2 (x_arg0 : FVec Ideal S8x4096x4112 .f32) : FVec Ideal S8x4096x1024 .f32 :=
  extractStridedSlice S8x4096x1024 ![0, 0, 2048] x_arg0 slices_S8x4096x4112_S8x4096x1024_0_0_2048

def op_v3 (x_arg0 : FVec Ideal S8x4096x4112 .f32) : FVec Ideal S8x4096x1024 .f32 :=
  extractStridedSlice S8x4096x1024 ![0, 0, 3072] x_arg0 slices_S8x4096x4112_S8x4096x1024_0_0_3072

def op_v4 (x_arg0 : FVec Ideal S8x4096x4112 .f32) : FVec Ideal S8x4096x8 .f32 :=
  extractStridedSlice S8x4096x8 ![0, 0, 4096] x_arg0 slices_S8x4096x4112_S8x4096x8_0_0_4096

def op_v5 (x_arg0 : FVec Ideal S8x4096x4112 .f32) : FVec Ideal S8x4096x8 .f32 :=
  extractStridedSlice S8x4096x8 ![0, 0, 4104] x_arg0 slices_S8x4096x4112_S8x4096x8_0_0_4104

def op_v6 (x_v0 : FVec Ideal S8x4096x1024 .f32) : FVec Ideal S8x4099x1024 .f32 :=
  pad S8x4099x1024 ![0, 3, 0] ![0, 0, 0] ![0, 0, 0] x_v0 ((sitofp .f32) (constantI S_ 32 0#32)) pads_S8x4096x1024_S8x4099x1024_000_300_000 h_S_

def op_v35 (x_arg1 : FVec Ideal S4x1024 .f32) (x_v6 : FVec Ideal S8x4099x1024 .f32) : FVec Ideal S8x4096x1024 .f32 :=
  addf (addf (addf (addf (broadcastInDim S8x4096x1024 ![] bcast_S_S8x4096x1024 (constant S_ .f32 0x00000000#32)) (mulf (broadcastInDim S8x4096x1024 ![0, 1, 2] bcast_S1x1x1024_S8x4096x1024_0_1_2 (broadcastInDim S1x1x1024 ![2] bcast_S1024_S1x1x1024_2 (shapeCast S1024 (extractStridedSlice S1x1024 ![0, 0] x_arg1 slices_S4x1024_S1x1024_0_0) shapeCasts_S1x1024_S1024))) (extractStridedSlice S8x4096x1024 ![0, 0, 0] x_v6 slices_S8x4099x1024_S8x4096x1024_0_0_0))) (mulf (broadcastInDim S8x4096x1024 ![0, 1, 2] bcast_S1x1x1024_S8x4096x1024_0_1_2 (broadcastInDim S1x1x1024 ![2] bcast_S1024_S1x1x1024_2 (shapeCast S1024 (extractStridedSlice S1x1024 ![1, 0] x_arg1 slices_S4x1024_S1x1024_1_0) shapeCasts_S1x1024_S1024))) (extractStridedSlice S8x4096x1024 ![0, 1, 0] x_v6 slices_S8x4099x1024_S8x4096x1024_0_1_0))) (mulf (broadcastInDim S8x4096x1024 ![0, 1, 2] bcast_S1x1x1024_S8x4096x1024_0_1_2 (broadcastInDim S1x1x1024 ![2] bcast_S1024_S1x1x1024_2 (shapeCast S1024 (extractStridedSlice S1x1024 ![2, 0] x_arg1 slices_S4x1024_S1x1024_2_0) shapeCasts_S1x1024_S1024))) (extractStridedSlice S8x4096x1024 ![0, 2, 0] x_v6 slices_S8x4099x1024_S8x4096x1024_0_2_0))) (mulf (broadcastInDim S8x4096x1024 ![0, 1, 2] bcast_S1x1x1024_S8x4096x1024_0_1_2 (broadcastInDim S1x1x1024 ![2] bcast_S1024_S1x1x1024_2 (shapeCast S1024 (extractStridedSlice S1x1024 ![3, 0] x_arg1 slices_S4x1024_S1x1024_3_0) shapeCasts_S1x1024_S1024))) (extractStridedSlice S8x4096x1024 ![0, 3, 0] x_v6 slices_S8x4099x1024_S8x4096x1024_0_3_0))

def op_v36 (x_v35 : FVec Ideal S8x4096x1024 .f32) : FVec Ideal S8x4096x1024 .f32 :=
  mulf x_v35 (Host.divf ((broadcastInDim S8x4096x1024 ![] bcast_S_S8x4096x1024) (constant S_ .f32 0x3F800000#32)) (addf ((broadcastInDim S8x4096x1024 ![] bcast_S_S8x4096x1024) (constant S_ .f32 0x3F800000#32)) (Host.exp (Host.negf x_v35))))

def op_v40 (x_v36 : FVec Ideal S8x4096x1024 .f32) : FVec Ideal S8x8x4096x64 .f32 :=
  transpose S8x8x4096x64 [0, 2, 1, 3] (shapeCast S8x4096x8x64 (extractStridedSlice S8x4096x512 ![0, 0, 0] x_v36 slices_S8x4096x1024_S8x4096x512_0_0_0) shapeCasts_S8x4096x512_S8x4096x8x64) transposes_S8x4096x8x64_S8x8x4096x64_0_2_1_3

def op_v42 (x_v36 : FVec Ideal S8x4096x1024 .f32) : FVec Ideal S8x8x4096x64 .f32 :=
  transpose S8x8x4096x64 [0, 2, 1, 3] (shapeCast S8x4096x8x64 (extractStridedSlice S8x4096x512 ![0, 0, 512] x_v36 slices_S8x4096x1024_S8x4096x512_0_0_512) shapeCasts_S8x4096x512_S8x4096x8x64) transposes_S8x4096x8x64_S8x8x4096x64_0_2_1_3

def op_v44 (x_v1 : FVec Ideal S8x4096x1024 .f32) : FVec Ideal S8x8x4096x128 .f32 :=
  transpose S8x8x4096x128 [0, 2, 1, 3] (shapeCast S8x4096x8x128 x_v1 shapeCasts_S8x4096x1024_S8x4096x8x128) transposes_S8x4096x8x128_S8x8x4096x128_0_2_1_3

def op_v48 (x_arg2 : FVec Ideal S8 .f32) (x_v4 : FVec Ideal S8x4096x8 .f32) : FVec Ideal S8x8x4096 .f32 :=
  transpose S8x8x4096 [0, 2, 1] (addf x_v4 (broadcastInDim S8x4096x8 ![0, 1, 2] bcast_S1x1x8_S8x4096x8_0_1_2 (broadcastInDim S1x1x8 ![2] bcast_S8_S1x1x8_2 x_arg2))) transposes_S8x4096x8_S8x8x4096_0_2_1

def op_v51 (x_arg3 : FVec Ideal S8 .f32) (x_v5 : FVec Ideal S8x4096x8 .f32) : FVec Ideal S8x4096x8 .f32 :=
  addf x_v5 (broadcastInDim S8x4096x8 ![0, 1, 2] bcast_S1x1x8_S8x4096x8_0_1_2 (broadcastInDim S1x1x8 ![2] bcast_S8_S1x1x8_2 x_arg3))

def op_v52 (x_v51 : FVec Ideal S8x4096x8 .f32) : FVec Ideal S8x4096x8 .f32 :=
  Host.negf (select ((cmpf .une) (subf (Host.negf x_v51) ((broadcastInDim S8x4096x8 ![] bcast_S_S8x4096x8) (constant S_ .f32 0x00000000#32))) (subf (Host.negf x_v51) ((broadcastInDim S8x4096x8 ![] bcast_S_S8x4096x8) (constant S_ .f32 0x00000000#32)))) (addf (Host.negf x_v51) ((broadcastInDim S8x4096x8 ![] bcast_S_S8x4096x8) (constant S_ .f32 0x00000000#32))) (addf (maximumf (Host.negf x_v51) ((broadcastInDim S8x4096x8 ![] bcast_S_S8x4096x8) (constant S_ .f32 0x00000000#32))) (Host.log1p (Host.exp (Host.negf (Host.absf (subf (Host.negf x_v51) ((broadcastInDim S8x4096x8 ![] bcast_S_S8x4096x8) (constant S_ .f32 0x00000000#32)))))))))

def op_v53 (x_v52 : FVec Ideal S8x4096x8 .f32) : FVec Ideal S8x8x4096 .f32 :=
  transpose S8x8x4096 [0, 2, 1] x_v52 transposes_S8x4096x8_S8x8x4096_0_2_1

def op_v55 (x_v42 : FVec Ideal S8x8x4096x64 .f32) : FVec Ideal S8x8x4096x64 .f32 :=
  mulf x_v42 (broadcastInDim S8x8x4096x64 ![] bcast_S_S8x8x4096x64 (constant S_ .f32 0x3E000000#32))

def op_v56 (x_v40 : FVec Ideal S8x8x4096x64 .f32) : FVec Ideal S8x8x64x64x64 .f32 :=
  shapeCast S8x8x64x64x64 x_v40 shapeCasts_S8x8x4096x64_S8x8x64x64x64

def op_v57 (x_v55 : FVec Ideal S8x8x4096x64 .f32) : FVec Ideal S8x8x64x64x64 .f32 :=
  shapeCast S8x8x64x64x64 x_v55 shapeCasts_S8x8x4096x64_S8x8x64x64x64

def op_v58 (x_v44 : FVec Ideal S8x8x4096x128 .f32) : FVec Ideal S8x8x64x64x128 .f32 :=
  shapeCast S8x8x64x64x128 x_v44 shapeCasts_S8x8x4096x128_S8x8x64x64x128

def op_v59 (x_v48 : FVec Ideal S8x8x4096 .f32) : FVec Ideal S8x8x64x64 .f32 :=
  shapeCast S8x8x64x64 x_v48 shapeCasts_S8x8x4096_S8x8x64x64

def op_v60 (x_v53 : FVec Ideal S8x8x4096 .f32) : FVec Ideal S8x8x64x64 .f32 :=
  shapeCast S8x8x64x64 x_v53 shapeCasts_S8x8x4096_S8x8x64x64

def op_v61 (x_v60 : FVec Ideal S8x8x64x64 .f32) : FVec Ideal S8x8x64x64 .f32 :=
  Host.reduceWindowAdd ![1, 1, 1, 64] ![1, 1, 1, 1] ![0, 0, 0, 63] ![0, 0, 0, 0] x_v60 ((broadcastInDim S_ ![] bcast_S_S_) (constant S_ .f32 0x00000000#32)) reduceWindows_S8x8x64x64_S8x8x64x64_w1s1p0_0_w1s1p0_0_w1s1p0_0_w64s1p63_0 h_S_

def op_v63  : IVec S64x64 1 :=
  select ((cmpi .sge) (addi (iotaInDim S64x64 32 0) ((broadcastInDim S64x64 ![] bcast_S_S64x64) (constantI S_ 32 0#32))) (iotaInDim S64x64 32 1)) (broadcastInDim S64x64 ![] bcast_S_S64x64 (constantI S_ 1 1#1)) ((broadcastInDim S64x64 ![] bcast_S_S64x64) (constantI S_ 1 0#1))

def op_v71 (x_v59 : FVec Ideal S8x8x64x64 .f32) (x_v61 : FVec Ideal S8x8x64x64 .f32) : FVec Ideal S8x8x64x64x64 .f32 :=
  addf (subf (broadcastInDim S8x8x64x64x64 ![0, 1, 2, 3, 4] bcast_S8x8x64x64x1_S8x8x64x64x64_0_1_2_3_4 (broadcastInDim S8x8x64x64x1 ![0, 1, 2, 3] bcast_S8x8x64x64_S8x8x64x64x1_0_1_2_3 x_v61)) (broadcastInDim S8x8x64x64x64 ![0, 1, 2, 3, 4] bcast_S8x8x64x1x64_S8x8x64x64x64_0_1_2_3_4 (broadcastInDim S8x8x64x1x64 ![0, 1, 2, 4] bcast_S8x8x64x64_S8x8x64x1x64_0_1_2_4 x_v61))) (broadcastInDim S8x8x64x64x64 ![0, 1, 2, 3, 4] bcast_S8x8x64x1x64_S8x8x64x64x64_0_1_2_3_4 (broadcastInDim S8x8x64x1x64 ![0, 1, 2, 4] bcast_S8x8x64x64_S8x8x64x1x64_0_1_2_4 x_v59))

def op_v72 (x_v63 : IVec S64x64 1) (x_v71 : FVec Ideal S8x8x64x64x64 .f32) : FVec Ideal S8x8x64x64x64 .f32 :=
  select ((broadcastInDim S8x8x64x64x64 ![3, 4] bcast_S64x64_S8x8x64x64x64_3_4) x_v63) x_v71 ((broadcastInDim S8x8x64x64x64 ![] bcast_S_S8x8x64x64x64) (id (constant S_ .f32 0xFF800000#32)))

def op_v73 (x_v72 : FVec Ideal S8x8x64x64x64 .f32) : FVec Ideal S8x8x64x64 .f32 :=
  Host.reduce FloatOps.maximumf x_v72 (constant S_ .f32 0xFF800000#32) reducesTo_S8x8x64x64x64_S8x8x64x64_d4 h_S_

def op_v74 (x_v56 : FVec Ideal S8x8x64x64x64 .f32) (x_v57 : FVec Ideal S8x8x64x64x64 .f32) : FVec Ideal S8x8x64x64x64 .f32 :=
  Host.dotGeneral dot_S8x8x64x64x64_S8x8x64x64x64_S8x8x64x64x64_4_4_3_3_012_012 none x_v56 x_v57

def op_v78 (x_v59 : FVec Ideal S8x8x64x64 .f32) (x_v61 : FVec Ideal S8x8x64x64 .f32) : FVec Ideal S8x8x64x64 .f32 :=
  addf (subf (broadcastInDim S8x8x64x64 ![0, 1, 2, 3] bcast_S8x8x64x1_S8x8x64x64_0_1_2_3 (extractStridedSlice S8x8x64x1 ![0, 0, 0, 63] x_v61 slices_S8x8x64x64_S8x8x64x1_0_0_0_63)) x_v61) x_v59

def op_v79 (x_v74 : FVec Ideal S8x8x64x64x64 .f32) : FVec Ideal S64x8x8x64x64 .f32 :=
  transpose S64x8x8x64x64 [2, 0, 1, 3, 4] x_v74 transposes_S8x8x64x64x64_S64x8x8x64x64_2_0_1_3_4

def op_v80 (x_v72 : FVec Ideal S8x8x64x64x64 .f32) : FVec Ideal S64x8x8x64x64 .f32 :=
  transpose S64x8x8x64x64 [2, 0, 1, 3, 4] x_v72 transposes_S8x8x64x64x64_S64x8x8x64x64_2_0_1_3_4

def op_v81 (x_v73 : FVec Ideal S8x8x64x64 .f32) : FVec Ideal S64x8x8x64 .f32 :=
  transpose S64x8x8x64 [2, 0, 1, 3] x_v73 transposes_S8x8x64x64_S64x8x8x64_2_0_1_3

def op_v82 (x_v61 : FVec Ideal S8x8x64x64 .f32) : FVec Ideal S64x8x8x64 .f32 :=
  transpose S64x8x8x64 [2, 0, 1, 3] x_v61 transposes_S8x8x64x64_S64x8x8x64_2_0_1_3

def op_v83 (x_v78 : FVec Ideal S8x8x64x64 .f32) : FVec Ideal S64x8x8x64 .f32 :=
  transpose S64x8x8x64 [2, 0, 1, 3] x_v78 transposes_S8x8x64x64_S64x8x8x64_2_0_1_3

def op_v84 (x_v56 : FVec Ideal S8x8x64x64x64 .f32) : FVec Ideal S64x8x8x64x64 .f32 :=
  transpose S64x8x8x64x64 [2, 0, 1, 3, 4] x_v56 transposes_S8x8x64x64x64_S64x8x8x64x64_2_0_1_3_4

def op_v85 (x_v57 : FVec Ideal S8x8x64x64x64 .f32) : FVec Ideal S64x8x8x64x64 .f32 :=
  transpose S64x8x8x64x64 [2, 0, 1, 3, 4] x_v57 transposes_S8x8x64x64x64_S64x8x8x64x64_2_0_1_3_4

def op_v86 (x_v58 : FVec Ideal S8x8x64x64x128 .f32) : FVec Ideal S64x8x8x64x128 .f32 :=
  transpose S64x8x8x64x128 [2, 0, 1, 3, 4] x_v58 transposes_S8x8x64x64x128_S64x8x8x64x128_2_0_1_3_4

def op_v87  : FVec Ideal S8x8x64x128 .f32 :=
  broadcastInDim S8x8x64x128 ![] bcast_S_S8x8x64x128 (constant S_ .f32 0x00000000#32)

def op_v88  : FVec Ideal S8x8x64 .f32 :=
  broadcastInDim S8x8x64 ![] bcast_S_S8x8x64 (constant S_ .f32 0x00000000#32)

def op_v89  : FVec Ideal S8x8 .f32 :=
  broadcastInDim S8x8 ![] bcast_S_S8x8 (constant S_ .f32 0xFF800000#32)

theorem zero_word : (Ideal.ofBits .f32 0x00000000#32 : EReal) = 0 := by simp [Ideal.ofBits, Ideal.ieee]
theorem bot_word : (Ideal.ofBits .f32 0xFF800000#32 : EReal) = ⊥ := by simp [Ideal.ofBits, Ideal.ieee]
theorem v0_apply (A : FVec Ideal S8x4096x4112 .f32) (b : Fin 8) (t : Fin 4096) (ch : Fin 1024) : op_v0 A (ix3 b t ch) = A (ix3 b t ⟨ch.val, by omega⟩) := by
  unfold op_v0; pointwise
theorem v1_apply (A : FVec Ideal S8x4096x4112 .f32) (b : Fin 8) (t : Fin 4096) (ch : Fin 1024) : op_v1 A (ix3 b t ch) = A (ix3 b t ⟨1024 + ch.val, by omega⟩) := by
  unfold op_v1; pointwise
theorem v2_apply (A : FVec Ideal S8x4096x4112 .f32) (b : Fin 8) (t : Fin 4096) (ch : Fin 1024) : op_v2 A (ix3 b t ch) = A (ix3 b t ⟨2048 + ch.val, by omega⟩) := by
  unfold op_v2; pointwise
theorem v3_apply (A : FVec Ideal S8x4096x4112 .f32) (b : Fin 8) (t : Fin 4096) (ch : Fin 1024) : op_v3 A (ix3 b t ch) = A (ix3 b t ⟨3072 + ch.val, by omega⟩) := by
  unfold op_v3; pointwise
theorem v4_apply (A : FVec Ideal S8x4096x4112 .f32) (b : Fin 8) (t : Fin 4096) (h : Fin 8) : op_v4 A (ix3 b t h) = A (ix3 b t ⟨4096 + h.val, by omega⟩) := by
  unfold op_v4; pointwise
theorem v5_apply (A : FVec Ideal S8x4096x4112 .f32) (b : Fin 8) (t : Fin 4096) (h : Fin 8) : op_v5 A (ix3 b t h) = A (ix3 b t ⟨4104 + h.val, by omega⟩) := by
  unfold op_v5; pointwise

theorem v6_apply (x : FVec Ideal S8x4096x1024 .f32) (b : Fin 8) (p : Fin 4099) (ch : Fin 1024) :
    op_v6 x (ix3 b p ch) = if h : 3 ≤ p.val then x (ix3 b ⟨p.val - 3, by omega⟩ ch) else 0 := by
  unfold op_v6
  pointwise
  have hp := p.isLt
  by_cases h : 3 ≤ p.val
  · rw [dif_pos ⟨h, by omega⟩, dif_pos h]
  · rw [dif_neg (fun hh => h hh.1), dif_neg h]
    show ((BitVec.toInt (0#32) : ℝ) : EReal) = 0
    simp

theorem v35_apply (W : FVec Ideal S4x1024 .f32) (p : FVec Ideal S8x4099x1024 .f32) (b : Fin 8) (t : Fin 4096) (ch : Fin 1024) :
    op_v35 W p (ix3 b t ch) = W (ix2 3 ch) * p (ix3 b ⟨3 + t.val, by omega⟩ ch) + W (ix2 2 ch) * p (ix3 b ⟨2 + t.val, by omega⟩ ch) + W (ix2 1 ch) * p (ix3 b ⟨1 + t.val, by omega⟩ ch)
      + W (ix2 0 ch) * p (ix3 b ⟨t.val, by omega⟩ ch) := by
  unfold op_v35
  pointwise
  abel

theorem v36_apply (x : FVec Ideal S8x4096x1024 .f32) (b : Fin 8) (t : Fin 4096) (ch : Fin 1024) : op_v36 x (ix3 b t ch) = MlSpec.silu (x (ix3 b t ch)) := by
  unfold op_v36
  pointwise
  rfl

theorem v40_apply (x : FVec Ideal S8x4096x1024 .f32) (b h : Fin 8) (t : Fin 4096) (d : Fin 64) : op_v40 x (ix4 b h t d) = x (ix3 b t ⟨64 * h.val + d.val, by omega⟩) := by
  unfold op_v40
  pointwise
  refine congrArg x ?_
  congr 1
  exact Fin.ext (by dsimp only; omega)
theorem v42_apply (x : FVec Ideal S8x4096x1024 .f32) (b h : Fin 8) (t : Fin 4096) (d : Fin 64) : op_v42 x (ix4 b h t d) = x (ix3 b t ⟨512 + 64 * h.val + d.val, by omega⟩) := by
  unfold op_v42
  pointwise
  refine congrArg x ?_
  congr 1
  exact Fin.ext (by dsimp only; omega)
theorem v44_apply (x : FVec Ideal S8x4096x1024 .f32) (b h : Fin 8) (t : Fin 4096) (d : Fin 128) : op_v44 x (ix4 b h t d) = x (ix3 b t ⟨128 * h.val + d.val, by omega⟩) := by
  unfold op_v44
  pointwise
  refine congrArg x ?_
  congr 1
  exact Fin.ext (by dsimp only; omega)
theorem v48_apply (I : FVec Ideal S8 .f32) (x : FVec Ideal S8x4096x8 .f32) (b h : Fin 8) (t : Fin 4096) : op_v48 I x (ix3 b h t) = x (ix3 b t h) + I (ix1 h) := by
  unfold op_v48
  pointwise
theorem v51_apply (I : FVec Ideal S8 .f32) (x : FVec Ideal S8x4096x8 .f32) (b h : Fin 8) (t : Fin 4096) : op_v51 I x (ix3 b t h) = x (ix3 b t h) + I (ix1 h) := by
  unfold op_v51
  pointwise
theorem v52_apply (x : FVec Ideal S8x4096x8 .f32) (b h : Fin 8) (t : Fin 4096) : op_v52 x (ix3 b t h) = MlSpec.lsig (x (ix3 b t h)) := by
  unfold op_v52
  pointwise
  rw [if_neg (fun hh => hh rfl)]
  rfl
theorem v53_apply (x : FVec Ideal S8x4096x8 .f32) (b h : Fin 8) (t : Fin 4096) : op_v53 x (ix3 b h t) = x (ix3 b t h) := by
  unfold op_v53
  pointwise
theorem v55_apply (x : FVec Ideal S8x8x4096x64 .f32) (b h : Fin 8) (t : Fin 4096) (d : Fin 64) : op_v55 x (ix4 b h t d) = x (ix4 b h t d) * Ideal.ofBits .f32 1040187392#32 := by
  unfold op_v55
  pointwise
theorem v56_apply (x : FVec Ideal S8x8x4096x64 .f32) (b h : Fin 8) (k t d : Fin 64) : op_v56 x (ix5 b h k t d) = x (ix4 b h ⟨64 * k.val + t.val, by omega⟩ d) := by
  unfold op_v56
  pointwise
  refine congrArg x ?_
  congr 1
  exact Fin.ext (by dsimp only; omega)
theorem v57_apply (x : FVec Ideal S8x8x4096x64 .f32) (b h : Fin 8) (k t d : Fin 64) : op_v57 x (ix5 b h k t d) = x (ix4 b h ⟨64 * k.val + t.val, by omega⟩ d) := by
  unfold op_v57
  pointwise
  refine congrArg x ?_
  congr 1
  exact Fin.ext (by dsimp only; omega)
theorem v58_apply (x : FVec Ideal S8x8x4096x128 .f32) (b h : Fin 8) (k t : Fin 64) (d : Fin 128) : op_v58 x (ix5 b h k t d) = x (ix4 b h ⟨64 * k.val + t.val, by omega⟩ d) := by
  unfold op_v58
  pointwise
  refine congrArg x ?_
  congr 1
  exact Fin.ext (by dsimp only; omega)
theorem v59_apply (x : FVec Ideal S8x8x4096 .f32) (b h : Fin 8) (k t : Fin 64) : op_v59 x (ix4 b h k t) = x (ix3 b h ⟨64 * k.val + t.val, by omega⟩) := by
  unfold op_v59
  pointwise
  refine congrArg x ?_
  congr 1
  exact Fin.ext (by dsimp only; omega)
theorem v60_apply (x : FVec Ideal S8x8x4096 .f32) (b h : Fin 8) (k t : Fin 64) : op_v60 x (ix4 b h k t) = x (ix3 b h ⟨64 * k.val + t.val, by omega⟩) := by
  unfold op_v60
  pointwise
  refine congrArg x ?_
  congr 1
  exact Fin.ext (by dsimp only; omega)
theorem v61_apply (x : FVec Ideal S8x8x64x64 .f32) (b h : Fin 8) (k t : Fin 64) : op_v61 x (ix4 b h k t) = ∑ j ∈ MlSpec.upTo t, x (ix4 b h k j) := by
  unfold op_v61
  exact cumsum x _ (fun _ => zero_word) b h k t
theorem v63_apply (t j : Fin 64) : op_v63 (ix2 t j) = BitVec.ofBool (decide (j ≤ t)) := by
  unfold op_v63
  pointwise
  revert t j
  decide +kernel
theorem v71_apply (x y : FVec Ideal S8x8x64x64 .f32) (b h : Fin 8) (k t j : Fin 64) : op_v71 x y (ix5 b h k t j) = y (ix4 b h k t) - y (ix4 b h k j) + x (ix4 b h k j) := by
  unfold op_v71
  pointwise
theorem v72_apply (x : FVec Ideal S8x8x64x64x64 .f32) (b h : Fin 8) (k t j : Fin 64) : op_v72 op_v63 x (ix5 b h k t j) = if j ≤ t then x (ix5 b h k t j) else ⊥ := by
  unfold op_v72
  pointwise
  rw [v63_apply]
  refine (congrArg (Scalar.select _ _) bot_word).trans ?_
  by_cases hj : j ≤ t
  · rw [if_pos hj, decide_eq_true hj]; rfl
  · rw [if_neg hj, decide_eq_false hj]; rfl
theorem v73_apply (x : FVec Ideal S8x8x64x64x64 .f32) (b h : Fin 8) (k t : Fin 64) : op_v73 x (ix4 b h k t) = Finset.univ.sup fun j : Fin 64 => x (ix5 b h k t j) := by
  unfold op_v73
  pointwise
  rw [bot_word]
  rfl
theorem v74_apply (x y : FVec Ideal S8x8x64x64x64 .f32) (b h : Fin 8) (k t j : Fin 64) : op_v74 x y (ix5 b h k t j) = ∑ d : Fin 64, x (ix5 b h k t d) * y (ix5 b h k j d) := by
  unfold op_v74
  pointwise
theorem v78_apply (x y : FVec Ideal S8x8x64x64 .f32) (b h : Fin 8) (k t : Fin 64) : op_v78 x y (ix4 b h k t) = y (ix4 b h k 63) - y (ix4 b h k t) + x (ix4 b h k t) := by
  unfold op_v78
  pointwise
theorem v79_apply (x : FVec Ideal S8x8x64x64x64 .f32) (b h : Fin 8) (k t d : Fin 64) : op_v79 x (ix5 k b h t d) = x (ix5 b h k t d) := by
  unfold op_v79; pointwise
theorem v80_apply (x : FVec Ideal S8x8x64x64x64 .f32) (b h : Fin 8) (k t d : Fin 64) : op_v80 x (ix5 k b h t d) = x (ix5 b h k t d) := by
  unfold op_v80; pointwise
theorem v81_apply (x : FVec Ideal S8x8x64x64 .f32) (b h : Fin 8) (k t : Fin 64) : op_v81 x (ix4 k b h t) = x (ix4 b h k t) := by
  unfold op_v81; pointwise
theorem v82_apply (x : FVec Ideal S8x8x64x64 .f32) (b h : Fin 8) (k t : Fin 64) : op_v82 x (ix4 k b h t) = x (ix4 b h k t) := by
  unfold op_v82; pointwise
theorem v83_apply (x : FVec Ideal S8x8x64x64 .f32) (b h : Fin 8) (k t : Fin 64) : op_v83 x (ix4 k b h t) = x (ix4 b h k t) := by
  unfold op_v83; pointwise
theorem v84_apply (x : FVec Ideal S8x8x64x64x64 .f32) (b h : Fin 8) (k t d : Fin 64) : op_v84 x (ix5 k b h t d) = x (ix5 b h k t d) := by
  unfold op_v84; pointwise
theorem v85_apply (x : FVec Ideal S8x8x64x64x64 .f32) (b h : Fin 8) (k t d : Fin 64) : op_v85 x (ix5 k b h t d) = x (ix5 b h k t d) := by
  unfold op_v85; pointwise
theorem v86_apply (x : FVec Ideal S8x8x64x64x128 .f32) (b h : Fin 8) (k t : Fin 64) (d : Fin 128) : op_v86 x (ix5 k b h t d) = x (ix5 b h k t d) := by
  unfold op_v86; pointwise
theorem v87_apply (i : S8x8x64x128.Idx) : op_v87 i = (0 : EReal) := by
  unfold op_v87; exact zero_word
theorem v88_apply (i : S8x8x64.Idx) : op_v88 i = (0 : EReal) := by
  unfold op_v88; exact zero_word
theorem v89_apply (i : S8x8.Idx) : op_v89 i = (⊥ : EReal) := by
  unfold op_v89; exact bot_word

end Cert.ReferenceIdeal.Ml

end
-- ==== Proof.Ml.RefStep.lean ====
/- The reference's trip is the recurrence's step. -/
module

public import proofs.«01_k».proof.Proof.Ml.RefOps

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem
open Cert.MlSpec (Args In State)

/-- What the loop carries before trip `n`: the chunks' tables, and the recurrence so far. -/
structure Carries (a : Args) (n : ℕ) (V : Valuation τ sig (Elt Ideal)) : Prop where
  qk : ∀ (k : Fin 64) (b h : Fin 8) (t j : Fin 64), (V (Proc.devRef .tc main_v91_0) : FVec Ideal S64x8x8x64x64 .f32) (ix5 k b h t j)
    = ∑ d, (MlSpec.chunk a b h k).q t d * (MlSpec.chunk a b h k).k j d
  dlog : ∀ (k : Fin 64) (b h : Fin 8) (t j : Fin 64), (V (Proc.devRef .tc main_v91_1) : FVec Ideal S64x8x8x64x64 .f32) (ix5 k b h t j)
    = if j ≤ t then MlSpec.B (MlSpec.chunk a b h k) t - MlSpec.B (MlSpec.chunk a b h k) j + (MlSpec.chunk a b h k).i j else ⊥
  mi : ∀ (k : Fin 64) (b h : Fin 8) (t : Fin 64), (V (Proc.devRef .tc main_v91_2) : FVec Ideal S64x8x8x64 .f32) (ix4 k b h t)
    = MlSpec.mi (MlSpec.chunk a b h k) t
  bb : ∀ (k : Fin 64) (b h : Fin 8) (t : Fin 64), (V (Proc.devRef .tc main_v91_3) : FVec Ideal S64x8x8x64 .f32) (ix4 k b h t)
    = MlSpec.B (MlSpec.chunk a b h k) t
  kl : ∀ (k : Fin 64) (b h : Fin 8) (j : Fin 64), (V (Proc.devRef .tc main_v91_4) : FVec Ideal S64x8x8x64 .f32) (ix4 k b h j)
    = MlSpec.B (MlSpec.chunk a b h k) 63 - MlSpec.B (MlSpec.chunk a b h k) j + (MlSpec.chunk a b h k).i j
  q : ∀ (k : Fin 64) (b h : Fin 8) (t d : Fin 64), (V (Proc.devRef .tc main_v91_5) : FVec Ideal S64x8x8x64x64 .f32) (ix5 k b h t d)
    = (MlSpec.chunk a b h k).q t d
  k : ∀ (k : Fin 64) (b h : Fin 8) (t d : Fin 64), (V (Proc.devRef .tc main_v91_6) : FVec Ideal S64x8x8x64x64 .f32) (ix5 k b h t d)
    = (MlSpec.chunk a b h k).k t d
  v : ∀ (k : Fin 64) (b h : Fin 8) (t : Fin 64) (e : Fin 128), (V (Proc.devRef .tc main_v91_7) : FVec Ideal S64x8x8x64x128 .f32) (ix5 k b h t e)
    = (MlSpec.chunk a b h k).v t e
  cnt : (V (Proc.devRef .tc main_v91_8) : IVec S_ 32) = ctr n
  C : ∀ (b h : Fin 8) (d : Fin 64) (e : Fin 128), (V (Proc.devRef .tc main_v91_9) : FVec Ideal S8x8x64x128 .f32) (ix4 b h d e)
    = (MlSpec.stateAt a b h n).C d e
  N : ∀ (b h : Fin 8) (d : Fin 64), (V (Proc.devRef .tc main_v91_10) : FVec Ideal S8x8x64 .f32) (ix3 b h d) = (MlSpec.stateAt a b h n).N d
  m : ∀ (b h : Fin 8), (V (Proc.devRef .tc main_v91_11) : FVec Ideal S8x8 .f32) (ix2 b h) = (MlSpec.stateAt a b h n).m
  out : ∀ (k : Fin 64) (hk : k.val < n) (b h : Fin 8) (t : Fin 64) (e : Fin 128), (V (Proc.devRef .tc main_v91_12) : FVec Ideal S64x8x8x64x128 .f32) (ix5 k b h t e)
    = MlSpec.out (MlSpec.chunk a b h k) (MlSpec.stateAt a b h k) t e

section
variable {a : Args} {n : ℕ} {V : Valuation τ sig (Elt Ideal)} (hV : Carries a n V) (hn : n < 64)
include hV hn

theorem r132 (b h : Fin 8) (t : Fin 64) : (res_main_while0b_v132 V : FVec Ideal S8x8x64 .f32) (ix3 b h t) = MlSpec.B (MlSpec.chunk a b h n) t := by
  unfold res_main_while0b_v132
  rw [hV.cnt]
  exact (slice4 _ n hn b h t).trans (hV.bb ⟨n, hn⟩ b h t)

theorem r134 (b h : Fin 8) (t d : Fin 64) : (res_main_while0b_v134 V : FVec Ideal S8x8x64x64 .f32) (ix4 b h t d) = (MlSpec.chunk a b h n).q t d := by
  unfold res_main_while0b_v134
  rw [hV.cnt]
  exact (slice5 _ n hn b h t d).trans (hV.q ⟨n, hn⟩ b h t d)

theorem r136 (b h : Fin 8) (t : Fin 64) (e : Fin 128) : (res_main_while0b_v136 V : FVec Ideal S8x8x64x128 .f32) (ix4 b h t e) = (MlSpec.chunk a b h n).v t e := by
  unfold res_main_while0b_v136
  rw [hV.cnt]
  exact (slice5v _ n hn b h t e).trans (hV.v ⟨n, hn⟩ b h t e)

theorem r139 (b h : Fin 8) (t : Fin 64) : (res_main_while0b_v139 V : FVec Ideal S8x8x64 .f32) (ix3 b h t) = MlSpec.ms (MlSpec.chunk a b h n) (MlSpec.stateAt a b h n) t := by
  unfold res_main_while0b_v139
  exact congrArg₂ (fun x y : EReal => x + y) ((col2 _ b h t).trans (hV.m b h)) (r132 hV hn b h t)

theorem r140 (b h : Fin 8) (t : Fin 64) : (res_main_while0b_v140 V : FVec Ideal S8x8x64 .f32) (ix3 b h t) = MlSpec.mt (MlSpec.chunk a b h n) (MlSpec.stateAt a b h n) t := by
  unfold res_main_while0b_v140
  rw [hV.cnt]
  exact congrArg₂ (fun x y : EReal => max x y) (r139 hV hn b h t) ((slice4 _ n hn b h t).trans (hV.mi ⟨n, hn⟩ b h t))

theorem r142 (b h : Fin 8) (t : Fin 64) : (res_main_while0b_v142 V : FVec Ideal S8x8x64 .f32) (ix3 b h t) = MlSpec.inter (MlSpec.chunk a b h n) (MlSpec.stateAt a b h n) t := by
  unfold res_main_while0b_v142
  exact congrArg₂ (fun x y : EReal => Ideal.exp (x - y)) (r139 hV hn b h t) (r140 hV hn b h t)

omit hV hn in
theorem masked (p : Prop) [Decidable p] (x y z : EReal) : Ideal.exp ((if p then x else ⊥) - y) * z = (if p then Ideal.exp (x - y) else 0) * z := by
  by_cases hp : p
  · rw [if_pos hp, if_pos hp]
  · rw [if_neg hp, if_neg hp, sub_eq_add_neg, EReal.bot_add]
    rfl

theorem r147 (b h : Fin 8) (t j : Fin 64) : (res_main_while0b_v147 V : FVec Ideal S8x8x64x64 .f32) (ix4 b h t j) = MlSpec.wt (MlSpec.chunk a b h n) (MlSpec.stateAt a b h n) t j := by
  unfold res_main_while0b_v147
  rw [hV.cnt]
  have e1 := (slice5 _ n hn b h t j).trans (hV.dlog ⟨n, hn⟩ b h t j)
  have e2 := (col4 _ b h t j).trans (r140 hV hn b h t)
  have e3 := (slice5 _ n hn b h t j).trans (hV.qk ⟨n, hn⟩ b h t j)
  have e := congrArg₂ (fun x y : EReal => x * y) (congrArg₂ (fun x y : EReal => Ideal.exp (x - y)) e1 e2) e3
  exact e.trans (masked _ _ _ _)

theorem r166 (b h : Fin 8) : (res_main_while0b_v166 V : FVec Ideal S8x8 .f32) (ix2 b h) = MlSpec.mt (MlSpec.chunk a b h n) (MlSpec.stateAt a b h n) 63 := by
  unfold res_main_while0b_v166
  exact (last3 _ b h).trans (r140 hV hn b h 63)

theorem r171 (b h : Fin 8) : (res_main_while0b_v171 V : FVec Ideal S8x8 .f32) (ix2 b h) = MlSpec.carry (MlSpec.chunk a b h n) (MlSpec.stateAt a b h n) := by
  unfold res_main_while0b_v171
  exact congrArg₂ (fun x y : EReal => Ideal.exp (x - y)) (congrArg₂ (fun x y : EReal => x + y) (hV.m b h) ((last3 _ b h).trans (r132 hV hn b h 63))) (r166 hV hn b h)

theorem r178 (b h : Fin 8) (j d : Fin 64) : (res_main_while0b_v178 V : FVec Ideal S8x8x64x64 .f32) (ix4 b h j d) = MlSpec.kw (MlSpec.chunk a b h n) (MlSpec.stateAt a b h n) j d := by
  unfold res_main_while0b_v178
  rw [hV.cnt]
  have e1 := (slice5 _ n hn b h j d).trans (hV.k ⟨n, hn⟩ b h j d)
  have e2 := (slice4 _ n hn b h j).trans (hV.kl ⟨n, hn⟩ b h j)
  have e3 := (col2 _ b h j).trans (r166 hV hn b h)
  refine congrArg₂ (fun x y : EReal => x * y) e1 ((col4 _ b h j d).trans ?_)
  exact congrArg₂ (fun x y : EReal => Ideal.exp (x - y)) e2 e3

theorem s9 (b h : Fin 8) (d : Fin 64) (e : Fin 128) : (step_main_v91_9 V : FVec Ideal S8x8x64x128 .f32) (ix4 b h d e) = (MlSpec.stateAt a b h (n + 1)).C d e := by
  unfold step_main_v91_9
  refine congrArg₂ (fun x y : EReal => x + y) (congrArg₂ (fun x y : EReal => x * y) (hV.C b h d e) ((col2v _ b h d e).trans (r171 hV hn b h))) ((dotT _ _ b h d e).trans ?_)
  exact Finset.sum_congr rfl fun j _ => congrArg₂ (fun x y : EReal => x * y) (r178 hV hn b h j d) (r136 hV hn b h j e)

theorem s10 (b h : Fin 8) (d : Fin 64) : (step_main_v91_10 V : FVec Ideal S8x8x64 .f32) (ix3 b h d) = (MlSpec.stateAt a b h (n + 1)).N d := by
  unfold step_main_v91_10
  refine congrArg₂ (fun x y : EReal => x + y) (congrArg₂ (fun x y : EReal => x * y) (hV.N b h d) ((col2 _ b h d).trans (r171 hV hn b h))) ((sum2 _ b h d).trans ?_)
  exact Finset.sum_congr rfl fun j _ => r178 hV hn b h j d

theorem s11 (b h : Fin 8) : (step_main_v91_11 V : FVec Ideal S8x8 .f32) (ix2 b h) = (MlSpec.stateAt a b h (n + 1)).m := by
  unfold step_main_v91_11
  exact r166 hV hn b h

theorem s8 : (step_main_v91_8 V : IVec S_ 32) = ctr (n + 1) := by
  unfold step_main_v91_8
  rw [hV.cnt]
  funext i
  show BitVec.ofNat 32 n + 1#32 = BitVec.ofNat 32 (n + 1)
  exact (BitVec.ofNat_add n 1).symm

theorem s12 (k : Fin 64) (hk : k.val < n + 1) (b h : Fin 8) (t : Fin 64) (e : Fin 128) : (step_main_v91_12 V : FVec Ideal S64x8x8x64x128 .f32) (ix5 k b h t e)
    = MlSpec.out (MlSpec.chunk a b h k) (MlSpec.stateAt a b h k) t e := by
  unfold step_main_v91_12
  rw [hV.cnt]
  refine (upd5 _ _ n hn k b h t e).trans ?_
  by_cases hkn : k.val = n
  · rw [if_pos hkn, hkn]
    have n1 : (_ : EReal) = _ := (dotN (res_main_while0b_v134 V) (V (Proc.devRef .tc main_v91_9)) b h t e).trans
      (Finset.sum_congr rfl fun j _ => congrArg₂ (fun x y : EReal => x * y) (r134 hV hn b h t j) (hV.C b h j e))
    have n2 : (_ : EReal) = _ := (dotN (res_main_while0b_v147 V) (res_main_while0b_v136 V) b h t e).trans
      (Finset.sum_congr rfl fun j _ => congrArg₂ (fun x y : EReal => x * y) (r147 hV hn b h t j) (r136 hV hn b h j e))
    have d1 : (_ : EReal) = _ := (dotV (res_main_while0b_v134 V) (V (Proc.devRef .tc main_v91_10)) b h t).trans
      (Finset.sum_congr rfl fun j _ => congrArg₂ (fun x y : EReal => x * y) (r134 hV hn b h t j) (hV.N b h j))
    have d2 : (_ : EReal) = _ := (sum3 (res_main_while0b_v147 V) b h t).trans (Finset.sum_congr rfl fun j _ => r147 hV hn b h t j)
    refine congrArg₂ (fun x y : EReal => Ideal.div x y) ?_ ((col4v _ b h t e).trans ?_)
    · exact congrArg₂ (fun x y : EReal => x + y) (congrArg₂ (fun x y : EReal => x * y) ((col4v _ b h t e).trans (r142 hV hn b h t)) n1) n2
    · refine congrArg₂ (fun x y : EReal => max x y) (congrArg MlSpec.abs ?_) (congrArg (fun x : EReal => Ideal.exp (-x)) (r140 hV hn b h t))
      exact congrArg₂ (fun x y : EReal => x + y) (congrArg₂ (fun x y : EReal => x * y) (r142 hV hn b h t) d1) d2
  · rw [if_neg hkn]
    exact hV.out k (by omega) b h t e

/-- One trip. -/
theorem carries_step : Carries a (n + 1) (STEP V) where
  qk k b h t j := by rw [STEP_main_v91_0]; exact hV.qk k b h t j
  dlog k b h t j := by rw [STEP_main_v91_1]; exact hV.dlog k b h t j
  mi k b h t := by rw [STEP_main_v91_2]; exact hV.mi k b h t
  bb k b h t := by rw [STEP_main_v91_3]; exact hV.bb k b h t
  kl k b h t := by rw [STEP_main_v91_4]; exact hV.kl k b h t
  q k b h t j := by rw [STEP_main_v91_5]; exact hV.q k b h t j
  k k b h t j := by rw [STEP_main_v91_6]; exact hV.k k b h t j
  v k b h t j := by rw [STEP_main_v91_7]; exact hV.v k b h t j
  cnt := by rw [STEP_main_v91_8]; exact s8 hV hn
  C b h d e := by rw [STEP_main_v91_9]; exact s9 hV hn b h d e
  N b h d := by rw [STEP_main_v91_10]; exact s10 hV hn b h d
  m b h := by rw [STEP_main_v91_11]; exact s11 hV hn b h
  out k hk b h t e := by rw [STEP_main_v91_12]; exact s12 hV hn k hk b h t e
end

/-- All the trips. -/
theorem carries_iter {a : Args} {V : Valuation τ sig (Elt Ideal)} (hV : Carries a 0 V) : ∀ k : ℕ, k ≤ 64 → Carries a k (STEP^[k] V)
  | 0, _ => hV
  | k + 1, hk => by
    rw [Function.iterate_succ_apply']
    exact carries_step (carries_iter hV k (by omega)) (by omega)

end Cert.ReferenceIdeal.Ml

end
-- ==== Proof.Ml.RefEntry.lean ====
/- What the reference's loop is entered with: the chunks' tables and the recurrence's start. -/
module

public import proofs.«01_k».proof.Proof.Ml.RefPre
public import proofs.«01_k».proof.Proof.Ml.RefStep

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.MlSpec (Args)

section
variable (A : FVec Ideal S8x4096x4112 .f32) (W : FVec Ideal S4x1024 .f32) (I Fb : FVec Ideal S8 .f32) (G : FVec Ideal S1024 .f32)

/-- Queries and keys after the convolution, and the chunked arrays. -/
def eQK : FVec Ideal S8x4096x1024 .f32 := op_v36 (op_v35 W (op_v6 (op_v0 A)))
def eQ : FVec Ideal S8x8x64x64x64 .f32 := op_v56 (op_v40 (eQK A W))
def eK : FVec Ideal S8x8x64x64x64 .f32 := op_v57 (op_v55 (op_v42 (eQK A W)))
def eV : FVec Ideal S8x8x64x64x128 .f32 := op_v58 (op_v44 (op_v1 A))
def eI : FVec Ideal S8x8x64x64 .f32 := op_v59 (op_v48 I (op_v4 A))
def eF : FVec Ideal S8x8x64x64 .f32 := op_v60 (op_v53 (op_v52 (op_v51 Fb (op_v5 A))))
def eB : FVec Ideal S8x8x64x64 .f32 := op_v61 (eF A Fb)
def eD : FVec Ideal S8x8x64x64x64 .f32 := op_v72 op_v63 (op_v71 (eI A I) (eB A Fb))

/-- The arguments' channels at a time inside the sequence. -/
theorem X_eq (b : Fin 8) (s : ℕ) (hs : s < 4096) (ch : Fin 4112) : (MlSpec.ofArrays A W I Fb G).X b s ch = A (ix3 b ⟨s, hs⟩ ch) := dif_pos hs

theorem past_eq (b : Fin 8) (t : Fin 4096) (ch : Fin 1024) (d : ℕ) (p : Fin 4099) (hd : d ≤ 3) (hp : p.val + d = 3 + t.val) :
    op_v6 (op_v0 A) (ix3 b p ch) = MlSpec.past (MlSpec.ofArrays A W I Fb G) d b t.val ch := by
  rw [v6_apply]
  unfold MlSpec.past
  by_cases h : d ≤ t.val
  · rw [dif_pos (show 3 ≤ p.val by omega), if_pos h, X_eq A W I Fb G b _ (by omega), v0_apply]
    refine congrArg A ?_
    congr 1
    exact Fin.ext (by dsimp only; omega)
  · rw [dif_neg (show ¬ 3 ≤ p.val by omega), if_neg h]

theorem eQK_apply (b : Fin 8) (t : Fin 4096) (ch : Fin 1024) : eQK A W (ix3 b t ch) = MlSpec.silu (MlSpec.conv (MlSpec.ofArrays A W I Fb G) b t.val ch) := by
  unfold eQK
  rw [v36_apply, v35_apply, past_eq A W I Fb G b t ch 0 _ (by omega) (by dsimp only; omega), past_eq A W I Fb G b t ch 1 _ (by omega) (by dsimp only; omega),
    past_eq A W I Fb G b t ch 2 _ (by omega) (by dsimp only; omega), past_eq A W I Fb G b t ch 3 _ (by omega) (by dsimp only; omega)]
  rfl

theorem eQ_apply (b h : Fin 8) (k t d : Fin 64) : eQ A W (ix5 b h k t d) = (MlSpec.chunk (MlSpec.ofArrays A W I Fb G) b h k).q t d := by
  unfold eQ
  rw [v56_apply, v40_apply, eQK_apply A W I Fb G]
  rfl

theorem eK_apply (b h : Fin 8) (k t d : Fin 64) : eK A W (ix5 b h k t d) = (MlSpec.chunk (MlSpec.ofArrays A W I Fb G) b h k).k t d := by
  unfold eK
  rw [v57_apply, v55_apply, v42_apply, eQK_apply A W I Fb G]
  rfl

theorem eS_apply (b h : Fin 8) (k t j : Fin 64) : op_v74 (eQ A W) (eK A W) (ix5 b h k t j)
    = ∑ d, (MlSpec.chunk (MlSpec.ofArrays A W I Fb G) b h k).q t d * (MlSpec.chunk (MlSpec.ofArrays A W I Fb G) b h k).k j d := by
  rw [v74_apply]
  exact Finset.sum_congr rfl fun d _ => congrArg₂ (fun x y : EReal => x * y) (eQ_apply A W I Fb G b h k t d) (eK_apply A W I Fb G b h k j d)

theorem eV_apply (b h : Fin 8) (k t : Fin 64) (e : Fin 128) : eV A (ix5 b h k t e) = (MlSpec.chunk (MlSpec.ofArrays A W I Fb G) b h k).v t e := by
  unfold eV
  rw [v58_apply, v44_apply, v1_apply]
  unfold MlSpec.chunk
  dsimp only
  rw [X_eq A W I Fb G b _ (by omega)]
  refine congrArg A ?_
  congr 1
  exact Fin.ext (by dsimp only; omega)

theorem eI_apply (b h : Fin 8) (k t : Fin 64) : eI A I (ix4 b h k t) = (MlSpec.chunk (MlSpec.ofArrays A W I Fb G) b h k).i t := by
  unfold eI
  rw [v59_apply, v48_apply, v4_apply]
  unfold MlSpec.chunk
  dsimp only
  rw [X_eq A W I Fb G b _ (by omega)]
  rfl

theorem eF_apply (b h : Fin 8) (k t : Fin 64) : eF A Fb (ix4 b h k t) = (MlSpec.chunk (MlSpec.ofArrays A W I Fb G) b h k).f t := by
  unfold eF
  rw [v60_apply, v53_apply, v52_apply, v51_apply, v5_apply]
  unfold MlSpec.chunk
  dsimp only
  rw [X_eq A W I Fb G b _ (by omega)]
  rfl

theorem eB_apply (b h : Fin 8) (k t : Fin 64) : eB A Fb (ix4 b h k t) = MlSpec.B (MlSpec.chunk (MlSpec.ofArrays A W I Fb G) b h k) t := by
  unfold eB
  rw [v61_apply]
  exact Finset.sum_congr rfl fun j _ => eF_apply A W I Fb G b h k j

theorem eD_apply (b h : Fin 8) (k t j : Fin 64) : eD A I Fb (ix5 b h k t j) = if j ≤ t then MlSpec.B (MlSpec.chunk (MlSpec.ofArrays A W I Fb G) b h k) t
    - MlSpec.B (MlSpec.chunk (MlSpec.ofArrays A W I Fb G) b h k) j + (MlSpec.chunk (MlSpec.ofArrays A W I Fb G) b h k).i j else ⊥ := by
  unfold eD
  rw [v72_apply, v71_apply, eB_apply A W I Fb G, eB_apply A W I Fb G, eI_apply A W I Fb G]

/-- The masked entries do not count in a maximum. -/
theorem sup_masked (t : Fin 64) (f : Fin 64 → EReal) : (Finset.univ.sup fun j : Fin 64 => if j ≤ t then f j else ⊥) = (MlSpec.upTo t).sup f := by
  refine le_antisymm (Finset.sup_le fun j _ => ?_) (Finset.sup_le fun j hj => ?_)
  · by_cases h : j ≤ t
    · rw [if_pos h]
      exact Finset.le_sup (f := f) ((MlSpec.mem_upTo t j).2 h)
    · rw [if_neg h]
      exact bot_le
  · have h := (MlSpec.mem_upTo t j).1 hj
    refine le_trans (le_of_eq (if_pos h).symm) (Finset.le_sup (f := fun j : Fin 64 => if j ≤ t then f j else ⊥) (Finset.mem_univ j))

theorem eM_apply (b h : Fin 8) (k t : Fin 64) : op_v73 (eD A I Fb) (ix4 b h k t) = MlSpec.mi (MlSpec.chunk (MlSpec.ofArrays A W I Fb G) b h k) t := by
  rw [v73_apply]
  refine Eq.trans ?_ (sup_masked t _)
  exact congrArg Finset.univ.sup (funext fun j => eD_apply A W I Fb G b h k t j)

end

variable (m : (ℓ : Loc nD τ sig) → Buf (Elt Ideal) ℓ)

/-- The reference's arguments, from core `c`'s memory. -/
def args (c : Dev nD) : Args :=
  MlSpec.ofArrays (m ((c : Thread nD τ).loc main_arg0)) (m ((c : Thread nD τ).loc main_arg1)) (m ((c : Thread nD τ).loc main_arg2)) (m ((c : Thread nD τ).loc main_arg3)) (m ((c : Thread nD τ).loc main_arg4))

set_option maxRecDepth 100000 in
theorem entry0 (c : Dev nD) : (entryContents preI m c (Proc.devRef .tc main_v91_0) : FVec Ideal S64x8x8x64x64 .f32)
    = op_v79 (op_v74 (eQ (m ((c : Thread nD τ).loc main_arg0)) (m ((c : Thread nD τ).loc main_arg1))) (eK (m ((c : Thread nD τ).loc main_arg0)) (m ((c : Thread nD τ).loc main_arg1)))) := by
  simp only [entryContents, afterL_cons, afterL_nil]
  after_reads_simp
  rfl

set_option maxRecDepth 100000 in
theorem entry1 (c : Dev nD) : (entryContents preI m c (Proc.devRef .tc main_v91_1) : FVec Ideal S64x8x8x64x64 .f32)
    = op_v80 (eD (m ((c : Thread nD τ).loc main_arg0)) (m ((c : Thread nD τ).loc main_arg2)) (m ((c : Thread nD τ).loc main_arg3))) := by
  simp only [entryContents, afterL_cons, afterL_nil]
  after_reads_simp
  rfl

set_option maxRecDepth 100000 in
theorem max_last (V : Valuation τ sig (Elt Ideal)) : (after hostOps0_12 V (Proc.devRef .tc main_v91_2) : FVec Ideal S64x8x8x64 .f32)
    = op_v81 (op_v73 (V (Proc.devRef .tc main_v72))) := by
  after_results
  unfold op_v81 op_v73
  congr 1

set_option maxRecDepth 100000 in
theorem entry2 (c : Dev nD) : (entryContents preI m c (Proc.devRef .tc main_v91_2) : FVec Ideal S64x8x8x64 .f32)
    = op_v81 (op_v73 (eD (m ((c : Thread nD τ).loc main_arg0)) (m ((c : Thread nD τ).loc main_arg2)) (m ((c : Thread nD τ).loc main_arg3)))) := by
  simp only [entryContents, afterL_cons, afterL_nil]
  rw [max_last]
  after_reads_simp
  rfl

set_option maxRecDepth 100000 in
theorem entry3 (c : Dev nD) : (entryContents preI m c (Proc.devRef .tc main_v91_3) : FVec Ideal S64x8x8x64 .f32)
    = op_v82 (eB (m ((c : Thread nD τ).loc main_arg0)) (m ((c : Thread nD τ).loc main_arg3))) := by
  simp only [entryContents, afterL_cons, afterL_nil]
  after_reads_simp
  rfl

set_option maxRecDepth 100000 in
theorem entry4 (c : Dev nD) : (entryContents preI m c (Proc.devRef .tc main_v91_4) : FVec Ideal S64x8x8x64 .f32)
    = op_v83 (op_v78 (eI (m ((c : Thread nD τ).loc main_arg0)) (m ((c : Thread nD τ).loc main_arg2))) (eB (m ((c : Thread nD τ).loc main_arg0)) (m ((c : Thread nD τ).loc main_arg3)))) := by
  simp only [entryContents, afterL_cons, afterL_nil]
  after_reads_simp
  rfl

set_option maxRecDepth 100000 in
theorem entry5 (c : Dev nD) : (entryContents preI m c (Proc.devRef .tc main_v91_5) : FVec Ideal S64x8x8x64x64 .f32)
    = op_v84 (eQ (m ((c : Thread nD τ).loc main_arg0)) (m ((c : Thread nD τ).loc main_arg1))) := by
  simp only [entryContents, afterL_cons, afterL_nil]
  after_reads_simp
  rfl

set_option maxRecDepth 100000 in
theorem entry6 (c : Dev nD) : (entryContents preI m c (Proc.devRef .tc main_v91_6) : FVec Ideal S64x8x8x64x64 .f32)
    = op_v85 (eK (m ((c : Thread nD τ).loc main_arg0)) (m ((c : Thread nD τ).loc main_arg1))) := by
  simp only [entryContents, afterL_cons, afterL_nil]
  after_reads_simp
  rfl

set_option maxRecDepth 100000 in
theorem entry7 (c : Dev nD) : (entryContents preI m c (Proc.devRef .tc main_v91_7) : FVec Ideal S64x8x8x64x128 .f32)
    = op_v86 (eV (m ((c : Thread nD τ).loc main_arg0))) := by
  simp only [entryContents, afterL_cons, afterL_nil]
  after_reads_simp
  rfl

set_option maxRecDepth 100000 in
theorem entry9 (c : Dev nD) : (entryContents preI m c (Proc.devRef .tc main_v91_9) : FVec Ideal S8x8x64x128 .f32) = op_v87 := by
  simp only [entryContents, afterL_cons, afterL_nil]
  after_reads_simp
  rfl

set_option maxRecDepth 100000 in
theorem entry10 (c : Dev nD) : (entryContents preI m c (Proc.devRef .tc main_v91_10) : FVec Ideal S8x8x64 .f32) = op_v88 := by
  simp only [entryContents, afterL_cons, afterL_nil]
  after_reads_simp
  rfl

set_option maxRecDepth 100000 in
theorem entry11 (c : Dev nD) : (entryContents preI m c (Proc.devRef .tc main_v91_11) : FVec Ideal S8x8 .f32) = op_v89 := by
  simp only [entryContents, afterL_cons, afterL_nil]
  after_reads_simp
  rfl

/-- What the loop is entered with. -/
theorem carries_entry (c : Dev nD) : Carries (args m c) 0 (entryContents preI m c) where
  qk k b h t j := by
    rw [entry0, v79_apply]
    exact eS_apply _ _ _ _ _ b h k t j
  dlog k b h t j := by
    rw [entry1, v80_apply]
    exact eD_apply _ _ _ _ _ b h k t j
  mi k b h t := by
    rw [entry2, v81_apply]
    exact eM_apply _ _ _ _ _ b h k t
  bb k b h t := by
    rw [entry3, v82_apply]
    exact eB_apply _ _ _ _ _ b h k t
  kl k b h j := by
    rw [entry4, v83_apply, v78_apply]
    exact congrArg₂ (fun x y : EReal => x + y) (congrArg₂ (fun x y : EReal => x - y) (eB_apply _ _ _ _ _ b h k 63) (eB_apply _ _ _ _ _ b h k j)) (eI_apply _ _ _ _ _ b h k j)
  q k b h t j := by
    rw [entry5, v84_apply]
    exact eQ_apply _ _ _ _ _ b h k t j
  k k b h t j := by
    rw [entry6, v85_apply]
    exact eK_apply _ _ _ _ _ b h k t j
  v k b h t j := by
    rw [entry7, v86_apply]
    exact eV_apply _ _ _ _ _ b h k t j
  cnt := ctr_entry m c
  C b h d e := by rw [entry9]; exact v87_apply _
  N b h d := by rw [entry10]; exact v88_apply _
  m b h := by rw [entry11]; exact v89_apply _
  out k hk := absurd hk (Nat.not_lt_zero _)

end Cert.ReferenceIdeal.Ml

end
-- ==== Proof.Ml.RefPost.lean ====
/- The operations of the reference after its loop, grouped, and each group at an index. -/
module

public import proofs.«01_k».proof.Proof.Ml.RefEntry

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.MlSpec (Args)

def op_v94 (x_h : FVec Ideal S64x8x8x64x128 .f32) : FVec Ideal S8x4096x8x128 .f32 :=
  transpose S8x4096x8x128 [0, 2, 1, 3] (shapeCast S8x8x4096x128 (transpose S8x8x64x64x128 [1, 2, 0, 3, 4] x_h transposes_S64x8x8x64x128_S8x8x64x64x128_1_2_0_3_4) shapeCasts_S8x8x64x64x128_S8x8x4096x128) transposes_S8x8x4096x128_S8x4096x8x128_0_2_1_3

def op_v100 (x_v2 : FVec Ideal S8x4096x1024 .f32) : FVec Ideal S8x4096x1024 .f32 :=
  Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf x_v2)))

def op_v102 (x_v94 : FVec Ideal S8x4096x8x128 .f32) (x_v100 : FVec Ideal S8x4096x1024 .f32) : FVec Ideal S8x4096x8x128 .f32 :=
  mulf (shapeCast S8x4096x8x128 x_v100 shapeCasts_S8x4096x1024_S8x4096x8x128) x_v94

def op_v106 (x_v102 : FVec Ideal S8x4096x8x128 .f32) : FVec Ideal S8x4096x8x1 .f32 :=
  Host.divf (broadcastInDim S8x4096x8x1 ![0, 1, 2] bcast_S8x4096x8_S8x4096x8x1_0_1_2 (Host.reduceAdd x_v102 (constant S_ .f32 0x00000000#32) reducesTo_S8x4096x8x128_S8x4096x8_d3 h_S_)) (broadcastInDim S8x4096x8x1 ![] bcast_S_S8x4096x8x1 (constant S_ .f32 0x43000000#32))

def op_v108 (x_v102 : FVec Ideal S8x4096x8x128 .f32) (x_v106 : FVec Ideal S8x4096x8x1 .f32) : FVec Ideal S8x4096x8x128 .f32 :=
  subf x_v102 (broadcastInDim S8x4096x8x128 ![0, 1, 2, 3] bcast_S8x4096x8x1_S8x4096x8x128_0_1_2_3 x_v106)

def op_v113 (x_v108 : FVec Ideal S8x4096x8x128 .f32) : FVec Ideal S8x4096x8x1 .f32 :=
  Host.divf (broadcastInDim S8x4096x8x1 ![0, 1, 2] bcast_S8x4096x8_S8x4096x8x1_0_1_2 (Host.reduceAdd (mulf x_v108 x_v108) (constant S_ .f32 0x00000000#32) reducesTo_S8x4096x8x128_S8x4096x8_d3 h_S_)) (broadcastInDim S8x4096x8x1 ![] bcast_S_S8x4096x8x1 (constant S_ .f32 0x43000000#32))

def op_v120 (x_v102 : FVec Ideal S8x4096x8x128 .f32) (x_v106 : FVec Ideal S8x4096x8x1 .f32) (x_v113 : FVec Ideal S8x4096x8x1 .f32) : FVec Ideal S8x4096x8x128 .f32 :=
  mulf (subf x_v102 (broadcastInDim S8x4096x8x128 ![0, 1, 2, 3] bcast_S8x4096x8x1_S8x4096x8x128_0_1_2_3 x_v106)) (broadcastInDim S8x4096x8x128 ![0, 1, 2, 3] bcast_S8x4096x8x1_S8x4096x8x128_0_1_2_3 (Host.rsqrt (addf x_v113 (broadcastInDim S8x4096x8x1 ![] bcast_S_S8x4096x8x1 (constant S_ .f32 0x358637BD#32)))))

def op_v124 (x_arg4 : FVec Ideal S1024 .f32) (x_v120 : FVec Ideal S8x4096x8x128 .f32) : FVec Ideal S8x4096x1024 .f32 :=
  mulf (shapeCast S8x4096x1024 x_v120 shapeCasts_S8x4096x8x128_S8x4096x1024) (broadcastInDim S8x4096x1024 ![0, 1, 2] bcast_S1x1x1024_S8x4096x1024_0_1_2 (broadcastInDim S1x1x1024 ![2] bcast_S1024_S1x1x1024_2 x_arg4))

def op_v125 (x_v3 : FVec Ideal S8x4096x1024 .f32) : FVec Ideal S8x4096x1024 .f32 :=
  mulf x_v3 (Host.divf ((broadcastInDim S8x4096x1024 ![] bcast_S_S8x4096x1024) (constant S_ .f32 0x3F800000#32)) (addf ((broadcastInDim S8x4096x1024 ![] bcast_S_S8x4096x1024) (constant S_ .f32 0x3F800000#32)) (Host.exp (Host.negf x_v3))))

def op_v128 (x_v124 : FVec Ideal S8x4096x1024 .f32) (x_v125 : FVec Ideal S8x4096x1024 .f32) : FVec Ideal S512x8x64x128 .f32 :=
  transpose S512x8x64x128 [0, 2, 1, 3] (shapeCast S512x64x8x128 (mulf x_v124 x_v125) shapeCasts_S8x4096x1024_S512x64x8x128) transposes_S512x64x8x128_S512x8x64x128_0_2_1_3

theorem v94_apply (x : FVec Ideal S64x8x8x64x128 .f32) (b : Fin 8) (t : Fin 4096) (h : Fin 8) (e : Fin 128) :
    op_v94 x (ix4 b t h e) = x (ix5 ⟨t.val / 64, by omega⟩ b h ⟨t.val % 64, by omega⟩ e) := by
  unfold op_v94
  pointwise
theorem v100_apply (x : FVec Ideal S8x4096x1024 .f32) (b : Fin 8) (t : Fin 4096) (ch : Fin 1024) : op_v100 x (ix3 b t ch) = Ideal.logistic (x (ix3 b t ch)) := by
  unfold op_v100
  pointwise
  rfl
theorem v102_apply (x : FVec Ideal S8x4096x8x128 .f32) (y : FVec Ideal S8x4096x1024 .f32) (b : Fin 8) (t : Fin 4096) (h : Fin 8) (e : Fin 128) :
    op_v102 x y (ix4 b t h e) = y (ix3 b t ⟨128 * h.val + e.val, by omega⟩) * x (ix4 b t h e) := by
  unfold op_v102
  pointwise
  refine congrArg (fun z : EReal => z * x (ix4 b t h e)) (congrArg y ?_)
  congr 1
  exact Fin.ext (by dsimp only; omega)
theorem v106_apply (x : FVec Ideal S8x4096x8x128 .f32) (b : Fin 8) (t : Fin 4096) (h : Fin 8) : op_v106 x (ix4 b t h 0) = MlSpec.mean fun e => x (ix4 b t h e) := by
  unfold op_v106
  pointwise
  first | rfl | (rw [zero_word, zero_add]; rfl)
theorem v108_apply (x : FVec Ideal S8x4096x8x128 .f32) (y : FVec Ideal S8x4096x8x1 .f32) (b : Fin 8) (t : Fin 4096) (h : Fin 8) (e : Fin 128) : op_v108 x y (ix4 b t h e) = x (ix4 b t h e) - y (ix4 b t h 0) := by
  unfold op_v108
  pointwise
theorem v113_apply (x : FVec Ideal S8x4096x8x128 .f32) (b : Fin 8) (t : Fin 4096) (h : Fin 8) : op_v113 x (ix4 b t h 0) = MlSpec.mean fun e => x (ix4 b t h e) * x (ix4 b t h e) := by
  unfold op_v113
  pointwise
  first | rfl | (rw [zero_word, zero_add]; rfl)
theorem v120_apply (x : FVec Ideal S8x4096x8x128 .f32) (y z : FVec Ideal S8x4096x8x1 .f32) (b : Fin 8) (t : Fin 4096) (h : Fin 8) (e : Fin 128) :
    op_v120 x y z (ix4 b t h e) = (x (ix4 b t h e) - y (ix4 b t h 0)) * Ideal.rsqrt (z (ix4 b t h 0) + Ideal.ofBits .f32 897988541#32) := by
  unfold op_v120
  pointwise
theorem v124_apply (G : FVec Ideal S1024 .f32) (x : FVec Ideal S8x4096x8x128 .f32) (b : Fin 8) (t : Fin 4096) (h : Fin 8) (e : Fin 128) :
    op_v124 G x (ix3 b t ⟨128 * h.val + e.val, by omega⟩) = x (ix4 b t h e) * G (ix1 ⟨128 * h.val + e.val, by omega⟩) := by
  unfold op_v124
  pointwise
theorem v125_apply (x : FVec Ideal S8x4096x1024 .f32) (b : Fin 8) (t : Fin 4096) (ch : Fin 1024) : op_v125 x (ix3 b t ch) = MlSpec.silu (x (ix3 b t ch)) := by
  unfold op_v125
  pointwise
  rfl
theorem v128_apply (x y : FVec Ideal S8x4096x1024 .f32) (b : Fin 8) (n : Fin 64) (h : Fin 8) (t : Fin 64) (e : Fin 128) (r : Fin 512) (hr : r.val = 64 * b.val + n.val) :
    op_v128 x y (ix4 r h t e) = x (ix3 b ⟨64 * n.val + t.val, by omega⟩ ⟨128 * h.val + e.val, by omega⟩) * y (ix3 b ⟨64 * n.val + t.val, by omega⟩ ⟨128 * h.val + e.val, by omega⟩) := by
  unfold op_v128
  pointwise
  have er : (⟨r.val / 64, by omega⟩ : Fin 8) = b := Fin.ext (by dsimp only; omega)
  have et : (⟨r.val % 64 * 64 + t.val, by omega⟩ : Fin 4096) = ⟨64 * n.val + t.val, by omega⟩ := Fin.ext (by dsimp only; omega)
  have ec : (⟨h.val * 128 + e.val, by omega⟩ : Fin 1024) = ⟨128 * h.val + e.val, by omega⟩ := Fin.ext (by dsimp only; omega)
  rw [er, et, ec]

/-- The result, from the loop's outputs and the arguments. -/
def eOut (A : FVec Ideal S8x4096x4112 .f32) (G : FVec Ideal S1024 .f32) (H : FVec Ideal S64x8x8x64x128 .f32) : FVec Ideal S512x8x64x128 .f32 :=
  op_v128 (op_v124 G (op_v120 (op_v102 (op_v94 H) (op_v100 (op_v2 A))) (op_v106 (op_v102 (op_v94 H) (op_v100 (op_v2 A))))
    (op_v113 (op_v108 (op_v102 (op_v94 H) (op_v100 (op_v2 A))) (op_v106 (op_v102 (op_v94 H) (op_v100 (op_v2 A)))))))) (op_v125 (op_v3 A))

/-- With the loop's outputs the chunks' outputs, the result is the chunks' result. -/
theorem eOut_apply (A : FVec Ideal S8x4096x4112 .f32) (W : FVec Ideal S4x1024 .f32) (I Fb : FVec Ideal S8 .f32) (G : FVec Ideal S1024 .f32)
    (H : FVec Ideal S64x8x8x64x128 .f32) (b : Fin 8) (n : Fin 64) (h : Fin 8) (t : Fin 64) (e : Fin 128) (r : Fin 512) (hr : r.val = 64 * b.val + n.val)
    (hH : ∀ e : Fin 128, H (ix5 n b h t e) = MlSpec.out (MlSpec.chunk (MlSpec.ofArrays A W I Fb G) b h n) (MlSpec.stateAt (MlSpec.ofArrays A W I Fb G) b h n) t e) :
    eOut A G H (ix4 r h t e) = MlSpec.result (MlSpec.ofArrays A W I Fb G) b n.val h t e := by
  have en : (⟨(64 * n.val + t.val) / 64, by omega⟩ : Fin 64) = n := Fin.ext (by dsimp only; omega)
  have et : (⟨(64 * n.val + t.val) % 64, by omega⟩ : Fin 64) = t := Fin.ext (by dsimp only; omega)
  have hY : ∀ e : Fin 128, op_v102 (op_v94 H) (op_v100 (op_v2 A)) (ix4 b ⟨64 * n.val + t.val, by omega⟩ h e)
      = Ideal.logistic ((MlSpec.ofArrays A W I Fb G).X b (64 * n.val + t.val) ⟨2048 + 128 * h.val + e.val, by omega⟩)
        * MlSpec.out (MlSpec.chunk (MlSpec.ofArrays A W I Fb G) b h n) (MlSpec.stateAt (MlSpec.ofArrays A W I Fb G) b h n) t e := by
    intro e
    rw [v102_apply, v100_apply, v2_apply, v94_apply, X_eq A W I Fb G b _ (by omega)]
    dsimp only
    rw [en, et, hH e]
    refine congrArg (fun z : EReal => Ideal.logistic z * _) (congrArg A ?_)
    congr 1
    exact Fin.ext (by dsimp only; omega)
  have hZ : op_v3 A (ix3 b ⟨64 * n.val + t.val, by omega⟩ ⟨128 * h.val + e.val, by omega⟩)
      = (MlSpec.ofArrays A W I Fb G).X b (64 * n.val + t.val) ⟨3072 + 128 * h.val + e.val, by omega⟩ := by
    rw [v3_apply, X_eq A W I Fb G b _ (by omega)]
    refine congrArg A ?_
    congr 1
    exact Fin.ext (by dsimp only; omega)
  unfold eOut
  rw [v128_apply _ _ b n h t e r hr, v124_apply, v120_apply, v113_apply, v106_apply, v125_apply, hZ]
  simp only [v108_apply, v106_apply]
  unfold MlSpec.result MlSpec.norm
  simp only [hY]
  rfl

end Cert.ReferenceIdeal.Ml

end
-- ==== Proof.Ml.Mirror.lean ====
/- The mLSTM mixer's point, its vector operations written once per kind rather than once per head, tile and scan step:
   what the run's pieces hold, in these words. -/
module

public import proofs.«01_k».proof.Proof.Ml.Frame

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem

variable {F : FTy → Type} [FloatOps F]

/-! ## Shapes at a head, a tile or a row group -/

theorem inb_tile (i : Fin 33) (b : Fin 8) : ∀ a, S1x1x8x128.size a = 0 ∨ (![0, i.val, b.val, 0] : Fin 4 → Nat) a + (![1, 1, 8, 1] : Fin 4 → Nat) a * (S1x1x8x128.size a - 1) < S1x33x64x128.size a := by
  intro a; right
  match a with
  | ⟨0, _⟩ => exact Nat.zero_lt_one
  | ⟨1, _⟩ => exact i.isLt
  | ⟨2, _⟩ => show b.val + 8 * 7 < 64; omega
  | ⟨3, _⟩ => show 0 + 1 * 127 < 128; omega

theorem slices_qk : ∀ g : Fin 16, S64x1024.Slices ![0, 64 * g.val] S64x64 := by decide
theorem slices_col : ∀ h : Fin 8, S64x128.Slices ![0, h.val] S64x1 := by decide
theorem slices_keyRow : ∀ h : Fin 8, S128x64.Slices ![h.val, 0] S1x64 := by decide
theorem slices_one : ∀ h : Fin 8, S1x128.Slices ![0, h.val] S1x1 := by decide
theorem slices_group : ∀ b : Fin 8, S64x128.Slices ![8 * b.val, 0] S8x128 := by decide
theorem inb_state : ∀ h : Fin 8, ∀ a, (![h.val, 0, 0] : Fin 3 → Nat) a + S1x64x256.size a ≤ S8x64x256.size a := by decide
theorem inb_gnw : ∀ h : Fin 8, ∀ a, (![0, 128 * h.val] : Fin 2 → Nat) a + S1x128.size a ≤ S1x1024.size a := by decide

/-! ## Time shifts and the two scans -/

/-- A column, one step of time later: the rows of the last group move to the first. -/
def shift1 (fill : F .f32) (x : FVec F S64x128 .f32) : FVec F S64x128 .f32 :=
  concatenate S64x128 0 [⟨S8x128, select (cmpi .eq (andi (iota .tc S8x128 32 [0] iota_S8x128_d0_w32) (broadcast S8x128 7#32)) (broadcast S8x128 0#32)) (broadcast S8x128 fill)
      (dynamicRotate 0 1#32 none (extractStridedSlice S8x128 ![56, 0] x slices_S64x128_o56_0_S8x128) rotates_S8x128_d0)⟩,
    ⟨S56x128, extractStridedSlice S56x128 ![0, 0] x slices_S64x128_o0_0_S56x128⟩] concatenates_S8x128_S56x128_S64x128_d0

/-- Two steps later. -/
def shift2 (fill : F .f32) (x : FVec F S64x128 .f32) : FVec F S64x128 .f32 :=
  have l : FVec F S16x128 .f32 := extractStridedSlice S16x128 ![48, 0] x slices_S64x128_o48_0_S16x128
  concatenate S64x128 0 [⟨S16x128, select (cmpi .eq (andi (iota .tc S16x128 32 [0] iota_S16x128_d0_w32) (broadcast S16x128 7#32)) (broadcast S16x128 0#32)) (broadcast S16x128 fill)
      (concatenate S16x128 0 [⟨S8x128, dynamicRotate 0 1#32 none (extractStridedSlice S8x128 ![0, 0] l slices_S16x128_o0_0_S8x128) rotates_S8x128_d0⟩,
        ⟨S8x128, dynamicRotate 0 1#32 none (extractStridedSlice S8x128 ![8, 0] l slices_S16x128_o8_0_S8x128) rotates_S8x128_d0⟩] concatenates_S8x128_S8x128_S16x128_d0)⟩,
    ⟨S48x128, extractStridedSlice S48x128 ![0, 0] x slices_S64x128_o0_0_S48x128⟩] concatenates_S16x128_S48x128_S64x128_d0

/-- Four steps later. -/
def shift4 (fill : F .f32) (x : FVec F S64x128 .f32) : FVec F S64x128 .f32 :=
  have l : FVec F S32x128 .f32 := extractStridedSlice S32x128 ![32, 0] x slices_S64x128_o32_0_S32x128
  concatenate S64x128 0 [⟨S32x128, select (cmpi .eq (andi (iota .tc S32x128 32 [0] iota_S32x128_d0_w32) (broadcast S32x128 7#32)) (broadcast S32x128 0#32)) (broadcast S32x128 fill)
      (concatenate S32x128 0 [⟨S8x128, dynamicRotate 0 1#32 none (extractStridedSlice S8x128 ![0, 0] l slices_S32x128_o0_0_S8x128) rotates_S8x128_d0⟩,
        ⟨S8x128, dynamicRotate 0 1#32 none (extractStridedSlice S8x128 ![8, 0] l slices_S32x128_o8_0_S8x128) rotates_S8x128_d0⟩,
        ⟨S8x128, dynamicRotate 0 1#32 none (extractStridedSlice S8x128 ![16, 0] l slices_S32x128_o16_0_S8x128) rotates_S8x128_d0⟩,
        ⟨S8x128, dynamicRotate 0 1#32 none (extractStridedSlice S8x128 ![24, 0] l slices_S32x128_o24_0_S8x128) rotates_S8x128_d0⟩] concatenates_S8x128_S8x128_S8x128_S8x128_S32x128_d0)⟩,
    ⟨S32x128, extractStridedSlice S32x128 ![0, 0] x slices_S64x128_o0_0_S32x128⟩] concatenates_S32x128_S32x128_S64x128_d0

/-- `8 k` steps later, `k` below eight: each group's rows turn by `k`. -/
def shift8 (k : BitVec 32) (fill : F .f32) (x : FVec F S64x128 .f32) : FVec F S64x128 .f32 :=
  select (cmpi .slt (andi (iota .tc S64x128 32 [0] iota_S64x128_d0_w32) (broadcast S64x128 7#32)) (broadcast S64x128 k)) (broadcast S64x128 fill)
    (concatenate S64x128 0 [⟨S8x128, dynamicRotate 0 k none (extractStridedSlice S8x128 ![0, 0] x slices_S64x128_o0_0_S8x128) rotates_S8x128_d0⟩,
      ⟨S8x128, dynamicRotate 0 k none (extractStridedSlice S8x128 ![8, 0] x slices_S64x128_o8_0_S8x128) rotates_S8x128_d0⟩,
      ⟨S8x128, dynamicRotate 0 k none (extractStridedSlice S8x128 ![16, 0] x slices_S64x128_o16_0_S8x128) rotates_S8x128_d0⟩,
      ⟨S8x128, dynamicRotate 0 k none (extractStridedSlice S8x128 ![24, 0] x slices_S64x128_o24_0_S8x128) rotates_S8x128_d0⟩,
      ⟨S8x128, dynamicRotate 0 k none (extractStridedSlice S8x128 ![32, 0] x slices_S64x128_o32_0_S8x128) rotates_S8x128_d0⟩,
      ⟨S8x128, dynamicRotate 0 k none (extractStridedSlice S8x128 ![40, 0] x slices_S64x128_o40_0_S8x128) rotates_S8x128_d0⟩,
      ⟨S8x128, dynamicRotate 0 k none (extractStridedSlice S8x128 ![48, 0] x slices_S64x128_o48_0_S8x128) rotates_S8x128_d0⟩,
      ⟨S8x128, dynamicRotate 0 k none (extractStridedSlice S8x128 ![56, 0] x slices_S64x128_o56_0_S8x128) rotates_S8x128_d0⟩] concatenates_S8x128_S8x128_S8x128_S8x128_S8x128_S8x128_S8x128_S8x128_S64x128_d0)

/-- The running combination along time, by doubling. -/
def scan (op : FVec F S64x128 .f32 → FVec F S64x128 .f32 → FVec F S64x128 .f32) (fill : F .f32) (x : FVec F S64x128 .f32) : FVec F S64x128 .f32 :=
  have a : FVec F S64x128 .f32 := op x (shift1 fill x)
  have b : FVec F S64x128 .f32 := op a (shift2 fill a)
  have d : FVec F S64x128 .f32 := op b (shift4 fill b)
  have e : FVec F S64x128 .f32 := op d (shift8 1#32 fill d)
  have g : FVec F S64x128 .f32 := op e (shift8 2#32 fill e)
  op g (shift8 4#32 fill g)

/-! ## Reads of the point's blocks -/

variable (c : Dev nD) (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole)
  (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole)
  (x0 : Vec F S1x33x64x128 .f32) (x1 : Vec F S4x1024 .f32) (x2 x3 : Vec F S1x128 .f32) (x4 : Vec F S1x1024 .f32)
  (xs0 : Vec F S24x1024 .f32) (xs1 : Vec F S8x64x256 .f32) (xs2 : Vec F S8x128 .f32)

/-- Every eighth row of tile `i`, from row `b`. -/
def rd0 (i : Fin 33) (b : Fin 8) : Vec F S1x1x8x128 .f32 :=
  View.readAt (Elt F) arg2.view (⟨![0, i.val, b.val, 0], S1x1x8x128.size, ![1, 1, 8, 1], inb_tile i b⟩ : LoadRect S1x33x64x128) (harg2.unread x0)

/-- Tile `i` in the permuted order of rows. -/
def tile (i : Fin 33) : FVec F S64x128 .f32 :=
  concatenate S64x128 0 [⟨S8x128, shapeCast S8x128 (rd0 arg2 harg2 x0 i 0) shapeCasts_S1x1x8x128_S8x128⟩, ⟨S8x128, shapeCast S8x128 (rd0 arg2 harg2 x0 i 1) shapeCasts_S1x1x8x128_S8x128⟩, ⟨S8x128, shapeCast S8x128 (rd0 arg2 harg2 x0 i 2) shapeCasts_S1x1x8x128_S8x128⟩, ⟨S8x128, shapeCast S8x128 (rd0 arg2 harg2 x0 i 3) shapeCasts_S1x1x8x128_S8x128⟩, ⟨S8x128, shapeCast S8x128 (rd0 arg2 harg2 x0 i 4) shapeCasts_S1x1x8x128_S8x128⟩, ⟨S8x128, shapeCast S8x128 (rd0 arg2 harg2 x0 i 5) shapeCasts_S1x1x8x128_S8x128⟩, ⟨S8x128, shapeCast S8x128 (rd0 arg2 harg2 x0 i 6) shapeCasts_S1x1x8x128_S8x128⟩, ⟨S8x128, shapeCast S8x128 (rd0 arg2 harg2 x0 i 7) shapeCasts_S1x1x8x128_S8x128⟩] concatenates_S8x128_S8x128_S8x128_S8x128_S8x128_S8x128_S8x128_S8x128_S64x128_d0

/-- The eight tiles of the queries and keys, side by side. -/
def qkIn : FVec F S64x1024 .f32 :=
  concatenate S64x1024 1 [⟨S64x128, tile arg2 harg2 x0 0⟩, ⟨S64x128, tile arg2 harg2 x0 1⟩, ⟨S64x128, tile arg2 harg2 x0 2⟩, ⟨S64x128, tile arg2 harg2 x0 3⟩, ⟨S64x128, tile arg2 harg2 x0 4⟩, ⟨S64x128, tile arg2 harg2 x0 5⟩, ⟨S64x128, tile arg2 harg2 x0 6⟩, ⟨S64x128, tile arg2 harg2 x0 7⟩] concatenates_S64x128_S64x128_S64x128_S64x128_S64x128_S64x128_S64x128_S64x128_S64x1024_d1

/-- The last three groups of rows: what the next point takes over. -/
def tailOf : FVec F S24x1024 .f32 := extractStridedSlice S24x1024 ![40, 0] (qkIn arg2 harg2 x0) slices_S64x1024_o40_0_S24x1024

def rdHist : Vec F S24x1024 .f32 := View.readAt (Elt F) arg8.view (Rect.unit (s := S24x1024) ![0, 0] S24x1024.size inb_S24x1024_S24x1024_0_0).toLoadRect (harg8.unread xs0)

/-- The rows of the last three groups one step of time later, the point before's where a row's predecessor is there. -/
def rolled : FVec F S24x1024 .f32 :=
  have s : FVec F S24x1024 .f32 := select (cmpi .eq (andi (iota .tc S24x1024 32 [0] iota_S24x1024_d0_w32) (broadcast S24x1024 7#32)) (broadcast S24x1024 7#32)) (rdHist arg8 harg8 xs0) (tailOf arg2 harg2 x0)
  concatenate S24x1024 0 [⟨S8x1024, dynamicRotate 0 1#32 none (extractStridedSlice S8x1024 ![0, 0] s slices_S24x1024_o0_0_S8x1024) rotates_S8x1024_d0⟩,
    ⟨S8x1024, dynamicRotate 0 1#32 none (extractStridedSlice S8x1024 ![8, 0] s slices_S24x1024_o8_0_S8x1024) rotates_S8x1024_d0⟩,
    ⟨S8x1024, dynamicRotate 0 1#32 none (extractStridedSlice S8x1024 ![16, 0] s slices_S24x1024_o16_0_S8x1024) rotates_S8x1024_d0⟩] concatenates_S8x1024_S8x1024_S8x1024_S24x1024_d0

def back1 (r : FVec F S24x1024 .f32) (x : FVec F S64x1024 .f32) : FVec F S64x1024 .f32 :=
  concatenate S64x1024 0 [⟨S8x1024, extractStridedSlice S8x1024 ![16, 0] r slices_S24x1024_o16_0_S8x1024⟩, ⟨S56x1024, extractStridedSlice S56x1024 ![0, 0] x slices_S64x1024_o0_0_S56x1024⟩] concatenates_S8x1024_S56x1024_S64x1024_d0
def back2 (r : FVec F S24x1024 .f32) (x : FVec F S64x1024 .f32) : FVec F S64x1024 .f32 :=
  concatenate S64x1024 0 [⟨S16x1024, extractStridedSlice S16x1024 ![8, 0] r slices_S24x1024_o8_0_S16x1024⟩, ⟨S48x1024, extractStridedSlice S48x1024 ![0, 0] x slices_S64x1024_o0_0_S48x1024⟩] concatenates_S16x1024_S48x1024_S64x1024_d0
def back3 (r : FVec F S24x1024 .f32) (x : FVec F S64x1024 .f32) : FVec F S64x1024 .f32 :=
  concatenate S64x1024 0 [⟨S24x1024, r⟩, ⟨S40x1024, extractStridedSlice S40x1024 ![0, 0] x slices_S64x1024_o0_0_S40x1024⟩] concatenates_S24x1024_S40x1024_S64x1024_d0

def rdW0 : Vec F S1x1024 .f32 := View.readAt (Elt F) arg3.view (Rect.unit (s := S4x1024) ![0, 0] S1x1024.size inb_S4x1024_S1x1024_0_0).toLoadRect (harg3.unread x1)
def rdW1 : Vec F S1x1024 .f32 := View.readAt (Elt F) arg3.view (Rect.unit (s := S4x1024) ![1, 0] S1x1024.size inb_S4x1024_S1x1024_1_0).toLoadRect (harg3.unread x1)
def rdW2 : Vec F S1x1024 .f32 := View.readAt (Elt F) arg3.view (Rect.unit (s := S4x1024) ![2, 0] S1x1024.size inb_S4x1024_S1x1024_2_0).toLoadRect (harg3.unread x1)
def rdW3 : Vec F S1x1024 .f32 := View.readAt (Elt F) arg3.view (Rect.unit (s := S4x1024) ![3, 0] S1x1024.size inb_S4x1024_S1x1024_3_0).toLoadRect (harg3.unread x1)

/-- The convolved rows, -/
def convOf : FVec F S64x1024 .f32 :=
  have x : FVec F S64x1024 .f32 := qkIn arg2 harg2 x0
  have r : FVec F S24x1024 .f32 := rolled arg2 harg2 arg8 harg8 x0 xs0
  addf (addf (addf (mulf (broadcastTo S64x1024 (rdW3 arg3 harg3 x1) broadcasts_S1x1024_S64x1024) x)
    (mulf (broadcastTo S64x1024 (rdW2 arg3 harg3 x1) broadcasts_S1x1024_S64x1024) (back1 r x)))
    (mulf (broadcastTo S64x1024 (rdW1 arg3 harg3 x1) broadcasts_S1x1024_S64x1024) (back2 r x)))
    (mulf (broadcastTo S64x1024 (rdW0 arg3 harg3 x1) broadcasts_S1x1024_S64x1024) (back3 r x))

/-- through `silu`. -/
def siluOf (x : FVec F S64x1024 .f32) : FVec F S64x1024 .f32 := mulf x (logistic x)

def qkOf : FVec F S64x1024 .f32 := siluOf (convOf arg2 harg2 arg3 harg3 arg8 harg8 x0 x1 xs0)

/-! ## The gates -/

def rdI : Vec F S1x128 .f32 := View.readAt (Elt F) arg4.view (Rect.unit (s := S1x128) ![0, 0] S1x128.size inb_S1x128_S1x128_0_0).toLoadRect (harg4.unread x2)
def rdF : Vec F S1x128 .f32 := View.readAt (Elt F) arg5.view (Rect.unit (s := S1x128) ![0, 0] S1x128.size inb_S1x128_S1x128_0_0).toLoadRect (harg5.unread x3)
def rdM : Vec F S1x128 .f32 := View.readAt (Elt F) arg10.view (Rect.unit (s := S8x128) ![0, 0] S1x128.size inb_S8x128_S1x128_0_0).toLoadRect (harg10.unread xs2)

def inGate : FVec F S64x128 .f32 :=
  addf (tile arg2 harg2 x0 32) (broadcastTo S64x128 (shapeCast S1x128 (rdI arg4 harg4 x2) shapeCasts_S1x128_S1x128) broadcasts_S1x128_S64x128)

def zero : F .f32 := Scalar.ofBits .f32 0x00000000#32
def ninf : F .f32 := Scalar.ofBits .f32 0xFF800000#32

/-- The logarithm of the logistic function, as the kernel spells it. -/
def logSig (y : FVec F S64x128 .f32) : FVec F S64x128 .f32 :=
  have n : FVec F S64x128 .f32 := subf (broadcast S64x128 (zero (F := F))) y
  have s : FVec F S64x128 .f32 := subf n (broadcast S64x128 (zero (F := F)))
  subf (broadcast S64x128 (zero (F := F))) (select (cmpf .one s s) (addf n (broadcast S64x128 (zero (F := F))))
    (addf (maximumf n (broadcast S64x128 (zero (F := F)))) (log1p (exp (subf (broadcast S64x128 (zero (F := F))) (absf s))))))

def fGate : FVec F S64x128 .f32 :=
  dynamicRotate 1 120#32 none (logSig (addf (tile arg2 harg2 x0 32) (broadcastTo S64x128 (shapeCast S1x128 (rdF arg5 harg5 x3) shapeCasts_S1x128_S1x128) broadcasts_S1x128_S64x128))) rotates_S64x128_d1

def cumF : FVec F S64x128 .f32 := scan addf (zero (F := F)) (fGate arg2 harg2 arg5 harg5 x0 x3)
def keyOf : FVec F S64x128 .f32 := subf (inGate arg2 harg2 arg4 harg4 x0 x2) (cumF arg2 harg2 arg5 harg5 x0 x3)
def mIntra : FVec F S64x128 .f32 := addf (cumF arg2 harg2 arg5 harg5 x0 x3) (scan maximumf (ninf (F := F)) (keyOf arg2 harg2 arg4 harg4 arg5 harg5 x0 x2 x3))
def mState : FVec F S64x128 .f32 := addf (broadcastTo S64x128 (rdM arg10 harg10 xs2) broadcasts_S1x128_S64x128) (cumF arg2 harg2 arg5 harg5 x0 x3)
def mTot : FVec F S64x128 .f32 := maximumf (mState arg2 harg2 arg5 harg5 arg10 harg10 x0 x3 xs2) (mIntra arg2 harg2 arg4 harg4 arg5 harg5 x0 x2 x3)
def lastRow (x : FVec F S64x128 .f32) : FVec F S1x128 .f32 := extractStridedSlice S1x128 ![63, 0] x slices_S64x128_o63_0_S1x128
def interOf : FVec F S64x128 .f32 := exp (subf (mState arg2 harg2 arg5 harg5 arg10 harg10 x0 x3 xs2) (mTot arg2 harg2 arg4 harg4 arg5 harg5 arg10 harg10 x0 x2 x3 xs2))
def enegOf : FVec F S64x128 .f32 := exp (subf (broadcast S64x128 (zero (F := F))) (mTot arg2 harg2 arg4 harg4 arg5 harg5 arg10 harg10 x0 x2 x3 xs2))
def carryOf : FVec F S1x128 .f32 :=
  exp (subf (addf (rdM arg10 harg10 xs2) (lastRow (cumF arg2 harg2 arg5 harg5 x0 x3))) (lastRow (mTot arg2 harg2 arg4 harg4 arg5 harg5 arg10 harg10 x0 x2 x3 xs2)))
def kwOf : FVec F S64x128 .f32 :=
  exp (subf (addf (keyOf arg2 harg2 arg4 harg4 arg5 harg5 x0 x2 x3) (broadcastTo S64x128 (lastRow (cumF arg2 harg2 arg5 harg5 x0 x3)) broadcasts_S1x128_S64x128))
    (broadcastTo S64x128 (lastRow (mTot arg2 harg2 arg4 harg4 arg5 harg5 arg10 harg10 x0 x2 x3 xs2)) broadcasts_S1x128_S64x128))
def colOf : FVec F S64x128 .f32 := subf (cumF arg2 harg2 arg5 harg5 x0 x3) (mTot arg2 harg2 arg4 harg4 arg5 harg5 arg10 harg10 x0 x2 x3 xs2)
def maxPiece : FVec F S8x128 .f32 :=
  shapeCast S8x128 (broadcastTo S8x128 (shapeCast S1x128 (lastRow (mTot arg2 harg2 arg4 harg4 arg5 harg5 arg10 harg10 x0 x2 x3 xs2)) shapeCasts_S1x128_S1x128) broadcasts_S1x128_S8x128) shapeCasts_S8x128_S8x128

/-- The causal mask over permuted rows and columns. -/
def perm (x : IVec S64x64 32) : IVec S64x64 32 :=
  ori (shli (andi x (broadcast S64x64 7#32)) (broadcast S64x64 3#32)) (shrsi x (broadcast S64x64 3#32))
def mask : IVec S64x64 1 := cmpi .sge (perm (iota .tc S64x64 32 [0] iota_S64x64_d0_w32)) (perm (iota .tc S64x64 32 [1] iota_S64x64_d1_w32))

/-! ## One head -/

def qOf (h : Fin 8) (qk : FVec F S64x1024 .f32) : FVec F S64x64 .f32 := extractStridedSlice S64x64 ![0, 64 * (⟨h.val, by omega⟩ : Fin 16).val] qk (slices_qk ⟨h.val, by omega⟩)
def kOf (h : Fin 8) (qk : FVec F S64x1024 .f32) : FVec F S64x64 .f32 :=
  mulf (extractStridedSlice S64x64 ![0, 64 * (⟨8 + h.val, by omega⟩ : Fin 16).val] qk (slices_qk ⟨8 + h.val, by omega⟩)) (broadcast S64x64 (Scalar.ofBits .f32 0x3E000000#32))
def dotNT (a b : FVec F S64x64 .f32) : FVec F S64x64 .f32 :=
  matmul dot_S64x64_S64x64_S64x64_1_1_0_0_n_n none (truncf .bf16 a bitsLt_bf16_f32) (truncf .bf16 b bitsLt_bf16_f32) (constant S64x64 .f32 0x00000000#32)
def wOf (h : Fin 8) (qk : FVec F S64x1024 .f32) (col key : FVec F S64x128 .f32) : FVec F S64x64 .f32 :=
  mulf (exp (select (mask) (addf (broadcastTo S64x64 (extractStridedSlice S64x1 ![0, h.val] col (slices_col h)) broadcasts_S64x1_S64x64)
      (broadcastTo S64x64 (extractStridedSlice S1x64 ![h.val, 0] (transpose S128x64 [1, 0] key transposes_S64x128_p1_0_S128x64) (slices_keyRow h)) broadcasts_S1x64_S64x64))
      (broadcast S64x64 (ninf (F := F)))))
    (dotNT (qOf h qk) (kOf h qk))
def kwHead (h : Fin 8) (qk : FVec F S64x1024 .f32) (kw : FVec F S64x128 .f32) : FVec F S64x64 .f32 :=
  mulf (kOf h qk) (broadcastTo S64x64 (extractStridedSlice S64x1 ![0, h.val] kw (slices_col h)) broadcasts_S64x1_S64x64)
def vExt (v : FVec F S64x128 .f32) : FVec F S64x256 .f32 :=
  concatenate S64x256 1 [⟨S64x128, v⟩, ⟨S64x128, broadcast S64x128 (Scalar.ofBits .f32 0x3F800000#32 : F .f32)⟩] concatenates_S64x128_S64x128_S64x256_d1
def rdState (h : Fin 8) : FVec F S64x256 .f32 :=
  shapeCast S64x256 (View.readAt (Elt F) arg9.view (Rect.unit (s := S8x64x256) ![h.val, 0, 0] S1x64x256.size (inb_state h)).toLoadRect (harg9.unread xs1) : Vec F S1x64x256 .f32) shapeCasts_S1x64x256_S64x256
def stateNew (h : Fin 8) (st : FVec F S64x256 .f32) (carry : FVec F S1x128 .f32) (kwh : FVec F S64x64 .f32) (v : FVec F S64x256 .f32) : FVec F S64x256 .f32 :=
  addf (mulf st (broadcastTo S64x256 (extractStridedSlice S1x1 ![0, h.val] carry (slices_one h)) broadcasts_S1x1_S64x256))
    (matmul dot_S64x64_S64x256_S64x256_0_0_1_1_n_n none (truncf .bf16 kwh bitsLt_bf16_f32) (truncf .bf16 v bitsLt_bf16_f32) (constant S64x256 .f32 0x00000000#32))
def ndOf (h : Fin 8) (inter : FVec F S64x128 .f32) (q : FVec F S64x64 .f32) (st : FVec F S64x256 .f32) (w : FVec F S64x64 .f32) (v : FVec F S64x256 .f32) : FVec F S64x256 .f32 :=
  addf (mulf (broadcastTo S64x256 (extractStridedSlice S64x1 ![0, h.val] inter (slices_col h)) broadcasts_S64x1_S64x256)
      (matmul dot_S64x64_S64x256_S64x256_1_0_0_1_n_n none (truncf .bf16 q bitsLt_bf16_f32) (truncf .bf16 st bitsLt_bf16_f32) (constant S64x256 .f32 0x00000000#32)))
    (matmul dot_S64x64_S64x256_S64x256_1_0_0_1_n_n none (truncf .bf16 w bitsLt_bf16_f32) (truncf .bf16 v bitsLt_bf16_f32) (constant S64x256 .f32 0x00000000#32))
def hOf (h : Fin 8) (nd : FVec F S64x256 .f32) (eneg : FVec F S64x128 .f32) : FVec F S64x128 .f32 :=
  divf (extractStridedSlice S64x128 ![0, 0] nd slices_S64x256_o0_0_S64x128)
    (maximumf (absf (extractStridedSlice S64x128 ![0, 128] nd slices_S64x256_o0_128_S64x128)) (broadcastTo S64x128 (extractStridedSlice S64x1 ![0, h.val] eneg (slices_col h)) broadcasts_S64x1_S64x128))
def rdGnw (h : Fin 8) : Vec F S1x128 .f32 := View.readAt (Elt F) arg6.view (Rect.unit (s := S1x1024) ![0, 128 * h.val] S1x128.size (inb_gnw h)).toLoadRect (harg6.unread x4)
def meanOf (x : FVec F S64x128 .f32) : FVec F S64x1 .f32 :=
  divf (shapeCast S64x1 (multiReduction .add [1] S64 x 0x00000000#32 reduces_S64x128_S64 (.inl rfl) rfl) shapeCasts_S64_S64x1) (broadcast S64x1 (Scalar.ofBits .f32 0x43000000#32 : F .f32))
/-- The gated head, normalised over its lanes. -/
def normOf (og z ht : FVec F S64x128 .f32) (g : Vec F S1x128 .f32) : FVec F S64x128 .f32 :=
  have x : FVec F S64x128 .f32 := mulf (logistic og) ht
  have mu : FVec F S64x1 .f32 := meanOf x
  have d : FVec F S64x128 .f32 := subf x (broadcastTo S64x128 mu broadcasts_S64x1_S64x128)
  have va : FVec F S64x1 .f32 := meanOf (mulf d d)
  mulf (mulf (mulf (subf x (broadcastTo S64x128 mu broadcasts_S64x1_S64x128)) (broadcastTo S64x128 (rsqrt (addf va (broadcast S64x1 (Scalar.ofBits .f32 0x358637BD#32 : F .f32)))) broadcasts_S64x1_S64x128))
    (broadcastTo S64x128 (shapeCast S1x128 g shapeCasts_S1x128_S1x128) broadcasts_S1x128_S64x128)) (mulf z (logistic z))

/-- Head `h` of the point's result, its rows permuted. -/
def headOut (h : Fin 8) : FVec F S64x128 .f32 :=
  have qk : FVec F S64x1024 .f32 := qkOf arg2 harg2 arg3 harg3 arg8 harg8 x0 x1 xs0
  have v : FVec F S64x256 .f32 := vExt (tile arg2 harg2 x0 ⟨8 + h.val, by omega⟩)
  have nd : FVec F S64x256 .f32 := ndOf h (interOf arg2 harg2 arg4 harg4 arg5 harg5 arg10 harg10 x0 x2 x3 xs2) (qOf h qk) (rdState arg9 harg9 xs1 h)
    (wOf h qk (colOf arg2 harg2 arg4 harg4 arg5 harg5 arg10 harg10 x0 x2 x3 xs2) (keyOf arg2 harg2 arg4 harg4 arg5 harg5 x0 x2 x3)) v
  normOf (tile arg2 harg2 x0 ⟨16 + h.val, by omega⟩) (tile arg2 harg2 x0 ⟨24 + h.val, by omega⟩)
    (hOf h nd (enegOf arg2 harg2 arg4 harg4 arg5 harg5 arg10 harg10 x0 x2 x3 xs2)) (rdGnw arg6 harg6 x4 h)

def outPiece (h b : Fin 8) : FVec F S1x1x8x128 .f32 :=
  shapeCast S1x1x8x128 (extractStridedSlice S8x128 ![8 * b.val, 0] (headOut arg2 harg2 arg3 harg3 arg4 harg4 arg5 harg5 arg6 harg6 arg8 harg8 arg9 harg9 arg10 harg10 x0 x1 x2 x3 x4 xs0 xs1 xs2 h) (slices_group b)) shapeCasts_S8x128_S1x1x8x128

def statePiece (h : Fin 8) : FVec F S1x64x256 .f32 :=
  have qk : FVec F S64x1024 .f32 := qkOf arg2 harg2 arg3 harg3 arg8 harg8 x0 x1 xs0
  shapeCast S1x64x256 (stateNew h (rdState arg9 harg9 xs1 h) (carryOf arg2 harg2 arg4 harg4 arg5 harg5 arg10 harg10 x0 x2 x3 xs2)
    (kwHead h qk (kwOf arg2 harg2 arg4 harg4 arg5 harg5 arg10 harg10 x0 x2 x3 xs2)) (vExt (tile arg2 harg2 x0 ⟨8 + h.val, by omega⟩))) shapeCasts_S64x256_S1x64x256

end Cert.KernelIdeal.Ml

end
-- ==== Proof.Ml.Time.lean ====
/- The permuted order of a chunk's rows, and the kernel's time shifts and scans read in the order of time. -/
module

public import proofs.«01_k».proof.Proof.Ml.Mirror
public import Idealize.ShloMosaic.Lib.Pointwise
public import Idealize.ShloMosaic.Lib.WholeRead

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem

/-- The row a time of the chunk sits in. -/
def rw (t : Fin 64) : Fin 64 := ⟨t.val % 8 * 8 + t.val / 8, by omega⟩

theorem rw_rw (t : Fin 64) : rw (rw t) = t := Fin.ext (by show (t.val % 8 * 8 + t.val / 8) % 8 * 8 + (t.val % 8 * 8 + t.val / 8) / 8 = t.val; omega)

/-- Rows and times, one to one. -/
def rwEquiv : Fin 64 ≃ Fin 64 := ⟨rw, rw, rw_rw, rw_rw⟩

/-- A sum over the rows is the sum over the times. -/
theorem sum_rows (f : Fin 64 → EReal) : ∑ p, f p = ∑ t, f (rw t) := (Equiv.sum_comp rwEquiv f).symm

theorem low_eq (v : ℕ) (p : ℕ) (hp : p < 64) (hv : v < 8) : IntOp.cmpi .eq (IntOp.andi (BitVec.ofNat 32 p) 7#32) (BitVec.ofNat 32 v) = BitVec.ofBool (decide (p % 8 = v)) := by
  have h : ∀ v : Fin 8, ∀ p : Fin 64, IntOp.cmpi .eq (IntOp.andi (BitVec.ofNat 32 p.val) 7#32) (BitVec.ofNat 32 v.val) = BitVec.ofBool (decide (p.val % 8 = v.val)) := by decide
  exact h ⟨v, hv⟩ ⟨p, hp⟩

theorem low_lt (v : ℕ) (p : ℕ) (hp : p < 64) (hv : v < 8) : IntOp.cmpi .slt (IntOp.andi (BitVec.ofNat 32 p) 7#32) (BitVec.ofNat 32 v) = BitVec.ofBool (decide (p % 8 < v)) := by
  have h : ∀ v : Fin 8, ∀ p : Fin 64, IntOp.cmpi .slt (IntOp.andi (BitVec.ofNat 32 p.val) 7#32) (BitVec.ofNat 32 v.val) = BitVec.ofBool (decide (p.val % 8 < v.val)) := by decide
  exact h ⟨v, hv⟩ ⟨p, hp⟩

/-- The value `d` steps of time before `t`, or the filler. -/
def before (d : ℕ) (fill : EReal) (X : Fin 64 → EReal) (t : Fin 64) : EReal := if h : d ≤ t.val then X ⟨t.val - d, by omega⟩ else fill

theorem shift1_apply (fill : EReal) (x : FVec Ideal S64x128 .f32) (t : Fin 64) (l : Fin 128) :
    shift1 (F := Ideal) fill x (ix2 (rw t) l) = before 1 fill (fun t => x (ix2 (rw t) l)) t := by
  generalize hy : before 1 fill (fun t => x (ix2 (rw t) l)) t = y
  generalize hp : rw t = p
  unfold shift1
  pointwise
  subst hp hy
  obtain ⟨t, ht⟩ := t
  unfold before
  interval_cases t <;> sl_kernel_rfl

theorem shift2_apply (fill : EReal) (x : FVec Ideal S64x128 .f32) (t : Fin 64) (l : Fin 128) :
    shift2 (F := Ideal) fill x (ix2 (rw t) l) = before 2 fill (fun t => x (ix2 (rw t) l)) t := by
  generalize hy : before 2 fill (fun t => x (ix2 (rw t) l)) t = y
  generalize hp : rw t = p
  unfold shift2
  pointwise
  subst hp hy
  obtain ⟨t, ht⟩ := t
  unfold before
  interval_cases t <;> sl_kernel_rfl

theorem shift4_apply (fill : EReal) (x : FVec Ideal S64x128 .f32) (t : Fin 64) (l : Fin 128) :
    shift4 (F := Ideal) fill x (ix2 (rw t) l) = before 4 fill (fun t => x (ix2 (rw t) l)) t := by
  generalize hy : before 4 fill (fun t => x (ix2 (rw t) l)) t = y
  generalize hp : rw t = p
  unfold shift4
  pointwise
  subst hp hy
  obtain ⟨t, ht⟩ := t
  unfold before
  interval_cases t <;> sl_kernel_rfl

theorem shift8_1_apply (fill : EReal) (x : FVec Ideal S64x128 .f32) (t : Fin 64) (l : Fin 128) :
    shift8 (F := Ideal) 1#32 fill x (ix2 (rw t) l) = before 8 fill (fun t => x (ix2 (rw t) l)) t := by
  generalize hy : before 8 fill (fun t => x (ix2 (rw t) l)) t = y
  generalize hp : rw t = p
  unfold shift8
  pointwise
  subst hp hy
  obtain ⟨t, ht⟩ := t
  unfold before
  interval_cases t <;> sl_kernel_rfl

theorem shift8_2_apply (fill : EReal) (x : FVec Ideal S64x128 .f32) (t : Fin 64) (l : Fin 128) :
    shift8 (F := Ideal) 2#32 fill x (ix2 (rw t) l) = before 16 fill (fun t => x (ix2 (rw t) l)) t := by
  generalize hy : before 16 fill (fun t => x (ix2 (rw t) l)) t = y
  generalize hp : rw t = p
  unfold shift8
  pointwise
  subst hp hy
  obtain ⟨t, ht⟩ := t
  unfold before
  interval_cases t <;> sl_kernel_rfl

theorem shift8_4_apply (fill : EReal) (x : FVec Ideal S64x128 .f32) (t : Fin 64) (l : Fin 128) :
    shift8 (F := Ideal) 4#32 fill x (ix2 (rw t) l) = before 32 fill (fun t => x (ix2 (rw t) l)) t := by
  generalize hy : before 32 fill (fun t => x (ix2 (rw t) l)) t = y
  generalize hp : rw t = p
  unfold shift8
  pointwise
  subst hp hy
  obtain ⟨t, ht⟩ := t
  unfold before
  interval_cases t <;> sl_kernel_rfl

/-! ## Windows of time -/

/-- The last `n` times up to `t`. -/
def win (n : ℕ) (t : Fin 64) : Finset (Fin 64) := Finset.univ.filter fun j => j.val ≤ t.val ∧ t.val < j.val + n

theorem mem_win (n : ℕ) (t j : Fin 64) : j ∈ win n t ↔ j.val ≤ t.val ∧ t.val < j.val + n := by simp [win]

theorem win_one (t : Fin 64) : win 1 t = {t} := by
  ext j; rw [mem_win, Finset.mem_singleton, Fin.ext_iff]; omega

theorem win_double (d : ℕ) (t : Fin 64) (h : d ≤ t.val) : win (2 * d) t = win d t ∪ win d ⟨t.val - d, by omega⟩ := by
  ext j
  rw [Finset.mem_union, mem_win, mem_win, mem_win]
  show _ ↔ _ ∨ (j.val ≤ t.val - d ∧ t.val - d < j.val + d)
  omega

theorem win_disj (d : ℕ) (t : Fin 64) (h : d ≤ t.val) : Disjoint (win d t) (win d ⟨t.val - d, by omega⟩) := by
  rw [Finset.disjoint_left]
  intro j hj hj'
  rw [mem_win] at hj hj'
  change j.val ≤ t.val - d ∧ t.val - d < j.val + d at hj'
  omega

theorem win_short (d : ℕ) (t : Fin 64) (h : ¬ d ≤ t.val) : win (2 * d) t = win d t := by
  ext j
  rw [mem_win, mem_win]
  omega

theorem sum_double (d : ℕ) (X : Fin 64 → EReal) (t : Fin 64) :
    (∑ j ∈ win d t, X j) + before d 0 (fun t => ∑ j ∈ win d t, X j) t = ∑ j ∈ win (2 * d) t, X j := by
  unfold before
  split
  case isTrue h => rw [win_double d t h, Finset.sum_union (win_disj d t h)]
  case isFalse h => rw [win_short d t h, add_zero]

theorem sup_double (d : ℕ) (X : Fin 64 → EReal) (t : Fin 64) :
    max ((win d t).sup X) (before d ⊥ (fun t => (win d t).sup X) t) = (win (2 * d) t).sup X := by
  unfold before
  split
  case isTrue h => rw [win_double d t h, Finset.sup_union]
  case isFalse h => rw [win_short d t h, max_bot_right]

/-- The times up to `t`. -/
def upTo (t : Fin 64) : Finset (Fin 64) := win 64 t

theorem mem_upTo (t j : Fin 64) : j ∈ upTo t ↔ j ≤ t := by
  rw [upTo, mem_win, Fin.le_def]; omega

theorem zero_eq : zero (F := Ideal) = (0 : EReal) := by unfold zero; pointwise
theorem ninf_eq : ninf (F := Ideal) = (⊥ : EReal) := by unfold ninf; exact (show Ideal.ofBits .f32 0xFF800000#32 = ⊥ by simp [Ideal.ofBits, Ideal.ieee])

theorem stage_add (d : ℕ) (sh : Ideal .f32 → FVec Ideal S64x128 .f32 → FVec Ideal S64x128 .f32) (l : Fin 128)
    (hs : ∀ fill x t, sh fill x (ix2 (rw t) l) = before d fill (fun t => x (ix2 (rw t) l)) t) (X : Fin 64 → EReal) (x : FVec Ideal S64x128 .f32)
    (hx : ∀ t, x (ix2 (rw t) l) = ∑ j ∈ win d t, X j) (t : Fin 64) : addf x (sh (zero (F := Ideal)) x) (ix2 (rw t) l) = ∑ j ∈ win (2 * d) t, X j := by
  show x (ix2 (rw t) l) + sh (zero (F := Ideal)) x (ix2 (rw t) l) = _
  rw [hs, zero_eq]
  simp only [hx]
  exact sum_double d X t

theorem stage_max (d : ℕ) (sh : Ideal .f32 → FVec Ideal S64x128 .f32 → FVec Ideal S64x128 .f32) (l : Fin 128)
    (hs : ∀ fill x t, sh fill x (ix2 (rw t) l) = before d fill (fun t => x (ix2 (rw t) l)) t) (X : Fin 64 → EReal) (x : FVec Ideal S64x128 .f32)
    (hx : ∀ t, x (ix2 (rw t) l) = (win d t).sup X) (t : Fin 64) : maximumf x (sh (ninf (F := Ideal)) x) (ix2 (rw t) l) = (win (2 * d) t).sup X := by
  show max (x (ix2 (rw t) l)) (sh (ninf (F := Ideal)) x (ix2 (rw t) l)) = _
  rw [hs, ninf_eq]
  simp only [hx]
  exact sup_double d X t

/-- The running sum. -/
theorem scan_add (x : FVec Ideal S64x128 .f32) (t : Fin 64) (l : Fin 128) :
    scan addf (zero (F := Ideal)) x (ix2 (rw t) l) = ∑ j ∈ upTo t, x (ix2 (rw j) l) :=
  stage_add 32 (shift8 4#32) l (fun f x t => shift8_4_apply f x t l) _ _ (stage_add 16 (shift8 2#32) l (fun f x t => shift8_2_apply f x t l) _ _
    (stage_add 8 (shift8 1#32) l (fun f x t => shift8_1_apply f x t l) _ _ (stage_add 4 shift4 l (fun f x t => shift4_apply f x t l) _ _
      (stage_add 2 shift2 l (fun f x t => shift2_apply f x t l) _ _ (stage_add 1 shift1 l (fun f x t => shift1_apply f x t l) (fun j => x (ix2 (rw j) l)) x
        (fun t => by rw [win_one, Finset.sum_singleton])))))) t

/-- The running maximum. -/
theorem scan_max (x : FVec Ideal S64x128 .f32) (t : Fin 64) (l : Fin 128) :
    scan maximumf (ninf (F := Ideal)) x (ix2 (rw t) l) = (upTo t).sup fun j => x (ix2 (rw j) l) :=
  stage_max 32 (shift8 4#32) l (fun f x t => shift8_4_apply f x t l) _ _ (stage_max 16 (shift8 2#32) l (fun f x t => shift8_2_apply f x t l) _ _
    (stage_max 8 (shift8 1#32) l (fun f x t => shift8_1_apply f x t l) _ _ (stage_max 4 shift4 l (fun f x t => shift4_apply f x t l) _ _
      (stage_max 2 shift2 l (fun f x t => shift2_apply f x t l) _ _ (stage_max 1 shift1 l (fun f x t => shift1_apply f x t l) (fun j => x (ix2 (rw j) l)) x
        (fun t => by rw [win_one, Finset.sup_singleton])))))) t

end Cert.KernelIdeal.Ml

end
-- ==== Proof.Ml.Rows.lean ====
/- The kernel's tiles, taps and gates read in the order of time. -/
module

public import proofs.«01_k».proof.Proof.Ml.Time
public import proofs.«01_k».proof.Proof.Ml.Spec

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem

variable (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole)
  (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole)
  (x0 : Vec Ideal S1x33x64x128 .f32) (x1 : Vec Ideal S4x1024 .f32) (x2 x3 : Vec Ideal S1x128 .f32) (x4 : Vec Ideal S1x1024 .f32)
  (xs0 : Vec Ideal S24x1024 .f32) (xs1 : Vec Ideal S8x64x256 .f32) (xs2 : Vec Ideal S8x128 .f32)

theorem rd0_apply (i : Fin 33) (b : Fin 8) (r : Fin 8) (l : Fin 128) : rd0 arg2 harg2 x0 i b (ix4 0 0 r l) = x0 (ix4 0 i ⟨b.val + 8 * r.val, by omega⟩ l) := by
  unfold rd0
  rw [harg2.readAt_unread]
  refine congrArg x0 (funext fun a => Fin.ext ?_)
  match a with
  | ⟨0, _⟩ => rfl
  | ⟨1, _⟩ => show i.val + 1 * 0 = i.val; omega
  | ⟨2, _⟩ => rfl
  | ⟨3, _⟩ => show 0 + 1 * l.val = l.val; omega

theorem tile_apply (i : Fin 33) (t : Fin 64) (l : Fin 128) : tile arg2 harg2 x0 i (ix2 (rw t) l) = x0 (ix4 0 i t l) := by
  have key : rd0 arg2 harg2 x0 i ⟨t.val % 8, by omega⟩ (ix4 0 0 ⟨t.val / 8, by omega⟩ l) = x0 (ix4 0 i t l) := by
    rw [rd0_apply]
    exact congrArg x0 (congrArg (fun t => ix4 0 i t l) (Fin.ext (by dsimp only; omega)))
  rw [← key]
  unfold tile
  generalize rd0 arg2 harg2 x0 i = g
  generalize hy : g ⟨t.val % 8, by omega⟩ (ix4 0 0 ⟨t.val / 8, by omega⟩ l) = y
  generalize hp : rw t = p
  pointwise
  subst hp hy
  obtain ⟨t, ht⟩ := t
  clear key
  interval_cases t <;> sl_kernel_rfl

theorem qkIn_apply (p : Fin 64) (g : Fin 8) (l : Fin 128) : qkIn arg2 harg2 x0 (ix2 p ⟨128 * g.val + l.val, by omega⟩) = tile arg2 harg2 x0 ⟨g.val, by omega⟩ (ix2 p l) := by
  unfold qkIn
  generalize tile arg2 harg2 x0 = f
  generalize hy : f ⟨g.val, by omega⟩ (ix2 p l) = y
  generalize hc : (⟨128 * g.val + l.val, by omega⟩ : Fin 1024) = ch
  pointwise
  subst hc hy
  obtain ⟨g, hg⟩ := g
  dsimp only
  repeat' split
  all_goals
    interval_cases g
    all_goals first
      | (exfalso; omega)
      | exact congrArg (f _) (congrArg (ix2 p) (Fin.ext (by dsimp only; omega)))

/-- Channel `ch` of the queries and keys at time `t` of a block. -/
def rowAt (x0 : Vec Ideal S1x33x64x128 .f32) (t : Fin 64) (ch : Fin 1024) : EReal := x0 (ix4 0 ⟨ch.val / 128, by omega⟩ t ⟨ch.val % 128, by omega⟩)

theorem qkIn_row (t : Fin 64) (ch : Fin 1024) : qkIn arg2 harg2 x0 (ix2 (rw t) ch) = rowAt x0 t ch := by
  have h := qkIn_apply arg2 harg2 x0 (rw t) ⟨ch.val / 128, by omega⟩ ⟨ch.val % 128, by omega⟩
  rw [tile_apply] at h
  refine Eq.trans ?_ h
  exact congrArg (fun c => qkIn arg2 harg2 x0 (ix2 (rw t) c)) (Fin.ext (by dsimp only; omega))

theorem rdHist_apply (p : Fin 24) (ch : Fin 1024) : rdHist arg8 harg8 xs0 (ix2 p ch) = xs0 (ix2 p ch) := by
  unfold rdHist
  rw [harg8.readAt_unread]
  refine congrArg xs0 (funext fun a => Fin.ext ?_)
  match a with
  | ⟨0, _⟩ => show 0 + 1 * p.val = p.val; omega
  | ⟨1, _⟩ => show 0 + 1 * ch.val = ch.val; omega

/-- `d` steps before time `t`: in the block, or in the last three times of the block before. -/
def prev (x0 : Vec Ideal S1x33x64x128 .f32) (xs0 : Vec Ideal S24x1024 .f32) (d : ℕ) (hd : d ≤ 3) (t : Fin 64) (ch : Fin 1024) : EReal :=
  if h : d ≤ t.val then rowAt x0 ⟨t.val - d, by omega⟩ ch else xs0 (ix2 ⟨8 * (3 + t.val - d) + 7, by omega⟩ ch)

theorem tail_apply (e : Fin 3) (ch : Fin 1024) : tailOf arg2 harg2 x0 (ix2 ⟨8 * e.val + 7, by omega⟩ ch) = rowAt x0 ⟨61 + e.val, by omega⟩ ch := by
  rw [← qkIn_row arg2 harg2]
  unfold tailOf
  generalize qkIn arg2 harg2 x0 = f
  generalize hy : f (ix2 (rw ⟨61 + e.val, by omega⟩) ch) = y
  generalize hp : (⟨8 * e.val + 7, by omega⟩ : Fin 24) = p
  pointwise
  subst hp hy
  fin_cases e <;> rfl

/-- The rolled rows and the block's own, `d` steps back. -/
theorem back_row (t : Fin 64) (ch : Fin 1024) :
    (back1 (rolled arg2 harg2 arg8 harg8 x0 xs0) (qkIn arg2 harg2 x0) (ix2 (rw t) ch) = prev x0 xs0 1 (by omega) t ch) ∧
    (back2 (rolled arg2 harg2 arg8 harg8 x0 xs0) (qkIn arg2 harg2 x0) (ix2 (rw t) ch) = prev x0 xs0 2 (by omega) t ch) ∧
    (back3 (rolled arg2 harg2 arg8 harg8 x0 xs0) (qkIn arg2 harg2 x0) (ix2 (rw t) ch) = prev x0 xs0 3 (by omega) t ch) := by
  have hq : rowAt x0 = fun t ch => qkIn arg2 harg2 x0 (ix2 (rw t) ch) := funext fun t => funext fun ch => (qkIn_row arg2 harg2 x0 t ch).symm
  have hr : ∀ p, xs0 (ix2 p ch) = rdHist arg8 harg8 xs0 (ix2 p ch) := fun p => (rdHist_apply arg8 harg8 xs0 p ch).symm
  unfold prev rolled tailOf
  rw [hq]
  simp only [hr]
  generalize qkIn arg2 harg2 x0 = f
  generalize rdHist arg8 harg8 xs0 = g
  refine ⟨?_, ?_, ?_⟩
  · generalize hy : (if h : 1 ≤ t.val then _ else _ : EReal) = y
    generalize hp : rw t = p
    unfold back1
    pointwise
    subst hp hy
    obtain ⟨t, ht⟩ := t
    interval_cases t <;> sl_kernel_rfl
  · generalize hy : (if h : 2 ≤ t.val then _ else _ : EReal) = y
    generalize hp : rw t = p
    unfold back2
    pointwise
    subst hp hy
    obtain ⟨t, ht⟩ := t
    interval_cases t <;> sl_kernel_rfl
  · generalize hy : (if h : 3 ≤ t.val then _ else _ : EReal) = y
    generalize hp : rw t = p
    unfold back3
    pointwise
    subst hp hy
    obtain ⟨t, ht⟩ := t
    interval_cases t <;> sl_kernel_rfl

theorem rdW0_apply (ch : Fin 1024) : rdW0 arg3 harg3 x1 (ix2 0 ch) = x1 (ix2 0 ch) := by
  unfold rdW0; rw [harg3.readAt_unread]; refine congrArg x1 (funext fun a => Fin.ext ?_)
  match a with
  | ⟨0, _⟩ => rfl
  | ⟨1, _⟩ => show 0 + 1 * ch.val = ch.val; omega
theorem rdW1_apply (ch : Fin 1024) : rdW1 arg3 harg3 x1 (ix2 0 ch) = x1 (ix2 1 ch) := by
  unfold rdW1; rw [harg3.readAt_unread]; refine congrArg x1 (funext fun a => Fin.ext ?_)
  match a with
  | ⟨0, _⟩ => rfl
  | ⟨1, _⟩ => show 0 + 1 * ch.val = ch.val; omega
theorem rdW2_apply (ch : Fin 1024) : rdW2 arg3 harg3 x1 (ix2 0 ch) = x1 (ix2 2 ch) := by
  unfold rdW2; rw [harg3.readAt_unread]; refine congrArg x1 (funext fun a => Fin.ext ?_)
  match a with
  | ⟨0, _⟩ => rfl
  | ⟨1, _⟩ => show 0 + 1 * ch.val = ch.val; omega
theorem rdW3_apply (ch : Fin 1024) : rdW3 arg3 harg3 x1 (ix2 0 ch) = x1 (ix2 3 ch) := by
  unfold rdW3; rw [harg3.readAt_unread]; refine congrArg x1 (funext fun a => Fin.ext ?_)
  match a with
  | ⟨0, _⟩ => rfl
  | ⟨1, _⟩ => show 0 + 1 * ch.val = ch.val; omega
theorem rdI_apply (l : Fin 128) : rdI arg4 harg4 x2 (ix2 0 l) = x2 (ix2 0 l) := by
  unfold rdI; rw [harg4.readAt_unread]; refine congrArg x2 (funext fun a => Fin.ext ?_)
  match a with
  | ⟨0, _⟩ => rfl
  | ⟨1, _⟩ => show 0 + 1 * l.val = l.val; omega
theorem rdF_apply (l : Fin 128) : rdF arg5 harg5 x3 (ix2 0 l) = x3 (ix2 0 l) := by
  unfold rdF; rw [harg5.readAt_unread]; refine congrArg x3 (funext fun a => Fin.ext ?_)
  match a with
  | ⟨0, _⟩ => rfl
  | ⟨1, _⟩ => show 0 + 1 * l.val = l.val; omega
theorem rdM_apply (l : Fin 128) : rdM arg10 harg10 xs2 (ix2 0 l) = xs2 (ix2 0 l) := by
  unfold rdM; rw [harg10.readAt_unread]; refine congrArg xs2 (funext fun a => Fin.ext ?_)
  match a with
  | ⟨0, _⟩ => rfl
  | ⟨1, _⟩ => show 0 + 1 * l.val = l.val; omega
theorem rdGnw_apply (h : Fin 8) (l : Fin 128) : rdGnw arg6 harg6 x4 h (ix2 0 l) = x4 (ix2 0 ⟨128 * h.val + l.val, by omega⟩) := by
  unfold rdGnw; rw [harg6.readAt_unread]; refine congrArg x4 (funext fun a => Fin.ext ?_)
  match a with
  | ⟨0, _⟩ => rfl
  | ⟨1, _⟩ => show 128 * h.val + 1 * l.val = 128 * h.val + l.val; omega
theorem state_cast (g : Vec Ideal S1x64x256 .f32) (d : Fin 64) (l : Fin 256) :
    (shapeCast S64x256 g shapeCasts_S1x64x256_S64x256 : FVec Ideal S64x256 .f32) (ix2 d l) = g (ix3 0 d l) := by pointwise
theorem state_read (h : Fin 8) (d : Fin 64) (l : Fin 256) :
    (View.readAt (Elt Ideal) arg9.view (Rect.unit (s := S8x64x256) ![h.val, 0, 0] S1x64x256.size (inb_state h)).toLoadRect (harg9.unread xs1) : Vec Ideal S1x64x256 .f32) (ix3 0 d l) = xs1 (ix3 h d l) := by
  rw [harg9.readAt_unread]
  refine congrArg xs1 (funext fun a => Fin.ext ?_)
  match a with
  | ⟨0, _⟩ => show h.val + 1 * 0 = h.val; omega
  | ⟨1, _⟩ => show 0 + 1 * d.val = d.val; omega
  | ⟨2, _⟩ => show 0 + 1 * l.val = l.val; omega
theorem rdState_apply (h : Fin 8) (d : Fin 64) (l : Fin 256) : rdState arg9 harg9 xs1 h (ix2 d l) = xs1 (ix3 h d l) :=
  (state_cast _ d l).trans (state_read arg9 harg9 xs1 h d l)

/-- The convolved channel at a time, -/
def convAt (x0 : Vec Ideal S1x33x64x128 .f32) (x1 : Vec Ideal S4x1024 .f32) (xs0 : Vec Ideal S24x1024 .f32) (t : Fin 64) (ch : Fin 1024) : EReal :=
  x1 (ix2 3 ch) * prev x0 xs0 0 (by omega) t ch + x1 (ix2 2 ch) * prev x0 xs0 1 (by omega) t ch + x1 (ix2 1 ch) * prev x0 xs0 2 (by omega) t ch + x1 (ix2 0 ch) * prev x0 xs0 3 (by omega) t ch

theorem qkOf_row (t : Fin 64) (ch : Fin 1024) : qkOf arg2 harg2 arg3 harg3 arg8 harg8 x0 x1 xs0 (ix2 (rw t) ch) = MlSpec.silu (convAt x0 x1 xs0 t ch) := by
  obtain ⟨h1, h2, h3⟩ := back_row arg2 harg2 arg8 harg8 x0 xs0 t ch
  have h0 := qkIn_row arg2 harg2 x0 t ch
  have e : convOf arg2 harg2 arg3 harg3 arg8 harg8 x0 x1 xs0 (ix2 (rw t) ch) = convAt x0 x1 xs0 t ch := by
    unfold convOf convAt
    generalize back1 (rolled arg2 harg2 arg8 harg8 x0 xs0) (qkIn arg2 harg2 x0) = a1 at *
    generalize back2 (rolled arg2 harg2 arg8 harg8 x0 xs0) (qkIn arg2 harg2 x0) = a2 at *
    generalize back3 (rolled arg2 harg2 arg8 harg8 x0 xs0) (qkIn arg2 harg2 x0) = a3 at *
    generalize qkIn arg2 harg2 x0 = a0 at *
    have g0 : prev x0 xs0 0 (by omega) t ch = rowAt x0 t ch := rfl
    rw [g0, ← h0, ← h1, ← h2, ← h3, ← rdW0_apply arg3 harg3 x1 ch, ← rdW1_apply arg3 harg3 x1 ch, ← rdW2_apply arg3 harg3 x1 ch, ← rdW3_apply arg3 harg3 x1 ch]
    generalize rw t = p
    pointwise
  unfold qkOf siluOf MlSpec.silu
  rw [← e]
  generalize convOf arg2 harg2 arg3 harg3 arg8 harg8 x0 x1 xs0 = a
  generalize rw t = p
  pointwise

end Cert.KernelIdeal.Ml

end
-- ==== Proof.Ml.Gates.lean ====
/- The kernel's gates, prefix sums and stabilisers: lane `h` holds head `h`'s. -/
module

public import proofs.«01_k».proof.Proof.Ml.Rows

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem

variable (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole)
  (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole)
  (x0 : Vec Ideal S1x33x64x128 .f32) (x1 : Vec Ideal S4x1024 .f32) (x2 x3 : Vec Ideal S1x128 .f32) (x4 : Vec Ideal S1x1024 .f32)
  (xs0 : Vec Ideal S24x1024 .f32) (xs1 : Vec Ideal S8x64x256 .f32) (xs2 : Vec Ideal S8x128 .f32)

open MlSpec (In State)

/-- Head `h`'s chunk, from the point's blocks. -/
def blockIn (x0 : Vec Ideal S1x33x64x128 .f32) (x1 : Vec Ideal S4x1024 .f32) (x2 x3 : Vec Ideal S1x128 .f32) (xs0 : Vec Ideal S24x1024 .f32) (h : Fin 8) : In where
  q t d := MlSpec.silu (convAt x0 x1 xs0 t ⟨64 * h.val + d.val, by omega⟩)
  k t d := MlSpec.silu (convAt x0 x1 xs0 t ⟨512 + 64 * h.val + d.val, by omega⟩) * Ideal.ofBits .f32 1040187392#32
  v t e := x0 (ix4 0 ⟨8 + h.val, by omega⟩ t e)
  i t := x0 (ix4 0 32 t ⟨h.val, by omega⟩) + x2 (ix2 0 ⟨h.val, by omega⟩)
  f t := MlSpec.lsig (x0 (ix4 0 32 t ⟨8 + h.val, by omega⟩) + x3 (ix2 0 ⟨8 + h.val, by omega⟩))

/-- A head's lane. -/
abbrev ln (h : Fin 8) : Fin 128 := ⟨h.val, by omega⟩

theorem upTo_eq (t : Fin 64) : upTo t = MlSpec.upTo t := by ext j; rw [mem_upTo, MlSpec.mem_upTo]

theorem logSig_apply (y : FVec Ideal S64x128 .f32) (p : Fin 64) (l : Fin 128) : logSig y (ix2 p l) = MlSpec.lsig (y (ix2 p l)) := by
  unfold logSig zero MlSpec.lsig MlSpec.abs
  pointwise
  simp only [zero_sub, sub_zero, ne_eq, not_true_eq_false, if_false, ite_false]

theorem row_bcast (x : FVec Ideal S1x128 .f32) (p : Fin 64) (l : Fin 128) : (broadcastTo S64x128 x broadcasts_S1x128_S64x128 : FVec Ideal S64x128 .f32) (ix2 p l) = x (ix2 0 l) := by pointwise
theorem row_cast (x : FVec Ideal S1x128 .f32) (l : Fin 128) : (shapeCast S1x128 x shapeCasts_S1x128_S1x128 : FVec Ideal S1x128 .f32) (ix2 0 l) = x (ix2 0 l) := by pointwise
theorem last_apply (x : FVec Ideal S64x128 .f32) (l : Fin 128) : lastRow x (ix2 0 l) = x (ix2 (rw 63) l) := by
  unfold lastRow
  generalize hp : rw 63 = p
  pointwise
  subst hp
  rfl

theorem inGate_row (t : Fin 64) (h : Fin 8) : inGate arg2 harg2 arg4 harg4 x0 x2 (ix2 (rw t) (ln h)) = (blockIn x0 x1 x2 x3 xs0 h).i t := by
  show tile arg2 harg2 x0 32 (ix2 (rw t) (ln h)) + _ = _
  rw [tile_apply, row_bcast, row_cast, rdI_apply]
  rfl

theorem rot_apply (x : FVec Ideal S64x128 .f32) (p : Fin 64) (h : Fin 8) :
    (dynamicRotate 1 120#32 none x rotates_S64x128_d1 : FVec Ideal S64x128 .f32) (ix2 p (ln h)) = x (ix2 p ⟨8 + h.val, by omega⟩) := by
  generalize hy : x (ix2 p ⟨8 + h.val, by omega⟩) = y
  generalize hp : ln h = l
  pointwise
  subst hp hy
  fin_cases h <;> rfl

theorem fGate_row (t : Fin 64) (h : Fin 8) : fGate arg2 harg2 arg5 harg5 x0 x3 (ix2 (rw t) (ln h)) = (blockIn x0 x1 x2 x3 xs0 h).f t := by
  unfold fGate
  rw [rot_apply, logSig_apply]
  refine congrArg MlSpec.lsig ?_
  show tile arg2 harg2 x0 32 (ix2 (rw t) _) + _ = _
  rw [tile_apply, row_bcast, row_cast, rdF_apply]

theorem cumF_row (t : Fin 64) (h : Fin 8) : cumF arg2 harg2 arg5 harg5 x0 x3 (ix2 (rw t) (ln h)) = MlSpec.B (blockIn x0 x1 x2 x3 xs0 h) t := by
  unfold cumF MlSpec.B
  rw [scan_add, upTo_eq]
  exact Finset.sum_congr rfl fun j _ => fGate_row arg2 harg2 arg5 harg5 x0 x1 x2 x3 xs0 j h

theorem keyOf_row (t : Fin 64) (h : Fin 8) : keyOf arg2 harg2 arg4 harg4 arg5 harg5 x0 x2 x3 (ix2 (rw t) (ln h)) = (blockIn x0 x1 x2 x3 xs0 h).i t - MlSpec.B (blockIn x0 x1 x2 x3 xs0 h) t := by
  show inGate arg2 harg2 arg4 harg4 x0 x2 (ix2 (rw t) (ln h)) - cumF arg2 harg2 arg5 harg5 x0 x3 (ix2 (rw t) (ln h)) = _
  rw [inGate_row arg2 harg2 arg4 harg4 x0 x1 x2 x3 xs0, cumF_row arg2 harg2 arg5 harg5 x0 x1 x2 x3 xs0]

/-- Adding on the left goes through a maximum over a window. -/
theorem add_sup (a : EReal) (s : Finset (Fin 64)) (hs : s.Nonempty) (f : Fin 64 → EReal) : a + s.sup f = s.sup fun j => a + f j := by
  have hm : Monotone fun x : EReal => a + x := fun x y hxy => add_le_add_right hxy a
  rw [← Finset.sup'_eq_sup hs, ← Finset.sup'_eq_sup hs]
  exact Finset.comp_sup'_eq_sup'_comp hs (fun x => a + x) fun x y => hm.map_sup x y

theorem mIntra_row (t : Fin 64) (h : Fin 8) : mIntra arg2 harg2 arg4 harg4 arg5 harg5 x0 x2 x3 (ix2 (rw t) (ln h)) = MlSpec.mi (blockIn x0 x1 x2 x3 xs0 h) t := by
  show cumF arg2 harg2 arg5 harg5 x0 x3 (ix2 (rw t) (ln h)) + scan maximumf (ninf (F := Ideal)) (keyOf arg2 harg2 arg4 harg4 arg5 harg5 x0 x2 x3) (ix2 (rw t) (ln h)) = _
  rw [scan_max, cumF_row arg2 harg2 arg5 harg5 x0 x1 x2 x3 xs0, upTo_eq, add_sup _ _ ⟨t, (MlSpec.mem_upTo t t).mpr le_rfl⟩]
  unfold MlSpec.mi
  refine Finset.sup_congr rfl fun j _ => ?_
  rw [keyOf_row arg2 harg2 arg4 harg4 arg5 harg5 x0 x1 x2 x3 xs0, sub_eq_add_neg, sub_eq_add_neg, add_assoc, add_comm (-_)]

variable (s : State) (h : Fin 8) (hm : xs2 (ix2 0 (ln h)) = s.m)
include hm

theorem mState_row (t : Fin 64) : mState arg2 harg2 arg5 harg5 arg10 harg10 x0 x3 xs2 (ix2 (rw t) (ln h)) = MlSpec.ms (blockIn x0 x1 x2 x3 xs0 h) s t := by
  show (broadcastTo S64x128 (rdM arg10 harg10 xs2) broadcasts_S1x128_S64x128 : FVec Ideal S64x128 .f32) (ix2 (rw t) (ln h)) + cumF arg2 harg2 arg5 harg5 x0 x3 (ix2 (rw t) (ln h)) = _
  rw [row_bcast, rdM_apply, hm, cumF_row arg2 harg2 arg5 harg5 x0 x1 x2 x3 xs0]
  rfl

theorem mTot_row (t : Fin 64) : mTot arg2 harg2 arg4 harg4 arg5 harg5 arg10 harg10 x0 x2 x3 xs2 (ix2 (rw t) (ln h)) = MlSpec.mt (blockIn x0 x1 x2 x3 xs0 h) s t := by
  show max (mState arg2 harg2 arg5 harg5 arg10 harg10 x0 x3 xs2 (ix2 (rw t) (ln h))) (mIntra arg2 harg2 arg4 harg4 arg5 harg5 x0 x2 x3 (ix2 (rw t) (ln h))) = _
  rw [mState_row arg2 harg2 arg5 harg5 arg10 harg10 x0 x1 x2 x3 xs0 xs2 s h hm, mIntra_row arg2 harg2 arg4 harg4 arg5 harg5 x0 x1 x2 x3 xs0]
  rfl

theorem interOf_row (t : Fin 64) : interOf arg2 harg2 arg4 harg4 arg5 harg5 arg10 harg10 x0 x2 x3 xs2 (ix2 (rw t) (ln h)) = MlSpec.inter (blockIn x0 x1 x2 x3 xs0 h) s t := by
  show Ideal.exp (mState arg2 harg2 arg5 harg5 arg10 harg10 x0 x3 xs2 (ix2 (rw t) (ln h)) - mTot arg2 harg2 arg4 harg4 arg5 harg5 arg10 harg10 x0 x2 x3 xs2 (ix2 (rw t) (ln h))) = _
  rw [mState_row arg2 harg2 arg5 harg5 arg10 harg10 x0 x1 x2 x3 xs0 xs2 s h hm, mTot_row arg2 harg2 arg4 harg4 arg5 harg5 arg10 harg10 x0 x1 x2 x3 xs0 xs2 s h hm]
  rfl

theorem enegOf_row (t : Fin 64) : enegOf arg2 harg2 arg4 harg4 arg5 harg5 arg10 harg10 x0 x2 x3 xs2 (ix2 (rw t) (ln h)) = Ideal.exp (-(MlSpec.mt (blockIn x0 x1 x2 x3 xs0 h) s t)) := by
  show Ideal.exp ((zero (F := Ideal)) - mTot arg2 harg2 arg4 harg4 arg5 harg5 arg10 harg10 x0 x2 x3 xs2 (ix2 (rw t) (ln h))) = _
  rw [mTot_row arg2 harg2 arg4 harg4 arg5 harg5 arg10 harg10 x0 x1 x2 x3 xs0 xs2 s h hm, zero_eq]
  exact congrArg Ideal.exp (zero_sub _)

theorem colOf_row (t : Fin 64) : colOf arg2 harg2 arg4 harg4 arg5 harg5 arg10 harg10 x0 x2 x3 xs2 (ix2 (rw t) (ln h)) = MlSpec.B (blockIn x0 x1 x2 x3 xs0 h) t - MlSpec.mt (blockIn x0 x1 x2 x3 xs0 h) s t := by
  show cumF arg2 harg2 arg5 harg5 x0 x3 (ix2 (rw t) (ln h)) - mTot arg2 harg2 arg4 harg4 arg5 harg5 arg10 harg10 x0 x2 x3 xs2 (ix2 (rw t) (ln h)) = _
  rw [mTot_row arg2 harg2 arg4 harg4 arg5 harg5 arg10 harg10 x0 x1 x2 x3 xs0 xs2 s h hm, cumF_row arg2 harg2 arg5 harg5 x0 x1 x2 x3 xs0]

theorem carryOf_row : carryOf arg2 harg2 arg4 harg4 arg5 harg5 arg10 harg10 x0 x2 x3 xs2 (ix2 0 (ln h)) = MlSpec.carry (blockIn x0 x1 x2 x3 xs0 h) s := by
  show Ideal.exp (rdM arg10 harg10 xs2 (ix2 0 (ln h)) + lastRow (cumF arg2 harg2 arg5 harg5 x0 x3) (ix2 0 (ln h)) - lastRow (mTot arg2 harg2 arg4 harg4 arg5 harg5 arg10 harg10 x0 x2 x3 xs2) (ix2 0 (ln h))) = _
  rw [last_apply, last_apply, rdM_apply, hm, mTot_row arg2 harg2 arg4 harg4 arg5 harg5 arg10 harg10 x0 x1 x2 x3 xs0 xs2 s h hm, cumF_row arg2 harg2 arg5 harg5 x0 x1 x2 x3 xs0]
  rfl

theorem kwOf_row (j : Fin 64) : kwOf arg2 harg2 arg4 harg4 arg5 harg5 arg10 harg10 x0 x2 x3 xs2 (ix2 (rw j) (ln h))
    = Ideal.exp (MlSpec.B (blockIn x0 x1 x2 x3 xs0 h) 63 - MlSpec.B (blockIn x0 x1 x2 x3 xs0 h) j + (blockIn x0 x1 x2 x3 xs0 h).i j - MlSpec.mt (blockIn x0 x1 x2 x3 xs0 h) s 63) := by
  show Ideal.exp (keyOf arg2 harg2 arg4 harg4 arg5 harg5 x0 x2 x3 (ix2 (rw j) (ln h)) + (broadcastTo S64x128 (lastRow (cumF arg2 harg2 arg5 harg5 x0 x3)) broadcasts_S1x128_S64x128 : FVec Ideal S64x128 .f32) (ix2 (rw j) (ln h))
    - (broadcastTo S64x128 (lastRow (mTot arg2 harg2 arg4 harg4 arg5 harg5 arg10 harg10 x0 x2 x3 xs2)) broadcasts_S1x128_S64x128 : FVec Ideal S64x128 .f32) (ix2 (rw j) (ln h))) = _
  rw [row_bcast, row_bcast, last_apply, last_apply, mTot_row arg2 harg2 arg4 harg4 arg5 harg5 arg10 harg10 x0 x1 x2 x3 xs0 xs2 s h hm, cumF_row arg2 harg2 arg5 harg5 x0 x1 x2 x3 xs0,
    keyOf_row arg2 harg2 arg4 harg4 arg5 harg5 x0 x1 x2 x3 xs0]
  refine congrArg Ideal.exp (congrArg (· - _) ?_)
  rw [sub_eq_add_neg, sub_eq_add_neg, add_comm, add_assoc, add_comm (-_)]

theorem maxPiece_row (p : Fin 8) : maxPiece arg2 harg2 arg4 harg4 arg5 harg5 arg10 harg10 x0 x2 x3 xs2 (ix2 p (ln h)) = MlSpec.mt (blockIn x0 x1 x2 x3 xs0 h) s 63 := by
  rw [← mTot_row arg2 harg2 arg4 harg4 arg5 harg5 arg10 harg10 x0 x1 x2 x3 xs0 xs2 s h hm, ← last_apply (mTot arg2 harg2 arg4 harg4 arg5 harg5 arg10 harg10 x0 x2 x3 xs2)]
  unfold maxPiece
  generalize lastRow (mTot arg2 harg2 arg4 harg4 arg5 harg5 arg10 harg10 x0 x2 x3 xs2) = g
  generalize ln h = l
  pointwise

end Cert.KernelIdeal.Ml

end
-- ==== Proof.Ml.Head.lean ====
/- One head of the kernel's point: its weights, numerator, denominator, new state and normalised result, in the order of time. -/
module

public import proofs.«01_k».proof.Proof.Ml.Gates

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem

variable (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole)
  (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole)
  (x0 : Vec Ideal S1x33x64x128 .f32) (x1 : Vec Ideal S4x1024 .f32) (x2 x3 : Vec Ideal S1x128 .f32) (x4 : Vec Ideal S1x1024 .f32)
  (xs0 : Vec Ideal S24x1024 .f32) (xs1 : Vec Ideal S8x64x256 .f32) (xs2 : Vec Ideal S8x128 .f32)

open MlSpec (In State)

/-! ## The head's vector operations at an index -/

theorem qOf_apply (h : Fin 8) (qk : FVec Ideal S64x1024 .f32) (p d : Fin 64) : qOf h qk (ix2 p d) = qk (ix2 p ⟨64 * h.val + d.val, by omega⟩) := by
  unfold qOf
  pointwise

theorem kOf_apply (h : Fin 8) (qk : FVec Ideal S64x1024 .f32) (p d : Fin 64) : kOf h qk (ix2 p d) = qk (ix2 p ⟨512 + 64 * h.val + d.val, by omega⟩) * Ideal.ofBits .f32 1040187392#32 := by
  unfold kOf
  pointwise
  exact congrArg (fun c => qk (ix2 p c) * _) (Fin.ext (by dsimp only; omega))

theorem mask_row (t j : Fin 64) : mask (ix2 (rw t) (rw j)) = BitVec.ofBool (decide (j ≤ t)) := by
  have hp : ∀ t : Fin 64, IntOp.ori (IntOp.shli .vector (IntOp.andi (BitVec.ofNat 32 (rw t).val) 7#32) 3#32) (IntOp.shrsi .vector (BitVec.ofNat 32 (rw t).val) 3#32) = BitVec.ofNat 32 t.val := by decide
  have hc : IntOp.cmpi .sge (BitVec.ofNat 32 t.val) (BitVec.ofNat 32 j.val) = BitVec.ofBool (decide (j.val ≤ t.val)) := by
    have hi : ∀ t : Fin 64, (BitVec.ofNat 32 t.val).toInt = (t.val : ℤ) := by decide
    have h1 := hi t
    have h2 := hi j
    show BitVec.ofBool (BitVec.sle _ _) = _
    rw [BitVec.sle, h1, h2]
    simp only [Nat.cast_le]
  rw [← hp t, ← hp j] at hc
  refine Eq.trans ?_ hc
  generalize rw t = p
  generalize rw j = l
  unfold mask perm
  pointwise

theorem wOf_apply (h : Fin 8) (qk : FVec Ideal S64x1024 .f32) (col key : FVec Ideal S64x128 .f32) (p l : Fin 64) :
    wOf h qk col key (ix2 p l) = Ideal.exp (Scalar.select (mask (ix2 p l)) (col (ix2 p (ln h)) + key (ix2 l (ln h))) (ninf (F := Ideal)))
      * ∑ x, qOf h qk (ix2 p x) * kOf h qk (ix2 l x) := by
  unfold wOf dotNT
  generalize mask = mk
  generalize qOf h qk = q
  generalize kOf h qk = k
  generalize ninf (F := Ideal) = nf
  pointwise

theorem kwHead_apply (h : Fin 8) (qk : FVec Ideal S64x1024 .f32) (kw : FVec Ideal S64x128 .f32) (p d : Fin 64) :
    kwHead h qk kw (ix2 p d) = kOf h qk (ix2 p d) * kw (ix2 p (ln h)) := by
  unfold kwHead
  generalize kOf h qk = k
  pointwise

theorem vExt_left (v : FVec Ideal S64x128 .f32) (p : Fin 64) (e : Fin 128) : vExt v (ix2 p ⟨e.val, by omega⟩) = v (ix2 p e) := by
  generalize hy : v (ix2 p e) = y
  generalize hc : (⟨e.val, by omega⟩ : Fin 256) = c
  unfold vExt
  pointwise
  subst hc hy
  rw [dif_pos e.isLt]

theorem vExt_right (v : FVec Ideal S64x128 .f32) (p : Fin 64) (e : Fin 128) : vExt v (ix2 p ⟨128 + e.val, by omega⟩) = 1 := by
  generalize hc : (⟨128 + e.val, by omega⟩ : Fin 256) = c
  unfold vExt
  pointwise
  subst hc
  split
  · exfalso; dsimp only at *; omega
  · first | rfl | (simp [Ideal.ofBits, Ideal.ieee])

theorem stateNew_apply (h : Fin 8) (st : FVec Ideal S64x256 .f32) (carry : FVec Ideal S1x128 .f32) (kwh : FVec Ideal S64x64 .f32) (v : FVec Ideal S64x256 .f32) (p : Fin 64) (l : Fin 256) :
    stateNew h st carry kwh v (ix2 p l) = st (ix2 p l) * carry (ix2 0 (ln h)) + ∑ x, kwh (ix2 x p) * v (ix2 x l) := by
  unfold stateNew
  pointwise

theorem ndOf_apply (h : Fin 8) (inter : FVec Ideal S64x128 .f32) (q : FVec Ideal S64x64 .f32) (st : FVec Ideal S64x256 .f32) (w : FVec Ideal S64x64 .f32) (v : FVec Ideal S64x256 .f32) (p : Fin 64) (l : Fin 256) :
    ndOf h inter q st w v (ix2 p l) = inter (ix2 p (ln h)) * ∑ x, q (ix2 p x) * st (ix2 x l) + ∑ x, w (ix2 p x) * v (ix2 x l) := by
  unfold ndOf
  pointwise

theorem hOf_apply (h : Fin 8) (nd : FVec Ideal S64x256 .f32) (eneg : FVec Ideal S64x128 .f32) (p : Fin 64) (e : Fin 128) :
    hOf h nd eneg (ix2 p e) = Ideal.div (nd (ix2 p ⟨e.val, by omega⟩)) (max (MlSpec.abs (nd (ix2 p ⟨128 + e.val, by omega⟩))) (eneg (ix2 p (ln h)))) := by
  unfold hOf MlSpec.abs
  pointwise

theorem normOf_apply (og z ht : FVec Ideal S64x128 .f32) (g : Vec Ideal S1x128 .f32) (p : Fin 64) (e : Fin 128) :
    normOf og z ht g (ix2 p e) = MlSpec.norm (fun e => Ideal.logistic (og (ix2 p e)) * ht (ix2 p e)) (fun e => g (ix2 0 e)) (fun e => z (ix2 p e)) e := by
  unfold normOf meanOf MlSpec.norm MlSpec.mean MlSpec.silu
  pointwise

theorem out_cast (g : FVec Ideal S64x128 .f32) (b r : Fin 8) (e : Fin 128) :
    (shapeCast S1x1x8x128 (extractStridedSlice S8x128 ![8 * b.val, 0] g (slices_group b)) shapeCasts_S8x128_S1x1x8x128 : FVec Ideal S1x1x8x128 .f32) (ix4 0 0 r e) = g (ix2 ⟨8 * b.val + r.val, by omega⟩ e) := by
  pointwise

theorem state_back (g : FVec Ideal S64x256 .f32) (d : Fin 64) (l : Fin 256) :
    (shapeCast S1x64x256 g shapeCasts_S64x256_S1x64x256 : FVec Ideal S1x64x256 .f32) (ix3 0 d l) = g (ix2 d l) := by pointwise

theorem outPiece_row (h b r : Fin 8) (e : Fin 128) :
    outPiece arg2 harg2 arg3 harg3 arg4 harg4 arg5 harg5 arg6 harg6 arg8 harg8 arg9 harg9 arg10 harg10 x0 x1 x2 x3 x4 xs0 xs1 xs2 h b (ix4 0 0 r e)
      = headOut arg2 harg2 arg3 harg3 arg4 harg4 arg5 harg5 arg6 harg6 arg8 harg8 arg9 harg9 arg10 harg10 x0 x1 x2 x3 x4 xs0 xs1 xs2 h (ix2 ⟨8 * b.val + r.val, by omega⟩ e) := by
  unfold outPiece
  generalize headOut arg2 harg2 arg3 harg3 arg4 harg4 arg5 harg5 arg6 harg6 arg8 harg8 arg9 harg9 arg10 harg10 x0 x1 x2 x3 x4 xs0 xs1 xs2 h = g
  exact out_cast g b r e

theorem statePiece_row (h : Fin 8) (d : Fin 64) (l : Fin 256) :
    statePiece arg2 harg2 arg3 harg3 arg4 harg4 arg5 harg5 arg8 harg8 arg9 harg9 arg10 harg10 x0 x1 x2 x3 xs0 xs1 xs2 h (ix3 0 d l)
      = stateNew h (rdState arg9 harg9 xs1 h) (carryOf arg2 harg2 arg4 harg4 arg5 harg5 arg10 harg10 x0 x2 x3 xs2)
      (kwHead h (qkOf arg2 harg2 arg3 harg3 arg8 harg8 x0 x1 xs0) (kwOf arg2 harg2 arg4 harg4 arg5 harg5 arg10 harg10 x0 x2 x3 xs2)) (vExt (tile arg2 harg2 x0 ⟨8 + h.val, by omega⟩)) (ix2 d l) := by
  unfold statePiece
  exact state_back _ d l

/-! ## A head in the order of time -/

variable (s : State) (h : Fin 8) (hC : ∀ (d : Fin 64) (e : Fin 128), xs1 (ix3 h d ⟨e.val, by omega⟩) = s.C d e)
  (hN : ∀ (d : Fin 64) (e : Fin 128), xs1 (ix3 h d ⟨128 + e.val, by omega⟩) = s.N d) (hm : xs2 (ix2 0 (ln h)) = s.m)

theorem qOf_row (t d : Fin 64) : qOf h (qkOf arg2 harg2 arg3 harg3 arg8 harg8 x0 x1 xs0) (ix2 (rw t) d) = (blockIn x0 x1 x2 x3 xs0 h).q t d := by
  rw [qOf_apply, qkOf_row]; rfl
theorem kOf_row (t d : Fin 64) : kOf h (qkOf arg2 harg2 arg3 harg3 arg8 harg8 x0 x1 xs0) (ix2 (rw t) d) = (blockIn x0 x1 x2 x3 xs0 h).k t d := by
  rw [kOf_apply, qkOf_row]; rfl

include hm

theorem wOf_row (t j : Fin 64) :
    wOf h (qkOf arg2 harg2 arg3 harg3 arg8 harg8 x0 x1 xs0) (colOf arg2 harg2 arg4 harg4 arg5 harg5 arg10 harg10 x0 x2 x3 xs2) (keyOf arg2 harg2 arg4 harg4 arg5 harg5 x0 x2 x3) (ix2 (rw t) (rw j))
      = MlSpec.wt (blockIn x0 x1 x2 x3 xs0 h) s t j := by
  rw [wOf_apply, mask_row, colOf_row arg2 harg2 arg4 harg4 arg5 harg5 arg10 harg10 x0 x1 x2 x3 xs0 xs2 s h hm, keyOf_row arg2 harg2 arg4 harg4 arg5 harg5 x0 x1 x2 x3 xs0, ninf_eq]
  unfold MlSpec.wt
  simp only [qOf_row arg2 harg2 arg3 harg3 arg8 harg8 x0 x1 x2 x3 xs0, kOf_row arg2 harg2 arg3 harg3 arg8 harg8 x0 x1 x2 x3 xs0]
  refine congrArg (· * _) ?_
  rw [Scalar.select_ofBool]
  split
  case isTrue hd =>
    rw [if_pos (of_decide_eq_true hd)]
    refine congrArg Ideal.exp ?_
    simp only [sub_eq_add_neg]
    ac_rfl
  case isFalse hd => rw [if_neg (fun hj => hd (decide_eq_true hj))]; rfl

theorem kw_row (j d : Fin 64) : kwHead h (qkOf arg2 harg2 arg3 harg3 arg8 harg8 x0 x1 xs0) (kwOf arg2 harg2 arg4 harg4 arg5 harg5 arg10 harg10 x0 x2 x3 xs2) (ix2 (rw j) d)
    = MlSpec.kw (blockIn x0 x1 x2 x3 xs0 h) s j d := by
  rw [kwHead_apply, kOf_row arg2 harg2 arg3 harg3 arg8 harg8 x0 x1 x2 x3 xs0, kwOf_row arg2 harg2 arg4 harg4 arg5 harg5 arg10 harg10 x0 x1 x2 x3 xs0 xs2 s h hm]
  rfl

include hC hN

/-- The new state's matrix, -/
theorem newC (d : Fin 64) (e : Fin 128) :
    stateNew h (rdState arg9 harg9 xs1 h) (carryOf arg2 harg2 arg4 harg4 arg5 harg5 arg10 harg10 x0 x2 x3 xs2)
      (kwHead h (qkOf arg2 harg2 arg3 harg3 arg8 harg8 x0 x1 xs0) (kwOf arg2 harg2 arg4 harg4 arg5 harg5 arg10 harg10 x0 x2 x3 xs2)) (vExt (tile arg2 harg2 x0 ⟨8 + h.val, by omega⟩)) (ix2 d ⟨e.val, by omega⟩)
      = (MlSpec.next (blockIn x0 x1 x2 x3 xs0 h) s).C d e := by
  rw [stateNew_apply, rdState_apply, hC, carryOf_row arg2 harg2 arg4 harg4 arg5 harg5 arg10 harg10 x0 x1 x2 x3 xs0 xs2 s h hm, sum_rows]
  refine congrArg (_ + ·) (Finset.sum_congr rfl fun j _ => ?_)
  rw [kw_row arg2 harg2 arg3 harg3 arg4 harg4 arg5 harg5 arg8 harg8 arg10 harg10 x0 x1 x2 x3 xs0 xs2 s h hm, vExt_left, tile_apply]
  rfl

/-- and its normaliser. -/
theorem newN (d : Fin 64) (e : Fin 128) :
    stateNew h (rdState arg9 harg9 xs1 h) (carryOf arg2 harg2 arg4 harg4 arg5 harg5 arg10 harg10 x0 x2 x3 xs2)
      (kwHead h (qkOf arg2 harg2 arg3 harg3 arg8 harg8 x0 x1 xs0) (kwOf arg2 harg2 arg4 harg4 arg5 harg5 arg10 harg10 x0 x2 x3 xs2)) (vExt (tile arg2 harg2 x0 ⟨8 + h.val, by omega⟩)) (ix2 d ⟨128 + e.val, by omega⟩)
      = (MlSpec.next (blockIn x0 x1 x2 x3 xs0 h) s).N d := by
  rw [stateNew_apply, rdState_apply, hN, carryOf_row arg2 harg2 arg4 harg4 arg5 harg5 arg10 harg10 x0 x1 x2 x3 xs0 xs2 s h hm, sum_rows]
  refine congrArg (_ + ·) (Finset.sum_congr rfl fun j _ => ?_)
  rw [kw_row arg2 harg2 arg3 harg3 arg4 harg4 arg5 harg5 arg8 harg8 arg10 harg10 x0 x1 x2 x3 xs0 xs2 s h hm, vExt_right, mul_one]

/-- The head's numerator, -/
theorem num_row (t : Fin 64) (e : Fin 128) :
    ndOf h (interOf arg2 harg2 arg4 harg4 arg5 harg5 arg10 harg10 x0 x2 x3 xs2) (qOf h (qkOf arg2 harg2 arg3 harg3 arg8 harg8 x0 x1 xs0)) (rdState arg9 harg9 xs1 h)
      (wOf h (qkOf arg2 harg2 arg3 harg3 arg8 harg8 x0 x1 xs0) (colOf arg2 harg2 arg4 harg4 arg5 harg5 arg10 harg10 x0 x2 x3 xs2) (keyOf arg2 harg2 arg4 harg4 arg5 harg5 x0 x2 x3)) (vExt (tile arg2 harg2 x0 ⟨8 + h.val, by omega⟩)) (ix2 (rw t) ⟨e.val, by omega⟩) = MlSpec.num (blockIn x0 x1 x2 x3 xs0 h) s t e := by
  rw [ndOf_apply, interOf_row arg2 harg2 arg4 harg4 arg5 harg5 arg10 harg10 x0 x1 x2 x3 xs0 xs2 s h hm]
  refine congrArg₂ (fun a b : EReal => a + b) (congrArg (fun a : EReal => MlSpec.inter (blockIn x0 x1 x2 x3 xs0 h) s t * a) (Finset.sum_congr rfl fun d _ => ?_)) ((sum_rows _).trans (Finset.sum_congr rfl fun j _ => ?_))
  · rw [qOf_row arg2 harg2 arg3 harg3 arg8 harg8 x0 x1 x2 x3 xs0, rdState_apply, hC]
  · rw [wOf_row arg2 harg2 arg3 harg3 arg4 harg4 arg5 harg5 arg8 harg8 arg10 harg10 x0 x1 x2 x3 xs0 xs2 s h hm, vExt_left, tile_apply]
    rfl

/-- its denominator, -/
theorem den_row (t : Fin 64) (e : Fin 128) :
    ndOf h (interOf arg2 harg2 arg4 harg4 arg5 harg5 arg10 harg10 x0 x2 x3 xs2) (qOf h (qkOf arg2 harg2 arg3 harg3 arg8 harg8 x0 x1 xs0)) (rdState arg9 harg9 xs1 h)
      (wOf h (qkOf arg2 harg2 arg3 harg3 arg8 harg8 x0 x1 xs0) (colOf arg2 harg2 arg4 harg4 arg5 harg5 arg10 harg10 x0 x2 x3 xs2) (keyOf arg2 harg2 arg4 harg4 arg5 harg5 x0 x2 x3)) (vExt (tile arg2 harg2 x0 ⟨8 + h.val, by omega⟩)) (ix2 (rw t) ⟨128 + e.val, by omega⟩) = MlSpec.den (blockIn x0 x1 x2 x3 xs0 h) s t := by
  rw [ndOf_apply, interOf_row arg2 harg2 arg4 harg4 arg5 harg5 arg10 harg10 x0 x1 x2 x3 xs0 xs2 s h hm]
  refine congrArg₂ (fun a b : EReal => a + b) (congrArg (fun a : EReal => MlSpec.inter (blockIn x0 x1 x2 x3 xs0 h) s t * a) (Finset.sum_congr rfl fun d _ => ?_)) ((sum_rows _).trans (Finset.sum_congr rfl fun j _ => ?_))
  · rw [qOf_row arg2 harg2 arg3 harg3 arg8 harg8 x0 x1 x2 x3 xs0, rdState_apply, hN]
  · rw [wOf_row arg2 harg2 arg3 harg3 arg4 harg4 arg5 harg5 arg8 harg8 arg10 harg10 x0 x1 x2 x3 xs0 xs2 s h hm, vExt_right, mul_one]

/-- and its result. -/
theorem headOut_row (t : Fin 64) (e : Fin 128) :
    headOut arg2 harg2 arg3 harg3 arg4 harg4 arg5 harg5 arg6 harg6 arg8 harg8 arg9 harg9 arg10 harg10 x0 x1 x2 x3 x4 xs0 xs1 xs2 h (ix2 (rw t) e)
      = MlSpec.norm (fun e => Ideal.logistic (x0 (ix4 0 ⟨16 + h.val, by omega⟩ t e)) * MlSpec.out (blockIn x0 x1 x2 x3 xs0 h) s t e)
        (fun e => x4 (ix2 0 ⟨128 * h.val + e.val, by omega⟩)) (fun e => x0 (ix4 0 ⟨24 + h.val, by omega⟩ t e)) e := by
  have h1 : (fun e => Ideal.logistic (tile arg2 harg2 x0 ⟨16 + h.val, by omega⟩ (ix2 (rw t) e)) * hOf h (ndOf h (interOf arg2 harg2 arg4 harg4 arg5 harg5 arg10 harg10 x0 x2 x3 xs2) (qOf h (qkOf arg2 harg2 arg3 harg3 arg8 harg8 x0 x1 xs0)) (rdState arg9 harg9 xs1 h)
      (wOf h (qkOf arg2 harg2 arg3 harg3 arg8 harg8 x0 x1 xs0) (colOf arg2 harg2 arg4 harg4 arg5 harg5 arg10 harg10 x0 x2 x3 xs2) (keyOf arg2 harg2 arg4 harg4 arg5 harg5 x0 x2 x3)) (vExt (tile arg2 harg2 x0 ⟨8 + h.val, by omega⟩))) (enegOf arg2 harg2 arg4 harg4 arg5 harg5 arg10 harg10 x0 x2 x3 xs2) (ix2 (rw t) e))
      = fun e => Ideal.logistic (x0 (ix4 0 ⟨16 + h.val, by omega⟩ t e)) * MlSpec.out (blockIn x0 x1 x2 x3 xs0 h) s t e := funext fun e => by
    rw [tile_apply, hOf_apply, enegOf_row arg2 harg2 arg4 harg4 arg5 harg5 arg10 harg10 x0 x1 x2 x3 xs0 xs2 s h hm,
      num_row arg2 harg2 arg3 harg3 arg4 harg4 arg5 harg5 arg8 harg8 arg9 harg9 arg10 harg10 x0 x1 x2 x3 xs0 xs1 xs2 s h hC hN hm,
      den_row arg2 harg2 arg3 harg3 arg4 harg4 arg5 harg5 arg8 harg8 arg9 harg9 arg10 harg10 x0 x1 x2 x3 xs0 xs1 xs2 s h hC hN hm]
    rfl
  have h2 : (fun e => rdGnw arg6 harg6 x4 h (ix2 0 e)) = fun e => x4 (ix2 0 ⟨128 * h.val + e.val, by omega⟩) := funext fun e => rdGnw_apply arg6 harg6 x4 h e
  have h3 : (fun e => tile arg2 harg2 x0 ⟨24 + h.val, by omega⟩ (ix2 (rw t) e)) = fun e => x0 (ix4 0 ⟨24 + h.val, by omega⟩ t e) := funext fun e => tile_apply arg2 harg2 x0 _ t e
  rw [← h1, ← h2, ← h3]
  exact normOf_apply _ _ _ _ (rw t) e

end Cert.KernelIdeal.Ml

end
-- ==== Proof.Ml.Point.lean ====
/- What a point's blocks and scratch hold in the layer's terms, and what the point computes from them. -/
module

public import proofs.«01_k».proof.Proof.Ml.Head

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem

variable (arg2 : Memref sig .tc .vmem S1x33x64x128 .f32) (harg2 : arg2.IsWhole) (arg3 : Memref sig .tc .vmem S4x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1024 .f32) (harg6 : arg6.IsWhole)
  (arg8 : Memref sig .tc .vmem S24x1024 .f32) (harg8 : arg8.IsWhole) (arg9 : Memref sig .tc .vmem S8x64x256 .f32) (harg9 : arg9.IsWhole) (arg10 : Memref sig .tc .vmem S8x128 .f32) (harg10 : arg10.IsWhole)
  (x0 : Vec Ideal S1x33x64x128 .f32) (x1 : Vec Ideal S4x1024 .f32) (x2 x3 : Vec Ideal S1x128 .f32) (x4 : Vec Ideal S1x1024 .f32)
  (xs0 : Vec Ideal S24x1024 .f32) (xs1 : Vec Ideal S8x64x256 .f32) (xs2 : Vec Ideal S8x128 .f32)

open MlSpec (Args)

/-- The input blocks of batch `b`'s chunk `n`. -/
structure Blocks (a : Args) (b : Fin 8) (n : ℕ) (x0 : Vec Ideal S1x33x64x128 .f32) (x1 : Vec Ideal S4x1024 .f32) (x2 x3 : Vec Ideal S1x128 .f32) (x4 : Vec Ideal S1x1024 .f32) : Prop where
  x0 : ∀ (i : Fin 33) (t : Fin 64) (l : Fin 128) (h : 128 * i.val + l.val < 4112), x0 (ix4 0 i t l) = a.X b (64 * n + t.val) ⟨128 * i.val + l.val, h⟩
  x1 : ∀ (j : Fin 4) (ch : Fin 1024), x1 (ix2 j ch) = a.cw j ch
  x2 : ∀ h : Fin 8, x2 (ix2 0 ⟨h.val, by omega⟩) = a.ib h
  x3 : ∀ h : Fin 8, x3 (ix2 0 ⟨8 + h.val, by omega⟩) = a.fb h
  x4 : ∀ ch : Fin 1024, x4 (ix2 0 ch) = a.gn ch

/-- The scratch before batch `b`'s chunk `n`: the convolution's last three times, each head's matrix and normaliser, and its
    maximum. -/
structure Holds (a : Args) (b : Fin 8) (n : ℕ) (s : St Ideal) : Prop where
  hist : ∀ (e : Fin 3) (ch : Fin 1024), s.1 (ix2 ⟨8 * e.val + 7, by omega⟩ ch) = MlSpec.past a (3 - e.val) b (64 * n) ch
  C : ∀ (h : Fin 8) (d : Fin 64) (e : Fin 128), s.2.1 (ix3 h d ⟨e.val, by omega⟩) = (MlSpec.stateAt a b h n).C d e
  N : ∀ (h : Fin 8) (d : Fin 64) (e : Fin 128), s.2.1 (ix3 h d ⟨128 + e.val, by omega⟩) = (MlSpec.stateAt a b h n).N d
  M : ∀ h : Fin 8, s.2.2 (ix2 0 (ln h)) = (MlSpec.stateAt a b h n).m

section
variable {a : Args} {b : Fin 8} {n : ℕ} {x0 : Vec Ideal S1x33x64x128 .f32} {x1 : Vec Ideal S4x1024 .f32} {x2 x3 : Vec Ideal S1x128 .f32} {x4 : Vec Ideal S1x1024 .f32}

theorem Blocks.row (hB : Blocks a b n x0 x1 x2 x3 x4) (t : Fin 64) (ch : Fin 1024) : rowAt x0 t ch = a.X b (64 * n + t.val) ⟨ch.val, by omega⟩ := by
  unfold rowAt
  rw [hB.x0 _ _ _ (by dsimp only; omega)]
  exact congrArg (a.X b _) (Fin.ext (by dsimp only; omega))

theorem Blocks.prev (hB : Blocks a b n x0 x1 x2 x3 x4) {s : St Ideal} (hS : Holds a b n s) (d : ℕ) (hd : d ≤ 3) (t : Fin 64) (ch : Fin 1024) :
    prev x0 s.1 d hd t ch = MlSpec.past a d b (64 * n + t.val) ch := by
  unfold Ml.prev
  split
  case isTrue h =>
    rw [hB.row]
    unfold MlSpec.past
    rw [if_pos (by omega)]
    exact congrArg (fun k => a.X b k _) (by dsimp only; omega)
  case isFalse h =>
    have e := hS.hist ⟨3 + t.val - d, by omega⟩ ch
    refine e.trans ?_
    unfold MlSpec.past
    dsimp only
    by_cases hn : d ≤ 64 * n + t.val
    · rw [if_pos hn, if_pos (by omega)]
      exact congrArg (fun k => a.X b k _) (by omega)
    · rw [if_neg hn, if_neg (by omega)]

/-- The head's chunk as the point sees it is the layer's. -/
theorem Blocks.chunk (hB : Blocks a b n x0 x1 x2 x3 x4) {s : St Ideal} (hS : Holds a b n s) (h : Fin 8) : blockIn x0 x1 x2 x3 s.1 h = MlSpec.chunk a b h n := by
  have hc : ∀ t ch, convAt x0 x1 s.1 t ch = MlSpec.conv a b (64 * n + t.val) ch := fun t ch => by
    unfold convAt MlSpec.conv
    rw [hB.prev hS, hB.prev hS, hB.prev hS, hB.prev hS, hB.x1, hB.x1, hB.x1, hB.x1]
  unfold blockIn MlSpec.chunk
  congr 1
  · exact funext fun t => funext fun d => congrArg MlSpec.silu (hc t _)
  · exact funext fun t => funext fun d => congrArg (fun v => MlSpec.silu v * _) (hc t _)
  · refine funext fun t => funext fun e => (hB.x0 _ t e (by dsimp only; omega)).trans (congrArg (a.X b _) (Fin.ext (by dsimp only; omega)))
  · refine funext fun t => congrArg₂ (fun u v : EReal => u + v) ((hB.x0 _ t _ (by show 128 * 32 + h.val < 4112; omega)).trans (congrArg (a.X b _) (Fin.ext (by show 128 * 32 + h.val = 4096 + h.val; omega)))) (hB.x2 h)
  · refine funext fun t => congrArg MlSpec.lsig (congrArg₂ (fun u v : EReal => u + v) ((hB.x0 _ t _ (by show 128 * 32 + (8 + h.val) < 4112; omega)).trans (congrArg (a.X b _) (Fin.ext (by show 128 * 32 + (8 + h.val) = 4104 + h.val; omega)))) (hB.x3 h))

end

theorem idx4 (x : S1x1x8x128.Idx) : x = ix4 (0 : Fin 1) (0 : Fin 1) (⟨(x 2).val, (x 2).isLt⟩ : Fin 8) (⟨(x 3).val, (x 3).isLt⟩ : Fin 128) :=
  funext fun a => match a with
    | ⟨0, _⟩ => Fin.ext (by have h := (x 0).isLt; change (x 0).val < 1 at h; show (x 0).val = 0; omega)
    | ⟨1, _⟩ => Fin.ext (by have h := (x 1).isLt; change (x 1).val < 1 at h; show (x 1).val = 0; omega)
    | ⟨2, _⟩ => rfl
    | ⟨3, _⟩ => rfl

theorem idx3 (x : S1x64x256.Idx) : x = ix3 (0 : Fin 1) (⟨(x 1).val, (x 1).isLt⟩ : Fin 64) (⟨(x 2).val, (x 2).isLt⟩ : Fin 256) :=
  funext fun a => match a with
    | ⟨0, _⟩ => Fin.ext (by have h := (x 0).isLt; change (x 0).val < 1 at h; show (x 0).val = 0; omega)
    | ⟨1, _⟩ => rfl
    | ⟨2, _⟩ => rfl

/-- A batch's chunk of the result as one block, -/
def resArr (a : Args) (b : Fin 8) (n : ℕ) : S1x8x64x128.Idx → EReal := fun y => MlSpec.result a b n ⟨(y 1).val, (y 1).isLt⟩ ⟨(y 2).val, (y 2).isLt⟩ ⟨(y 3).val, (y 3).isLt⟩
/-- and the states before a chunk. -/
def stArr (a : Args) (b : Fin 8) (n : ℕ) (h : Fin 8) (d : Fin 64) (l : Fin 256) : EReal :=
  if hl : l.val < 128 then (MlSpec.stateAt a b h n).C d ⟨l.val, hl⟩ else (MlSpec.stateAt a b h n).N d

def stIdx (a : Args) (b : Fin 8) (n : ℕ) : S8x64x256.Idx → EReal := fun y => stArr a b n ⟨(y 0).val, (y 0).isLt⟩ ⟨(y 1).val, (y 1).isLt⟩ ⟨(y 2).val, (y 2).isLt⟩

theorem out_emb (h b r : Fin 8) (e : Fin 128) : (outRect h b).emb (ix4 (0 : Fin 1) (0 : Fin 1) r e) = ix4 (0 : Fin 1) h (⟨b.val + 8 * r.val, by omega⟩ : Fin 64) e :=
  funext fun a => Fin.ext (match a with
    | ⟨0, _⟩ => rfl
    | ⟨1, _⟩ => (by show h.val + 1 * 0 = h.val; omega)
    | ⟨2, _⟩ => rfl
    | ⟨3, _⟩ => (by show 0 + 1 * e.val = e.val; omega))

theorem state_emb (h : Fin 8) (d : Fin 64) (l : Fin 256) : (Rect.unit (s := S8x64x256) ![h.val, 0, 0] S1x64x256.size (inb_state h)).emb (ix3 (0 : Fin 1) d l) = ix3 h d l :=
  funext fun a => Fin.ext (match a with
    | ⟨0, _⟩ => (by show h.val + 1 * 0 = h.val; omega)
    | ⟨1, _⟩ => (by show 0 + 1 * d.val = d.val; omega)
    | ⟨2, _⟩ => (by show 0 + 1 * l.val = l.val; omega))

theorem row_of (b r : Fin 8) : (⟨8 * b.val + r.val, by omega⟩ : Fin 64) = rw ⟨b.val + 8 * r.val, by omega⟩ :=
  Fin.ext (by show 8 * b.val + r.val = (b.val + 8 * r.val) % 8 * 8 + (b.val + 8 * r.val) / 8; omega)

section
variable (s : St Ideal) {a : Args} {b : Fin 8} {n : ℕ} (hB : Blocks a b n x0 x1 x2 x3 x4) (hS : Holds a b n s)
include hB hS

theorem outPiece_apply (h b' r : Fin 8) (e : Fin 128) :
    outPiece arg2 harg2 arg3 harg3 arg4 harg4 arg5 harg5 arg6 harg6 arg8 harg8 arg9 harg9 arg10 harg10 x0 x1 x2 x3 x4 s.1 s.2.1 s.2.2 h b' (ix4 0 0 r e) = MlSpec.result a b n h ⟨b'.val + 8 * r.val, by omega⟩ e := by
  rw [outPiece_row, row_of, headOut_row arg2 harg2 arg3 harg3 arg4 harg4 arg5 harg5 arg6 harg6 arg8 harg8 arg9 harg9 arg10 harg10 x0 x1 x2 x3 x4 s.1 s.2.1 s.2.2 (MlSpec.stateAt a b h n) h (hS.C h) (hS.N h) (hS.M h), hB.chunk hS]
  unfold MlSpec.result
  have e1 : ∀ e : Fin 128, x0 (ix4 0 ⟨16 + h.val, by omega⟩ ⟨b'.val + 8 * r.val, by omega⟩ e) = a.X b (64 * n + (b'.val + 8 * r.val)) ⟨2048 + 128 * h.val + e.val, by omega⟩ := fun e =>
    (hB.x0 _ _ e (by dsimp only; omega)).trans (congrArg (a.X b _) (Fin.ext (by dsimp only; omega)))
  have e2 : ∀ e : Fin 128, x0 (ix4 0 ⟨24 + h.val, by omega⟩ ⟨b'.val + 8 * r.val, by omega⟩ e) = a.X b (64 * n + (b'.val + 8 * r.val)) ⟨3072 + 128 * h.val + e.val, by omega⟩ := fun e =>
    (hB.x0 _ _ e (by dsimp only; omega)).trans (congrArg (a.X b _) (Fin.ext (by dsimp only; omega)))
  simp only [e1, e2, hB.x4]

theorem statePiece_apply (h : Fin 8) (d : Fin 64) (l : Fin 256) :
    statePiece arg2 harg2 arg3 harg3 arg4 harg4 arg5 harg5 arg8 harg8 arg9 harg9 arg10 harg10 x0 x1 x2 x3 s.1 s.2.1 s.2.2 h (ix3 0 d l) = stArr a b (n + 1) h d l := by
  rw [statePiece_row]
  unfold stArr
  split
  case isTrue hl =>
    refine (newC arg2 harg2 arg3 harg3 arg4 harg4 arg5 harg5 arg8 harg8 arg9 harg9 arg10 harg10 x0 x1 x2 x3 s.1 s.2.1 s.2.2 (MlSpec.stateAt a b h n) h (hS.C h) (hS.N h) (hS.M h) d ⟨l.val, hl⟩).trans ?_
    rw [hB.chunk hS]
    rfl
  case isFalse hl =>
    have el : l = ⟨128 + (l.val - 128), by omega⟩ := Fin.ext (by dsimp only; omega)
    rw [el]
    refine (newN arg2 harg2 arg3 harg3 arg4 harg4 arg5 harg5 arg8 harg8 arg9 harg9 arg10 harg10 x0 x1 x2 x3 s.1 s.2.1 s.2.2 (MlSpec.stateAt a b h n) h (hS.C h) (hS.N h) (hS.M h) d ⟨l.val - 128, by omega⟩).trans ?_
    rw [hB.chunk hS]
    rfl

theorem maxPiece_apply (p h : Fin 8) : maxPiece arg2 harg2 arg4 harg4 arg5 harg5 arg10 harg10 x0 x2 x3 s.2.2 (ix2 p (ln h)) = (MlSpec.stateAt a b h (n + 1)).m := by
  rw [maxPiece_row arg2 harg2 arg4 harg4 arg5 harg5 arg10 harg10 x0 x1 x2 x3 s.1 s.2.2 (MlSpec.stateAt a b h n) h (hS.M h), hB.chunk hS]
  rfl

end

theorem tailPiece_apply {a : Args} {b : Fin 8} {n : ℕ} (hB : Blocks a b n x0 x1 x2 x3 x4) (e : Fin 3) (ch : Fin 1024) :
    (shapeCast S24x1024 (tailOf arg2 harg2 x0) shapeCasts_S24x1024_S24x1024 : FVec Ideal S24x1024 .f32) (ix2 ⟨8 * e.val + 7, by omega⟩ ch) = MlSpec.past a (3 - e.val) b (64 * (n + 1)) ch := by
  rw [shapeCast_id, tail_apply, hB.row]
  unfold MlSpec.past
  rw [if_pos (by omega)]
  have ek : 64 * n + (61 + e.val) = 64 * (n + 1) - (3 - e.val) := by omega
  exact congrArg (fun k => a.X b k _) ek

end Cert.KernelIdeal.Ml

end
-- ==== Proof.Ml.Match.lean ====
/- The run's pieces are the mirrored operations: by unfolding both. -/
module

public import proofs.«01_k».proof.Proof.Ml.Mirror

@[expose] public section

set_option maxRecDepth 65536

noncomputable section

namespace Cert.KernelIdeal.Ml

open Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

theorem hist_pieces (c : Dev nD) (t : Fin cfg0.N) (xs0 : Vec F S24x1024 .f32) (xs1 : Vec F S8x64x256 .f32) (xs2 : Vec F S8x128 .f32) :
    (runAt m c t xs0 xs1 xs2).2.1 = [⟨Rect.unit (s := S24x1024) ![0, 0] S24x1024.size inb_S24x1024_S24x1024_0_0,
      shapeCast S24x1024 (tailOf (ms0_0 t) (hs0_0 t) (iblk m c 0 t)) shapeCasts_S24x1024_S24x1024⟩] := by sl_kernel_rfl

theorem max_pieces (c : Dev nD) (t : Fin cfg0.N) (xs0 : Vec F S24x1024 .f32) (xs1 : Vec F S8x64x256 .f32) (xs2 : Vec F S8x128 .f32) :
    (runAt m c t xs0 xs1 xs2).2.2.2.1 = [⟨Rect.unit (s := S8x128) ![0, 0] S8x128.size inb_S8x128_S8x128_0_0,
      maxPiece (ms0_0 t) (hs0_0 t) (ms0_2 t) (hs0_2 t) (ms0_3 t) (hs0_3 t) scM0_2 (Memref.isWhole_whole _) (iblk m c 0 t) (iblk m c 2 t) (iblk m c 3 t) xs2⟩] := by sl_kernel_rfl

/-- Head `h`'s new state at point `t`. -/
abbrev statePieceAt (c : Dev nD) (t : Fin cfg0.N) (xs0 : Vec F S24x1024 .f32) (xs1 : Vec F S8x64x256 .f32) (xs2 : Vec F S8x128 .f32) (h : Fin 8) : Vec F S1x64x256 .f32 :=
  statePiece (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _)
    (iblk m c 0 t) (iblk m c 1 t) (iblk m c 2 t) (iblk m c 3 t) xs0 xs1 xs2 h

/-- Head `h`'s result at point `t`, the rows of residue `b` modulo eight. -/
abbrev outPieceAt (c : Dev nD) (t : Fin cfg0.N) (xs0 : Vec F S24x1024 .f32) (xs1 : Vec F S8x64x256 .f32) (xs2 : Vec F S8x128 .f32) (h b : Fin 8) : Vec F S1x1x8x128 .f32 :=
  outPiece (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
    (iblk m c 0 t) (iblk m c 1 t) (iblk m c 2 t) (iblk m c 3 t) (iblk m c 4 t) xs0 xs1 xs2 h b

/-- The heads and residues in the order of the run's pieces, the last first. -/
def pairs : List (Fin 8 × Fin 8) := [(7, 7), (7, 6), (7, 5), (7, 4), (7, 3), (7, 2), (7, 1), (7, 0), (6, 7), (6, 6), (6, 5), (6, 4), (6, 3), (6, 2), (6, 1), (6, 0), (5, 7), (5, 6), (5, 5), (5, 4), (5, 3), (5, 2), (5, 1), (5, 0), (4, 7), (4, 6), (4, 5), (4, 4), (4, 3), (4, 2), (4, 1), (4, 0), (3, 7), (3, 6), (3, 5), (3, 4), (3, 3), (3, 2), (3, 1), (3, 0), (2, 7), (2, 6), (2, 5), (2, 4), (2, 3), (2, 2), (2, 1), (2, 0), (1, 7), (1, 6), (1, 5), (1, 4), (1, 3), (1, 2), (1, 1), (1, 0), (0, 7), (0, 6), (0, 5), (0, 4), (0, 3), (0, 2), (0, 1), (0, 0)]

theorem state_pieces (c : Dev nD) (t : Fin cfg0.N) (xs0 : Vec F S24x1024 .f32) (xs1 : Vec F S8x64x256 .f32) (xs2 : Vec F S8x128 .f32) :
    (runAt m c t xs0 xs1 xs2).2.2.1 = ([7, 6, 5, 4, 3, 2, 1, 0] : List (Fin 8)).map fun h => ⟨Rect.unit (s := S8x64x256) ![h.val, 0, 0] S1x64x256.size (inb_state h), statePieceAt m c t xs0 xs1 xs2 h⟩ := by sl_kernel_rfl

theorem out_pieces (c : Dev nD) (t : Fin cfg0.N) (xs0 : Vec F S24x1024 .f32) (xs1 : Vec F S8x64x256 .f32) (xs2 : Vec F S8x128 .f32) :
    (runAt m c t xs0 xs1 xs2).1 = pairs.map fun p => ⟨outRect p.1 p.2, outPieceAt m c t xs0 xs1 xs2 p.1 p.2⟩ := by sl_kernel_rfl

end Cert.KernelIdeal.Ml

end
-- ==== Proof.Ml.Step.lean ====
/- One point of the mixer: from scratch that holds the recurrence's state, the point leaves the next state and the chunk's
   result. -/
module

public import proofs.«01_k».proof.Proof.Ml.Point
public import proofs.«01_k».proof.Proof.Ml.Match

@[expose] public section

set_option maxRecDepth 16384

noncomputable section

namespace Cert.KernelIdeal.Ml

open Cert.KernelIdeal.Gen
open Idealize.ShloMosaic Idealize.ShloMosaic.TcCoe Idealize.ShloMosaic.Tactic
open Idealize.SL.Sem
open MlSpec (Args)

variable (m : (ℓ : Loc nD τ sig) → Buf (Elt Ideal) ℓ) (c : Dev nD) (t : Fin cfg0.N) (s : St Ideal)
variable {a : Args} {b : Fin 8} {n : ℕ} (hB : Blocks a b n (iblk m c 0 t) (iblk m c 1 t) (iblk m c 2 t) (iblk m c 3 t) (iblk m c 4 t)) (hS : Holds a b n s)
include hB hS

theorem out_ok (h b' : Fin 8) (x : (outRect h b').shape.Idx) : outPieceAt m c t s.1 s.2.1 s.2.2 h b' x = resArr a b n ((outRect h b').emb x) := by
  have ex := idx4 x
  generalize (⟨(x 2).val, (x 2).isLt⟩ : Fin 8) = r at ex
  generalize (⟨(x 3).val, (x 3).isLt⟩ : Fin 128) = e at ex
  subst ex
  have h1 := outPiece_apply (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (iblk m c 4 t) s hB hS h b' r e
  have h2 : resArr a b n ((outRect h b').emb (ix4 (0 : Fin 1) (0 : Fin 1) r e)) = MlSpec.result a b n h ⟨b'.val + 8 * r.val, by omega⟩ e := (congrArg (resArr a b n) (out_emb h b' r e)).trans rfl
  exact h1.trans h2.symm

/-- The point's result. -/
theorem step_out (h : Fin 8) (tt : Fin 64) (e : Fin 128) : (stepAt m c t s).1 (ix4 0 h tt e) = MlSpec.result a b n h tt e := by
  have e1 : (stepAt m c t s).1 = View.canon (runAt m c t s.1 s.2.1 s.2.2).1 := by unfold stepAt; dsimp only
  have e2 : resArr a b n (ix4 (0 : Fin 1) h tt e) = MlSpec.result a b n h tt e := rfl
  have hp : ∀ p ∈ (runAt m c t s.1 s.2.1 s.2.2).1, ∀ x : p.1.shape.Idx, p.2 x = resArr a b n (p.1.emb x) := by
    rw [out_pieces]
    intro pc hpc
    obtain ⟨p, _, rfl⟩ := List.mem_map.mp hpc
    exact out_ok m c t s hB hS p.1 p.2
  have e3 := View.canon_apply_of_pieces (Val := Elt Ideal) (e := .f32) (resArr a b n) (runAt m c t s.1 s.2.1 s.2.2).1 hp (ix4 (0 : Fin 1) h tt e) (cover_out m c t s.1 s.2.1 s.2.2 _)
  rw [e1, e3, e2]

theorem state_ok (h : Fin 8) (x : S1x64x256.Idx) : statePieceAt m c t s.1 s.2.1 s.2.2 h x
    = stIdx a b (n + 1) ((Rect.unit (s := S8x64x256) ![h.val, 0, 0] S1x64x256.size (inb_state h)).emb x) := by
  have ex := idx3 x
  generalize (⟨(x 1).val, (x 1).isLt⟩ : Fin 64) = d at ex
  generalize (⟨(x 2).val, (x 2).isLt⟩ : Fin 256) = l at ex
  subst ex
  have h1 := statePiece_apply (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (iblk m c 3 t) (iblk m c 4 t) s hB hS h d l
  have h2 : stIdx a b (n + 1) ((Rect.unit (s := S8x64x256) ![h.val, 0, 0] S1x64x256.size (inb_state h)).emb (ix3 (0 : Fin 1) d l)) = stArr a b (n + 1) h d l := (congrArg (stIdx a b (n + 1)) (state_emb h d l)).trans rfl
  exact h1.trans h2.symm

/-- The states after it, -/
theorem step_state (h : Fin 8) (d : Fin 64) (l : Fin 256) : (stepAt m c t s).2.2.1 (ix3 h d l) = stArr a b (n + 1) h d l := by
  have e1 : (stepAt m c t s).2.2.1 = View.canon (runAt m c t s.1 s.2.1 s.2.2).2.2.1 := by unfold stepAt; dsimp only
  have e2 : stIdx a b (n + 1) (ix3 h d l) = stArr a b (n + 1) h d l := rfl
  have hp : ∀ p ∈ (runAt m c t s.1 s.2.1 s.2.2).2.2.1, ∀ x : p.1.shape.Idx, p.2 x = stIdx a b (n + 1) (p.1.emb x) := by
    rw [state_pieces]
    intro pc hpc
    obtain ⟨h, _, rfl⟩ := List.mem_map.mp hpc
    exact state_ok m c t s hB hS h
  have e3 := View.canon_apply_of_pieces (Val := Elt Ideal) (e := .f32) (stIdx a b (n + 1)) (runAt m c t s.1 s.2.1 s.2.2).2.2.1 hp (ix3 h d l) (cover_state m c t s.1 s.2.1 s.2.2 _)
  rw [e1, e3, e2]

theorem step_max (h : Fin 8) : (stepAt m c t s).2.2.2 (ix2 0 (ln h)) = (MlSpec.stateAt a b h (n + 1)).m := by
  have e1 : (stepAt m c t s).2.2.2 = View.canon (runAt m c t s.1 s.2.1 s.2.2).2.2.2.1 := by unfold stepAt; dsimp only
  rw [e1, max_pieces, View.canon_unit_zero (Val := Elt Ideal) (S := S8x128) (e := .f32) (off := ![0, 0]) (by funext a; fin_cases a <;> rfl)]
  exact maxPiece_apply (ms0_0 t) (hs0_0 t) (ms0_2 t) (hs0_2 t) (ms0_3 t) (hs0_3 t) scM0_2 (Memref.isWhole_whole _) (iblk m c 0 t) (iblk m c 1 t) (iblk m c 2 t) (iblk m c 3 t) (iblk m c 4 t) s hB hS 0 h

theorem step_hist (e : Fin 3) (ch : Fin 1024) : (stepAt m c t s).2.1 (ix2 ⟨8 * e.val + 7, by omega⟩ ch) = MlSpec.past a (3 - e.val) b (64 * (n + 1)) ch := by
  have e1 : (stepAt m c t s).2.1 = View.canon (runAt m c t s.1 s.2.1 s.2.2).2.1 := by unfold stepAt; dsimp only
  rw [e1, hist_pieces, View.canon_unit_zero (Val := Elt Ideal) (S := S24x1024) (e := .f32) (off := ![0, 0]) (by funext a; fin_cases a <;> rfl)]
  exact tailPiece_apply (ms0_0 t) (hs0_0 t) (iblk m c 0 t) (iblk m c 1 t) (iblk m c 2 t) (iblk m c 3 t) (iblk m c 4 t) hB e ch

/-- After the point the scratch holds the next chunk's state. -/
theorem step_holds : Holds a b (n + 1) (stepAt m c t s).2 where
  hist e ch := step_hist m c t s hB hS e ch
  C h d e := (step_state m c t s hB hS h d _).trans (dif_pos e.isLt)
  N h d e := (step_state m c t s hB hS h d _).trans (dif_neg (by dsimp only; omega))
  M h := step_max m c t s hB hS h

end Cert.KernelIdeal.Ml

end
-- ==== Proof.Ml.HostArr.lean ====
/- The arrays that the host prepares for the mixer: the input in lane tiles, the biases in lane rows. -/
module

public import proofs.«01_k».proof.Proof.Gen.KernelIdeal.Frame
public import proofs.«01_k».proof.Proof.Ml.Args
public import Idealize.ShloMosaic.Lib.Routing.OpsOne
public import Idealize.ShloMosaic.Lib.Pipeline.ValueKit
public import Idealize.ShloMosaic.Lib.Pointwise

@[expose] public section

noncomputable section

namespace Cert.KernelIdeal.Ml

open Cert.KernelIdeal.Gen
open Idealize.ShloMosaic Idealize.ShloMosaic.TcCoe Idealize.ShloMosaic.Tactic
open Idealize.SL.Sem
open Idealize.ShloMosaic.Pipeline (Dat Cfg Window)
open MlSpec (Args)

/-! ## The host's arrays -/

/-- The projected input in lane tiles, a chunk a row. -/
def tiles (A : FVec Ideal S8x4096x4112 .f32) : FVec Ideal S512x33x64x128 .f32 :=
  transpose S512x33x64x128 [0, 2, 1, 3] (shapeCast S512x64x33x128 (pad S8x4096x4224 ![0, 0, 0] ![0, 0, 112] ![0, 0, 0] A (sitofp .f32 (constantI S_ 32 0#32) : FVec Ideal S_ .f32)
    pads_S8x4096x4112_S8x4096x4224_000_000_01120 h_S_) shapeCasts_S8x4096x4224_S512x64x33x128) transposes_S512x64x33x128_S512x33x64x128_0_2_1_3

/-- Where a gate's biases begin in their row. -/
def place2 (i j : BitVec 32) : IVec S2 32 :=
  concatenate S2 0 [⟨S1, broadcastInDim S1 ![] bcast_S_S1 (constantI S_ 32 i)⟩, ⟨S1, broadcastInDim S1 ![] bcast_S_S1 (constantI S_ 32 j)⟩] concatenates_S1_S1_S2_d0

/-- A gate's biases as a lane row. -/
def laneRow (j : BitVec 32) (x : FVec Ideal S8 .f32) : FVec Ideal S1x128 .f32 :=
  Host.scatter scatter_S1x128_S2_S8_0_0_01_0 (fun _ b => b) (broadcastInDim S1x128 ![] bcast_S_S1x128 (constant S_ .f32 0x00000000#32) : FVec Ideal S1x128 .f32) (place2 0#32 j) x

theorem tiles_apply (A : FVec Ideal S8x4096x4112 .f32) (b : Fin 8) (n : Fin 64) (i : Fin 33) (t : Fin 64) (l : Fin 128) (h : 128 * i.val + l.val < 4112) :
    tiles A (ix4 ⟨64 * b.val + n.val, by omega⟩ i t l) = A (ix3 b ⟨64 * n.val + t.val, by omega⟩ ⟨128 * i.val + l.val, h⟩) := by
  unfold tiles
  pointwise
  rw [dif_pos ⟨by omega, by omega⟩]
  have e : ∀ (p q : ℕ) (hp : p < 4096) (hq : q < 4112), p = 64 * n.val + t.val → q = 128 * i.val + l.val →
      A (ix3 b ⟨p, hp⟩ ⟨q, hq⟩) = A (ix3 b ⟨64 * n.val + t.val, by omega⟩ ⟨128 * i.val + l.val, h⟩) := by
    intro p q hp hq ep eq; subst ep eq; rfl
  exact e _ _ _ _ (by omega) (by omega)

section
open Idealize.ShloMosaic.Routing

/-- A row's window of entries, set at two index words: entry `k` lands in row `i`, column `j + k`. -/
theorem lands_row {R C U w : Nat} (d : ScatterDims (shape2 R C) (shape1 2) (shape1 U)) (hiw : d.insertedWindowDims = [0]) (hsd : d.scatterDimsToOperandDims = [0, 1])
    (hivd : d.indexVectorDim = 0) (idx : IVec (shape1 2) w) (k : Fin U) (r : Fin R) (c : Fin C) :
    d.resultIdx? (ValueIdx.ix1 k) idx = some (ValueIdx.ix2 r c)
      ↔ (idx (ValueIdx.ix1 (0 : Fin 2))).toInt = r.val ∧ (idx (ValueIdx.ix1 (1 : Fin 2))).toInt + (k.val : Int) = c.val := by
  have h0 : d.window (ValueIdx.ix1 k) 0 = 0 := by
    unfold ScatterDims.window
    rw [dif_neg fun h => (of_decide_eq_true (List.mem_filter.1 h).2) (by rw [hiw]; simp)]
  have h1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  rw [resultIdx?_ix2, start_pair d hsd hivd, start_pair d hsd hivd, h0, h1]
  omega

/-- The row read where an entry landed. -/
theorem set_row {α : Type} {R C U w : Nat} (d : ScatterDims (shape2 R C) (shape1 2) (shape1 U)) (hiw : d.insertedWindowDims = [0]) (hsd : d.scatterDimsToOperandDims = [0, 1])
    (hivd : d.indexVectorDim = 0) (x0 : (shape2 R C).Idx → α) (idx : IVec (shape1 2) w) (upd : (shape1 U).Idx → α) (k : Fin U) (r : Fin R) (c : Fin C)
    (hr : (idx (ValueIdx.ix1 (0 : Fin 2))).toInt = r.val) (hc : (idx (ValueIdx.ix1 (1 : Fin 2))).toInt + (k.val : Int) = c.val) :
    Host.scatter d (fun _ b => b) x0 idx upd (ValueIdx.ix2 r c) = upd (ValueIdx.ix1 k) := by
  refine scatter_set_hit d x0 idx upd _ _ (fun k' hk' => ?_) (ValueIdx.ix1 k) ((lands_row d hiw hsd hivd idx k r c).2 ⟨hr, hc⟩)
  have q := ((lands_row d hiw hsd hivd idx (k' 0) r c).1 ((congrArg (fun t => d.resultIdx? t idx) (ValueIdx.eq_ix1 k').symm).trans hk')).2
  rw [ValueIdx.eq_ix1 k']
  refine congrArg (fun e => upd (ValueIdx.ix1 e)) (Fin.ext ?_)
  omega

end

theorem laneRow_zero (x : FVec Ideal S8 .f32) (k : Fin 8) : laneRow 0#32 x (ix2 0 ⟨k.val, by omega⟩) = x (ix1 k) :=
  set_row scatter_S1x128_S2_S8_0_0_01_0 rfl rfl rfl _ _ x k (0 : Fin 1) (⟨k.val, by omega⟩ : Fin 128) (by rfl) (by show (0 : Int) + (k.val : Int) = (k.val : Int); omega)

theorem laneRow_eight (x : FVec Ideal S8 .f32) (k : Fin 8) : laneRow 8#32 x (ix2 0 ⟨8 + k.val, by omega⟩) = x (ix1 k) :=
  set_row scatter_S1x128_S2_S8_0_0_01_0 rfl rfl rfl _ _ x k (0 : Fin 1) (⟨8 + k.val, by omega⟩ : Fin 128) (by rfl) (by show (8 : Int) + (k.val : Int) = ((8 + k.val : ℕ) : Int); push_cast; rfl)

theorem weights_cast (x : FVec Ideal S1024 .f32) (q : Fin 1024) : (shapeCast S1x1024 x shapeCasts_S1024_S1x1024 : FVec Ideal S1x1024 .f32) (ix2 0 q) = x (ix1 q) := by
  pointwise

variable (m : (ℓ : Loc nD τ sig) → Buf (Elt Ideal) ℓ) (ρ : Dev nD → PrngReg)

theorem V_main_v2 (c : Dev nD) : V m c main_v2 = tiles (m ((c : Thread nD τ).loc main_arg0)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v7 (c : Dev nD) : V m c main_v7 = laneRow 0#32 (m ((c : Thread nD τ).loc main_arg2)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v12 (c : Dev nD) : V m c main_v12 = laneRow 8#32 (m ((c : Thread nD τ).loc main_arg3)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v13 (c : Dev nD) : V m c main_v13 = (shapeCast S1x1024 (m ((c : Thread nD τ).loc main_arg4) : FVec Ideal S1024 .f32) shapeCasts_S1024_S1x1024 : FVec Ideal S1x1024 .f32) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

end Cert.KernelIdeal.Ml

end
-- ==== Proof.Ml.Chunks.lean ====
/- The mixer's result array: what the region finds in its windows' arrays, the induction over a batch's chunks, and the array
   as a function of its index. -/
module

public import proofs.«01_k».proof.Proof.Ml.Step
public import proofs.«01_k».proof.Proof.Ml.HostArr
public import proofs.«01_k».proof.Proof.Ml.Args
public import Idealize.ShloMosaic.Lib.Routing.OpsSet
public import Idealize.ShloMosaic.Lib.Pipeline.ValueKit
public import Idealize.ShloMosaic.Lib.Pointwise

@[expose] public section

noncomputable section

namespace Cert.KernelIdeal.Ml

open Cert.KernelIdeal.Gen
open Idealize.ShloMosaic Idealize.ShloMosaic.TcCoe Idealize.ShloMosaic.Tactic
open Idealize.SL.Sem
open Idealize.ShloMosaic.Pipeline (Dat Cfg Window)
open MlSpec (Args)

variable (m : (ℓ : Loc nD τ sig) → Buf (Elt Ideal) ℓ) (ρ : Dev nD → PrngReg)

/-! ## The blocks -/

theorem idx : ∀ t : Fin cfg0.N, (cfg0.win 0).index t = ![t.val, 0, 0, 0] ∧ (cfg0.win 1).index t = ![0, 0]
    ∧ (cfg0.win 2).index t = ![0, 0] ∧ (cfg0.win 3).index t = ![0, 0] ∧ (cfg0.win 4).index t = ![0, 0] ∧ (cfg0.win 5).index t = ![t.val, 0, 0, 0] :=
  (by decide +kernel : ∀ t : Fin grid0.N, (cfg0.win 0).index t = ![t.val, 0, 0, 0] ∧ (cfg0.win 1).index t = ![0, 0]
    ∧ (cfg0.win 2).index t = ![0, 0] ∧ (cfg0.win 3).index t = ![0, 0] ∧ (cfg0.win 4).index t = ![0, 0] ∧ (cfg0.win 5).index t = ![t.val, 0, 0, 0])

theorem point_lt (t : Fin cfg0.N) : t.val < 512 := Nat.lt_of_lt_of_eq t.isLt N_0

theorem iblk0_apply (c : Dev nD) (t : Fin cfg0.N) (i : Fin 33) (r : Fin 64) (l : Fin 128) :
    iblk m c 0 t (ix4 0 i r l) = (V m c main_v2 : S512x33x64x128.Idx → EReal) (ix4 ⟨t.val, point_lt t⟩ i r l) := by
  obtain ⟨i0, i1, i2, i3, i4, i5⟩ := idx t
  unfold iblk
  show (V m c main_v2 : S512x33x64x128.Idx → EReal) (((cfg0.win 0).blk t).view.emb (ix4 0 i r l)) = _
  generalize (V m c main_v2 : S512x33x64x128.Idx → EReal) = A
  refine congrArg A (funext fun a => Fin.ext ?_)
  match a with
  | ⟨0, _⟩ => blk_simp [i0]; rfl
  | ⟨1, _⟩ => blk_simp [i0]
  | ⟨2, _⟩ => blk_simp [i0]
  | ⟨3, _⟩ => blk_simp [i0]

theorem iblk1_apply (c : Dev nD) (t : Fin cfg0.N) (j : Fin 4) (q : Fin 1024) :
    iblk m c 1 t (ix2 j q) = (V m c main_arg1 : S4x1024.Idx → EReal) (ix2 j q) := by
  obtain ⟨i0, i1, i2, i3, i4, i5⟩ := idx t
  unfold iblk
  show (V m c main_arg1 : S4x1024.Idx → EReal) (((cfg0.win 1).blk t).view.emb (ix2 j q)) = _
  generalize (V m c main_arg1 : S4x1024.Idx → EReal) = A
  refine congrArg A (funext fun a => Fin.ext ?_)
  match a with
  | ⟨0, _⟩ => blk_simp [i1]
  | ⟨1, _⟩ => blk_simp [i1]

theorem iblk2_apply (c : Dev nD) (t : Fin cfg0.N) (q : Fin 128) :
    iblk m c 2 t (ix2 0 q) = (V m c main_v7 : S1x128.Idx → EReal) (ix2 0 q) := by
  obtain ⟨i0, i1, i2, i3, i4, i5⟩ := idx t
  unfold iblk
  show (V m c main_v7 : S1x128.Idx → EReal) (((cfg0.win 2).blk t).view.emb (ix2 0 q)) = _
  generalize (V m c main_v7 : S1x128.Idx → EReal) = A
  refine congrArg A (funext fun a => Fin.ext ?_)
  match a with
  | ⟨0, _⟩ => blk_simp [i2]
  | ⟨1, _⟩ => blk_simp [i2]

theorem iblk3_apply (c : Dev nD) (t : Fin cfg0.N) (q : Fin 128) :
    iblk m c 3 t (ix2 0 q) = (V m c main_v12 : S1x128.Idx → EReal) (ix2 0 q) := by
  obtain ⟨i0, i1, i2, i3, i4, i5⟩ := idx t
  unfold iblk
  show (V m c main_v12 : S1x128.Idx → EReal) (((cfg0.win 3).blk t).view.emb (ix2 0 q)) = _
  generalize (V m c main_v12 : S1x128.Idx → EReal) = A
  refine congrArg A (funext fun a => Fin.ext ?_)
  match a with
  | ⟨0, _⟩ => blk_simp [i3]
  | ⟨1, _⟩ => blk_simp [i3]

theorem iblk4_apply (c : Dev nD) (t : Fin cfg0.N) (q : Fin 1024) :
    iblk m c 4 t (ix2 0 q) = (V m c main_v13 : S1x1024.Idx → EReal) (ix2 0 q) := by
  obtain ⟨i0, i1, i2, i3, i4, i5⟩ := idx t
  unfold iblk
  show (V m c main_v13 : S1x1024.Idx → EReal) (((cfg0.win 4).blk t).view.emb (ix2 0 q)) = _
  generalize (V m c main_v13 : S1x1024.Idx → EReal) = A
  refine congrArg A (funext fun a => Fin.ext ?_)
  match a with
  | ⟨0, _⟩ => blk_simp [i4]
  | ⟨1, _⟩ => blk_simp [i4]

theorem place (t : Fin cfg0.N) (y : S1x8x64x128.Idx) :
    ((((cfg0.win 5).blk t).view.emb y) 0 : ℕ) = t.val + (y 0).val ∧ ((((cfg0.win 5).blk t).view.emb y) 1 : ℕ) = (y 1).val
      ∧ ((((cfg0.win 5).blk t).view.emb y) 2 : ℕ) = (y 2).val ∧ ((((cfg0.win 5).blk t).view.emb y) 3 : ℕ) = (y 3).val := by
  obtain ⟨i0, i1, i2, i3, i4, i5⟩ := idx t
  refine ⟨?_, ?_, ?_, ?_⟩ <;> blk_simp [i5]

/-- The layer's arguments, from core `c`'s memory. -/
def args (c : Dev nD) : Args :=
  MlSpec.ofArrays (m ((c : Thread nD τ).loc main_arg0)) (m ((c : Thread nD τ).loc main_arg1)) (m ((c : Thread nD τ).loc main_arg2)) (m ((c : Thread nD τ).loc main_arg3)) (m ((c : Thread nD τ).loc main_arg4))

theorem blocks (c : Dev nD) (t : Fin cfg0.N) (b : Fin 8) (n : Fin 64) (ht : t.val = 64 * b.val + n.val) :
    Blocks (args m c) b n.val (iblk m c 0 t) (iblk m c 1 t) (iblk m c 2 t) (iblk m c 3 t) (iblk m c 4 t) where
  x0 i r l h := by
    rw [iblk0_apply, V_main_v2]
    have e : (⟨t.val, point_lt t⟩ : Fin 512) = ⟨64 * b.val + n.val, by omega⟩ := Fin.ext ht
    rw [e, tiles_apply _ b n i r l h]
    have hs : 64 * n.val + r.val < 4096 := by omega
    refine Eq.symm ?_
    unfold args MlSpec.ofArrays
    dsimp only
    rw [dif_pos hs]
  x1 j ch := by
    rw [iblk1_apply, V_main_arg1]
    rfl
  x2 h := by
    rw [iblk2_apply, V_main_v7, laneRow_zero]
    rfl
  x3 h := by
    rw [iblk3_apply, V_main_v12, laneRow_eight]
    rfl
  x4 ch := by
    rw [iblk4_apply, V_main_v13, weights_cast]
    rfl

theorem pay7 (x : S24x1024.Idx) : (k0_pay7 : FVec Ideal S24x1024 .f32) x = 0 := by
  unfold k0_pay7
  rw [shapeCast_id]
  exact zero_eq

theorem pay8 (x : S8x64x256.Idx) : (k0_pay8 : FVec Ideal S8x64x256 .f32) x = 0 := by
  unfold k0_pay8
  rw [shapeCast_id]
  exact zero_eq

theorem pay9 (x : S8x128.Idx) : (k0_pay9 : FVec Ideal S8x128 .f32) x = ⊥ := by
  unfold k0_pay9
  rw [shapeCast_id]
  exact ninf_eq

/-- The scratch a batch starts from is the recurrence's start. -/
theorem st0_holds (a : Args) (b : Fin 8) : Holds a b 0 (st0 : St Ideal) where
  hist e ch := (pay7 (ix2 ⟨8 * e.val + 7, by omega⟩ ch)).trans (by unfold MlSpec.past; rw [if_neg (by omega)])
  C h d e := pay8 (ix3 h d ⟨e.val, by omega⟩)
  N h d e := pay8 (ix3 h d ⟨128 + e.val, by omega⟩)
  M h := pay9 (ix2 0 (ln h))

/-- After a chunk the scratch holds the next chunk's state, -/
theorem holds (c : Dev nD) (b : Fin 8) : ∀ (n : ℕ) (hn : n < 64) (hN : 64 * b.val + n < cfg0.N), Holds (args m c) b (n + 1) (outsAt m c (64 * b.val + n) hN).2
  | 0, hn, hN => by
    rw [outsAt_first m c ⟨64 * b.val + 0, hN⟩ (by show (64 * b.val + 0) % 64 = 0; omega)]
    exact step_holds m c _ _ (blocks m c _ b ⟨0, hn⟩ rfl) (st0_holds _ _)
  | n + 1, hn, hN => by
    rw [outsAt_later m c ⟨64 * b.val + (n + 1), hN⟩ (by show ¬ (64 * b.val + (n + 1)) % 64 = 0; omega)]
    exact step_holds m c _ _ (blocks m c _ b ⟨n + 1, hn⟩ rfl) (holds c b n (by omega) (by have := hN; omega))

/-- and the point's block is the chunk's result. -/
theorem point_out (c : Dev nD) (t : Fin cfg0.N) (b : Fin 8) (n : Fin 64) (ht : t.val = 64 * b.val + n.val) (h : Fin 8) (r : Fin 64) (e : Fin 128) :
    (outsAt m c t.val t.isLt).1 (ix4 0 h r e) = MlSpec.result (args m c) b n.val h r e := by
  obtain ⟨n, hn⟩ := n
  obtain ⟨tv, hN⟩ := t
  change tv = 64 * b.val + n at ht
  subst ht
  cases n with
  | zero =>
    rw [outsAt_first m c ⟨64 * b.val + 0, hN⟩ (by show (64 * b.val + 0) % 64 = 0; omega)]
    exact step_out m c _ _ (blocks m c _ b ⟨0, hn⟩ rfl) (st0_holds _ _) h r e
  | succ n =>
    rw [outsAt_later m c ⟨64 * b.val + (n + 1), hN⟩ (by show ¬ (64 * b.val + (n + 1)) % 64 = 0; omega)]
    exact step_out m c _ _ (blocks m c _ b ⟨n + 1, hn⟩ rfl) (holds m c b n (by omega) (by have := hN; omega)) h r e

/-! ## The array -/

/-- The result array as a function of its index: row `64 * batch + chunk`. -/
def arrOf (a : Args) : S512x8x64x128.Idx → EReal := fun i =>
  MlSpec.result a ⟨(i 0).val / 64, by have h : (i 0).val < 512 := (i 0).isLt; omega⟩ ((i 0).val % 64) ⟨(i 1).val, (i 1).isLt⟩ ⟨(i 2).val, (i 2).isLt⟩ ⟨(i 3).val, (i 3).isLt⟩

theorem arrOf_at (a : Args) (i : S512x8x64x128.Idx) (b : Fin 8) (n : Fin 64) (h : Fin 8) (r : Fin 64) (e : Fin 128) (h0 : (i 0).val = 64 * b.val + n.val)
    (h1 : (i 1).val = h.val) (h2 : (i 2).val = r.val) (h3 : (i 3).val = e.val) : arrOf a i = MlSpec.result a b n.val h r e := by
  unfold arrOf
  have e0 : (⟨(i 0).val / 64, by have h : (i 0).val < 512 := (i 0).isLt; omega⟩ : Fin 8) = b := Fin.ext (by dsimp only; omega)
  have e4 : (i 0).val % 64 = n.val := by omega
  have e1 : (⟨(i 1).val, (i 1).isLt⟩ : Fin 8) = h := Fin.ext h1
  have e2 : (⟨(i 2).val, (i 2).isLt⟩ : Fin 64) = r := Fin.ext h2
  have e3 : (⟨(i 3).val, (i 3).isLt⟩ : Fin 128) = e := Fin.ext h3
  rw [e0, e4, e1, e2, e3]

theorem out_at (c : Dev nD) (t : Fin cfg0.N) (y : S1x8x64x128.Idx) :
    (outsAt m c t.val t.isLt).1 y = arrOf (args m c) (((cfg0.win 5).blk t).view.emb y) := by
  have ht := point_lt t
  obtain ⟨e0, e1, e2, e3⟩ := place t y
  have h0 : (y 0).val < 1 := (y 0).isLt
  have ey : y = ix4 (0 : Fin 1) (⟨(y 1).val, (y 1).isLt⟩ : Fin 8) (⟨(y 2).val, (y 2).isLt⟩ : Fin 64) (⟨(y 3).val, (y 3).isLt⟩ : Fin 128) := funext fun a => match a with
    | ⟨0, _⟩ => Fin.ext (by show (y 0).val = 0; omega)
    | ⟨1, _⟩ => rfl
    | ⟨2, _⟩ => rfl
    | ⟨3, _⟩ => rfl
  have hp := point_out m c t ⟨t.val / 64, by omega⟩ ⟨t.val % 64, by omega⟩ (by dsimp only; omega) ⟨(y 1).val, (y 1).isLt⟩ ⟨(y 2).val, (y 2).isLt⟩ ⟨(y 3).val, (y 3).isLt⟩
  refine ((congrArg (outsAt m c t.val t.isLt).1 ey).trans hp).trans (arrOf_at _ _ _ _ _ _ _ ?_ e1 e2 e3).symm
  rw [e0]; dsimp only; omega

/-- The result array after the region. -/
theorem arr_eq (c : Dev nD) : (dats m 0 c).arrAt 5 cfg0.N = arrOf (args m c) := by
  refine (dats m 0 c).arrAt_eq_of_covers 5 _ (by decide +kernel) fun t hf y => ?_
  rw [after0_5]
  have h := out_at m c t (fun a => y a)
  revert h
  generalize arrOf (args m c) = G
  generalize (outsAt m c t.val t.isLt).1 = O
  intro h
  exact h

end Cert.KernelIdeal.Ml

end
-- ==== Proof.Ml.RefFinal.lean ====
/- The buffers the reference's loop only reads: the two gates' projections and the argument weights pass through it. Then the contents at the end. -/
module

public import proofs.«01_k».proof.Proof.Ml.Ref
public import proofs.«01_k».proof.Proof.Ml.RefPost
public import proofs.«01_k».proof.Proof.Ml.Chunks

@[expose] public section

noncomputable section

namespace Cert.ReferenceIdeal.Ml

open Cert.ReferenceIdeal Cert.ReferenceIdeal.Gen Cert.ReferenceIdeal.Value
open Idealize.ShloMosaic Idealize.ShloMosaic.TcCoe Idealize.ShloMosaic.Tactic Idealize.SL.Sem Idealize.ShloMosaic.StableHlo
open Cert.MlSpec (Args)

/-- What is read after the loop and not carried by it. -/
abbrev gateRefs : List (Ref sig .tc) := [main_v2, main_v3, main_arg4]

theorem gate_cond (V : Valuation τ sig (Elt Ideal)) : ∀ j ∈ gateRefs, after condOps V (Proc.devRef .tc j) = V (Proc.devRef .tc j) := by
  intro j hj
  simp only [gateRefs, List.mem_cons, List.not_mem_nil, or_false] at hj
  rcases hj with rfl | rfl | rfl
  all_goals exact after_of_writes_sub condOps V condOps_writes (by decide +kernel)

theorem gate_b (V : Valuation τ sig (Elt Ideal)) : ∀ j ∈ gateRefs, after while0Ops0 V (Proc.devRef .tc j) = V (Proc.devRef .tc j) := by
  intro j hj
  simp only [gateRefs, List.mem_cons, List.not_mem_nil, or_false] at hj
  rcases hj with rfl | rfl | rfl
  all_goals exact after_of_writes_sub while0Ops0 V while0Ops0_writes (by decide +kernel)

theorem gate_b_1 (V : Valuation τ sig (Elt Ideal)) : ∀ j ∈ gateRefs, after while0Ops0_1 V (Proc.devRef .tc j) = V (Proc.devRef .tc j) := by
  intro j hj
  simp only [gateRefs, List.mem_cons, List.not_mem_nil, or_false] at hj
  rcases hj with rfl | rfl | rfl
  all_goals exact after_of_writes_sub while0Ops0_1 V while0Ops0_1_writes (by decide +kernel)

theorem gate_b_2 (V : Valuation τ sig (Elt Ideal)) : ∀ j ∈ gateRefs, after while0Ops0_2 V (Proc.devRef .tc j) = V (Proc.devRef .tc j) := by
  intro j hj
  simp only [gateRefs, List.mem_cons, List.not_mem_nil, or_false] at hj
  rcases hj with rfl | rfl | rfl
  all_goals exact after_of_writes_sub while0Ops0_2 V while0Ops0_2_writes (by decide +kernel)

theorem gate_b_3 (V : Valuation τ sig (Elt Ideal)) : ∀ j ∈ gateRefs, after while0Ops0_3 V (Proc.devRef .tc j) = V (Proc.devRef .tc j) := by
  intro j hj
  simp only [gateRefs, List.mem_cons, List.not_mem_nil, or_false] at hj
  rcases hj with rfl | rfl | rfl
  all_goals exact after_of_writes_sub while0Ops0_3 V while0Ops0_3_writes (by decide +kernel)

theorem gate_b_4 (V : Valuation τ sig (Elt Ideal)) : ∀ j ∈ gateRefs, after while0Ops0_4 V (Proc.devRef .tc j) = V (Proc.devRef .tc j) := by
  intro j hj
  simp only [gateRefs, List.mem_cons, List.not_mem_nil, or_false] at hj
  rcases hj with rfl | rfl | rfl
  all_goals exact after_of_writes_sub while0Ops0_4 V while0Ops0_4_writes (by decide +kernel)

theorem gate_b_5 (V : Valuation τ sig (Elt Ideal)) : ∀ j ∈ gateRefs, after while0Ops0_5 V (Proc.devRef .tc j) = V (Proc.devRef .tc j) := by
  intro j hj
  simp only [gateRefs, List.mem_cons, List.not_mem_nil, or_false] at hj
  rcases hj with rfl | rfl | rfl
  all_goals exact after_of_writes_sub while0Ops0_5 V while0Ops0_5_writes (by decide +kernel)

theorem gate_b_6 (V : Valuation τ sig (Elt Ideal)) : ∀ j ∈ gateRefs, after while0Ops0_6 V (Proc.devRef .tc j) = V (Proc.devRef .tc j) := by
  intro j hj
  simp only [gateRefs, List.mem_cons, List.not_mem_nil, or_false] at hj
  rcases hj with rfl | rfl | rfl
  all_goals exact after_of_writes_sub while0Ops0_6 V while0Ops0_6_writes (by decide +kernel)

theorem gate_b_7 (V : Valuation τ sig (Elt Ideal)) : ∀ j ∈ gateRefs, after while0Ops0_7 V (Proc.devRef .tc j) = V (Proc.devRef .tc j) := by
  intro j hj
  simp only [gateRefs, List.mem_cons, List.not_mem_nil, or_false] at hj
  rcases hj with rfl | rfl | rfl
  all_goals exact after_of_writes_sub while0Ops0_7 V while0Ops0_7_writes (by decide +kernel)

theorem gate_b_8 (V : Valuation τ sig (Elt Ideal)) : ∀ j ∈ gateRefs, after while0Ops0_8 V (Proc.devRef .tc j) = V (Proc.devRef .tc j) := by
  intro j hj
  simp only [gateRefs, List.mem_cons, List.not_mem_nil, or_false] at hj
  rcases hj with rfl | rfl | rfl
  all_goals exact after_of_writes_sub while0Ops0_8 V while0Ops0_8_writes (by decide +kernel)

theorem gate_b_9 (V : Valuation τ sig (Elt Ideal)) : ∀ j ∈ gateRefs, after while0Ops0_9 V (Proc.devRef .tc j) = V (Proc.devRef .tc j) := by
  intro j hj
  simp only [gateRefs, List.mem_cons, List.not_mem_nil, or_false] at hj
  rcases hj with rfl | rfl | rfl
  all_goals exact after_of_writes_sub while0Ops0_9 V while0Ops0_9_writes (by decide +kernel)

theorem gate_b_10 (V : Valuation τ sig (Elt Ideal)) : ∀ j ∈ gateRefs, after while0Ops0_10 V (Proc.devRef .tc j) = V (Proc.devRef .tc j) := by
  intro j hj
  simp only [gateRefs, List.mem_cons, List.not_mem_nil, or_false] at hj
  rcases hj with rfl | rfl | rfl
  all_goals exact after_of_writes_sub while0Ops0_10 V while0Ops0_10_writes (by decide +kernel)

variable (m : (ℓ : Loc nD τ sig) → Buf (Elt Ideal) ℓ)

/-- The loop leaves them as it found them. -/
theorem gate_at (c : Dev nD) (j : Ref sig .tc) (hj : j ∈ gateRefs) : ∀ k, atTrip condOps bodyI (entryContents preI m) k c (Proc.devRef .tc j) = entryContents preI m c (Proc.devRef .tc j)
  | 0 => rfl
  | k + 1 => by
    rw [atTrip_succ]
    simp only [afterL_cons, afterL_nil]
    rw [gate_b_10 _ j hj, gate_b_9 _ j hj, gate_b_8 _ j hj, gate_b_7 _ j hj, gate_b_6 _ j hj, gate_b_5 _ j hj, gate_b_4 _ j hj, gate_b_3 _ j hj, gate_b_2 _ j hj, gate_b_1 _ j hj, gate_b _ j hj, gate_cond _ j hj, gate_at c j hj k]
    rfl

set_option maxRecDepth 100000 in
theorem entry_v2 (c : Dev nD) : (entryContents preI m c (Proc.devRef .tc main_v2) : FVec Ideal S8x4096x1024 .f32) = op_v2 (m ((c : Thread nD τ).loc main_arg0)) := by
  simp only [entryContents, afterL_cons, afterL_nil]
  after_reads_simp
  rfl

set_option maxRecDepth 100000 in
theorem entry_v3 (c : Dev nD) : (entryContents preI m c (Proc.devRef .tc main_v3) : FVec Ideal S8x4096x1024 .f32) = op_v3 (m ((c : Thread nD τ).loc main_arg0)) := by
  simp only [entryContents, afterL_cons, afterL_nil]
  after_reads_simp
  rfl

/-- The result in terms of what is read after the loop. -/
def gOut (x2 x3 : FVec Ideal S8x4096x1024 .f32) (G : FVec Ideal S1024 .f32) (H : FVec Ideal S64x8x8x64x128 .f32) : FVec Ideal S512x8x64x128 .f32 :=
  op_v128 (op_v124 G (op_v120 (op_v102 (op_v94 H) (op_v100 x2)) (op_v106 (op_v102 (op_v94 H) (op_v100 x2)))
    (op_v113 (op_v108 (op_v102 (op_v94 H) (op_v100 x2)) (op_v106 (op_v102 (op_v94 H) (op_v100 x2))))))) (op_v125 x3)

set_option maxRecDepth 100000 in
theorem post_read (V : Valuation τ sig (Elt Ideal)) : (afterL postI V (Proc.devRef .tc main_v128) : FVec Ideal S512x8x64x128 .f32)
    = gOut (V (Proc.devRef .tc main_v2)) (V (Proc.devRef .tc main_v3)) (V (Proc.devRef .tc main_arg4)) (V (Proc.devRef .tc main_v91_12)) := by
  simp only [afterL_cons, afterL_nil]
  after_reads_simp
  rfl

/-- The loop's outputs after its last trip. -/
theorem outs_at (c : Dev nD) (k : Fin 64) (b h : Fin 8) (t : Fin 64) (e : Fin 128) :
    (atTrip condOps bodyI (entryContents preI m) 64 c (Proc.devRef .tc main_v91_12) : FVec Ideal S64x8x8x64x128 .f32) (ix5 k b h t e)
      = MlSpec.out (MlSpec.chunk (args m c) b h k) (MlSpec.stateAt (args m c) b h k) t e :=
  (congrFun (atK_agree m c 64 main_v91_12 (by decide +kernel)) (ix5 k b h t e)).trans ((carries_iter (carries_entry m c) 64 (Nat.le_refl _)).out k k.isLt b h t e)

/-- The result at an index. -/
theorem final_apply (c : Dev nD) (b : Fin 8) (n : Fin 64) (h : Fin 8) (t : Fin 64) (e : Fin 128) (r : Fin 512) (hr : r.val = 64 * b.val + n.val) :
    (finalContents condOps preI bodyI postI 64 m c (Proc.devRef .tc main_v128) : FVec Ideal S512x8x64x128 .f32) (ix4 r h t e) = MlSpec.result (args m c) b n.val h t e := by
  unfold finalContents
  rw [post_read, gate_cond _ main_v2 (by decide +kernel), gate_cond _ main_v3 (by decide +kernel), gate_cond _ main_arg4 (by decide +kernel),
    gate_at m c main_v2 (by decide +kernel), gate_at m c main_v3 (by decide +kernel), atTrip_arg (by decide +kernel), entry_v2, entry_v3,
    after_of_writes_sub condOps _ condOps_writes (by decide +kernel)]
  exact eOut_apply _ (m ((c : Thread nD τ).loc main_arg1)) (m ((c : Thread nD τ).loc main_arg2)) (m ((c : Thread nD τ).loc main_arg3)) _ _ b n h t e r hr (fun e => outs_at m c n b h t e)

/-- The result array is the chunks' results, row `64 * batch + chunk`. -/
theorem final_eq (c : Dev nD) :
    (finalContents condOps preI bodyI postI 64 m c (Proc.devRef .tc main_v128) : FVec Ideal S512x8x64x128 .f32) = Cert.KernelIdeal.Ml.arrOf (args m c) := by
  funext i
  have h0 : (i 0).val < 512 := (i 0).isLt
  have h1 : (i 1).val < 8 := (i 1).isLt
  have h2 : (i 2).val < 64 := (i 2).isLt
  have h3 : (i 3).val < 128 := (i 3).isLt
  have ei : i = ix4 (⟨(i 0).val, h0⟩ : Fin 512) (⟨(i 1).val, h1⟩ : Fin 8) (⟨(i 2).val, h2⟩ : Fin 64) (⟨(i 3).val, h3⟩ : Fin 128) := funext fun a => by fin_cases a <;> rfl
  have hr : (i 0).val = 64 * ((i 0).val / 64) + (i 0).val % 64 := by omega
  have hf := final_apply m c ⟨(i 0).val / 64, by omega⟩ ⟨(i 0).val % 64, by omega⟩ ⟨(i 1).val, h1⟩ ⟨(i 2).val, h2⟩ ⟨(i 3).val, h3⟩ ⟨(i 0).val, h0⟩ hr
  rw [← ei] at hf
  exact hf.trans (Cert.KernelIdeal.Ml.arrOf_at (args m c) i _ _ _ _ _ hr rfl rfl rfl).symm

end Cert.ReferenceIdeal.Ml

end
-- ==== Proof.Ml.Claim.lean ====
/- The claim on the mLSTM mixer: the kernel's array and the reference's are the same function of the arguments. -/
module

public import proofs.«01_k».proof.Proof.Ml.RefFinal
public import proofs.«01_k».proof.Proof.Ml.Chunks
public import proofs.«01_k».proof.Defs

@[expose] public section

noncomputable section

namespace Cert.KernelIdeal.Ml

open Cert.KernelIdeal.Gen
open Idealize.ShloMosaic Idealize.ShloMosaic.TcCoe Idealize.ShloMosaic.Tactic
open Idealize.SL.Sem

/-- The kernel ends with the chunks' results. -/
theorem run_array (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = arrOf (args m c)) :=
  (θ_run defs _ _).mono (fun r h c => ((h c).1 5).trans (arr_eq m c)) (run_main m ρ)

/-- The kernel ends with the chunks' results, and its arguments unchanged. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = arrOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨h.1 c, h.2 c⟩)
    (θ_run_and (run_array m ρ) (unchanged m ρ))

/-- The claim: on the same arguments the kernel and the reference end with the same array. -/
theorem claim : Cert.algebraic_KernelIdeal_ReferenceIdeal := by
  intro m g m' g' _ hagree
  refine ⟨fun c => arrOf (args m c), run_values m g, ?_⟩
  refine (θ_run _ _ _).mono (fun r h c => ?_) (Cert.ReferenceIdeal.Value.run_fold m' g')
  have ea : Cert.ReferenceIdeal.Ml.args m' c = args m c := by
    obtain ⟨a0, a1, a2, a3, a4⟩ := hagree c
    unfold Cert.ReferenceIdeal.Ml.args args
    exact congr (congr (congr (congr (congrArg MlSpec.ofArrays a0) a1) a2) a3) a4
  refine ⟨(h c Cert.ReferenceIdeal.main_v128 (by decide)).trans ((Cert.ReferenceIdeal.Ml.final_eq m' c).trans (congrArg arrOf ea)), ?_, ?_, ?_, ?_, ?_⟩
  all_goals exact (h c _ (by decide)).trans (Cert.ReferenceIdeal.Ml.final_arg (by decide) m' c)

end Cert.KernelIdeal.Ml

end
-- ==== Proof.Proj.Run.lean ====
/- The run of the projection's body: the pieces it leaves in the output buffer, found by the run and stated uniformly. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 65536

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole body from input buffers holding `f0` and `f1`: the pieces it leaves in the output buffer, last first, with
    the proof that it runs from there to the inputs as they were and those pieces written. -/
def bodyRun (c : Dev nD) (i : grid0.Coords) (arg1 : Memref sig .tc .vmem S512x1024 .f32) (harg1 : arg1.IsWhole) (arg2 : Memref sig .tc .vmem S1024x4224 .bf16) (harg2 : arg2.IsWhole) (arg3 : Memref sig .tc .vmem S8x33x64x128 .f32) (harg3 : arg3.IsWhole)
    (f0 : Buf (Elt F) (arg1.view.loc (c : Thread nD τ))) (f1 : Buf (Elt F) (arg2.view.loc (c : Thread nD τ))) :
    { L : List (View.Piece (Elt F) S8x33x64x128 .f32) //
      ∀ (E : Set ℕ) (K : PUnit → sProp 𝕄),
        iprop((arg1.view.loc (c : Thread nD τ) ↦[arg1.view.set]{fullShare} f0) ∗ (arg2.view.loc (c : Thread nD τ) ↦[arg2.view.set]{fullShare} f1)
            ∗ (∃ f, arg3.view.loc (c : Thread nD τ) ↦[arg3.view.set]{fullShare} f)
            ∗ (iprop((arg1.view.loc (c : Thread nD τ) ↦[arg1.view.set]{fullShare} f0) ∗ (arg2.view.loc (c : Thread nD τ) ↦[arg2.view.set]{fullShare} f1)
                ∗ (∃ f, arg3.view.loc (c : Thread nD τ) ↦[arg3.view.set]{fullShare} arg3.view.writes (Elt F) f L)) -∗ K ⟨⟩))
          ⊢ wp frame (wpE (defs₀ (F := F)) Variants.none c none) E (cc0_in_proj i arg1 harg1 arg2 harg2 arg3 harg3) K } := by
  refine ⟨?_, fun E K => ?run⟩
  case run =>
    simp only [cc0_in_proj_eq_skeleton]; unfold cc0_in_proj_skel
    simp only [k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    iintro ⟨H0, H1, ⟨%f2, H2⟩, Hk⟩
    sl_exec
    sl_step
    iapply Hk
    isplitl [H0]; · iexact H0
    isplitl [H1]; · iexact H1
    iexists _; iexact H2

/-! ## The pieces, stated uniformly -/

/-- The place of piece `n` of the sixteen wide tiles: sixteen pieces a tile, two lanes of 128 columns for each of the
    eight chunks of 64 rows. -/
def pieceOff (n : ℕ) : Fin 4 → ℕ := ![n / 2 % 8, n / 16 % 16 * 2 + n % 2, 0, 0]

theorem pieceOff_inb (n : ℕ) : ∀ a, pieceOff n a + S1x1x64x128.size a ≤ S8x33x64x128.size a := by
  intro a
  match a with
  | ⟨0, _⟩ => show n / 2 % 8 + 1 ≤ 8; omega
  | ⟨1, _⟩ => show n / 16 % 16 * 2 + n % 2 + 1 ≤ 33; omega
  | ⟨2, _⟩ => show 0 + 64 ≤ 64; omega
  | ⟨3, _⟩ => show 0 + 128 ≤ 128; omega

/-- The columns of the weights that wide tile `n` reads. -/
theorem wideCols_inb (n : ℕ) : ∀ a, (![0, n % 16 * 256] : Fin 2 → ℕ) a + S1024x256.size a ≤ S1024x4224.size a := by
  intro a
  match a with
  | ⟨0, _⟩ => show 0 + 1024 ≤ 1024; omega
  | ⟨1, _⟩ => show n % 16 * 256 + 256 ≤ 4224; omega

theorem wideSlice (n : ℕ) : S512x256.Slices ![n / 2 % 8 * 64, n % 2 * 128] S64x128 := by
  refine ⟨rfl, fun a => ?_⟩
  match a with
  | ⟨0, _⟩ => show n / 2 % 8 * 64 + 64 ≤ 512; omega
  | ⟨1, _⟩ => show n % 2 * 128 + 128 ≤ 256; omega

theorem lastSlice (n : ℕ) : S512x128.Slices ![n % 8 * 64, 0] S64x128 := by
  refine ⟨rfl, fun a => ?_⟩
  match a with
  | ⟨0, _⟩ => show n % 8 * 64 + 64 ≤ 512; omega
  | ⟨1, _⟩ => show 0 + 128 ≤ 128; omega

theorem rows_inb : ∀ a, (![0, 0] : Fin 2 → ℕ) a + S512x1024.size a ≤ S512x1024.size a := by
  intro a
  match a with
  | ⟨0, _⟩ => show 0 + 512 ≤ 512; omega
  | ⟨1, _⟩ => show 0 + 1024 ≤ 1024; omega

theorem lastCols_inb : ∀ a, (![0, 4096] : Fin 2 → ℕ) a + S1024x128.size a ≤ S1024x4224.size a := by
  intro a
  match a with
  | ⟨0, _⟩ => show 0 + 1024 ≤ 1024; omega
  | ⟨1, _⟩ => show 4096 + 128 ≤ 4224; omega

theorem lastOff_inb (n : ℕ) : ∀ a, (![n % 8, 32, 0, 0] : Fin 4 → ℕ) a + S1x1x64x128.size a ≤ S8x33x64x128.size a := by
  intro a
  match a with
  | ⟨0, _⟩ => show n % 8 + 1 ≤ 8; omega
  | ⟨1, _⟩ => show 32 + 1 ≤ 33; omega
  | ⟨2, _⟩ => show 0 + 64 ≤ 64; omega
  | ⟨3, _⟩ => show 0 + 128 ≤ 128; omega

/-- The activations as the product reads them. -/
def lhs (x0 : Vec F S512x1024 .f32) : FVec F S512x1024 .bf16 :=
  truncf .bf16 (shapeCast S512x1024 (View.ld x0 (Rect.unit (s := S512x1024) ![0, 0] S512x1024.size rows_inb)) shapeCasts_S512x1024_S512x1024) bitsLt_bf16_f32

/-- The product of wide tile `n`. -/
def wideProd (x0 : Vec F S512x1024 .f32) (x1 : Vec F S1024x4224 .bf16) (n : ℕ) : FVec F S512x256 .f32 :=
  matmul dot_S512x1024_S1024x256_S512x256_1_0_0_1_n_n none (lhs x0)
    (shapeCast S1024x256 (View.ld x1 (Rect.unit (s := S1024x4224) ![0, n % 16 * 256] S1024x256.size (wideCols_inb n))) shapeCasts_S1024x256_S1024x256)
    (constant S512x256 .f32 0x00000000#32)

/-- The product of the narrow last tile. -/
def lastProd (x0 : Vec F S512x1024 .f32) (x1 : Vec F S1024x4224 .bf16) : FVec F S512x128 .f32 :=
  matmul dot_S512x1024_S1024x128_S512x128_1_0_0_1_n_n none (lhs x0)
    (shapeCast S1024x128 (View.ld x1 (Rect.unit (s := S1024x4224) ![0, 4096] S1024x128.size lastCols_inb)) shapeCasts_S1024x128_S1024x128)
    (constant S512x128 .f32 0x00000000#32)

/-- Piece `n` of the wide tiles. -/
def widePiece (x0 : Vec F S512x1024 .f32) (x1 : Vec F S1024x4224 .bf16) (n : ℕ) : View.Piece (Elt F) S8x33x64x128 .f32 :=
  ⟨Rect.unit (s := S8x33x64x128) (pieceOff n) S1x1x64x128.size (pieceOff_inb n),
    shapeCast S1x1x64x128 (extractStridedSlice S64x128 ![n / 2 % 8 * 64, n % 2 * 128] (wideProd x0 x1 (n / 16)) (wideSlice n)) shapeCasts_S64x128_S1x1x64x128⟩

/-- Piece `n` of the last tile. -/
def lastPiece (x0 : Vec F S512x1024 .f32) (x1 : Vec F S1024x4224 .bf16) (n : ℕ) : View.Piece (Elt F) S8x33x64x128 .f32 :=
  ⟨Rect.unit (s := S8x33x64x128) ![n % 8, 32, 0, 0] S1x1x64x128.size (lastOff_inb n),
    shapeCast S1x1x64x128 (extractStridedSlice S64x128 ![n % 8 * 64, 0] (lastProd x0 x1) (lastSlice n)) shapeCasts_S64x128_S1x1x64x128⟩

/-- The first `n` wide pieces, last first. -/
def widePieces (x0 : Vec F S512x1024 .f32) (x1 : Vec F S1024x4224 .bf16) : ℕ → List (View.Piece (Elt F) S8x33x64x128 .f32)
  | 0 => []
  | n + 1 => widePiece x0 x1 n :: widePieces x0 x1 n

/-- All wide pieces and the first `n` of the last tile, last first. -/
def lastPieces (x0 : Vec F S512x1024 .f32) (x1 : Vec F S1024x4224 .bf16) : ℕ → List (View.Piece (Elt F) S8x33x64x128 .f32)
  | 0 => widePieces x0 x1 256
  | n + 1 => lastPiece x0 x1 n :: lastPieces x0 x1 n

theorem mem_widePieces (x0 : Vec F S512x1024 .f32) (x1 : Vec F S1024x4224 .bf16) (p : View.Piece (Elt F) S8x33x64x128 .f32) (N : ℕ) :
    p ∈ widePieces x0 x1 N ↔ ∃ n < N, p = widePiece x0 x1 n := by
  induction N with
  | zero => simp [widePieces]
  | succ N ih =>
    rw [widePieces, List.mem_cons, ih]
    constructor
    · rintro (h | ⟨n, hn, h⟩)
      · exact ⟨N, by omega, h⟩
      · exact ⟨n, by omega, h⟩
    · rintro ⟨n, hn, h⟩
      rcases Nat.lt_or_ge n N with hl | hl
      · exact .inr ⟨n, hl, h⟩
      · obtain rfl : n = N := by omega
        exact .inl h

theorem mem_lastPieces (x0 : Vec F S512x1024 .f32) (x1 : Vec F S1024x4224 .bf16) (p : View.Piece (Elt F) S8x33x64x128 .f32) (N : ℕ) :
    p ∈ lastPieces x0 x1 N ↔ (∃ n < N, p = lastPiece x0 x1 n) ∨ ∃ n < 256, p = widePiece x0 x1 n := by
  induction N with
  | zero => rw [lastPieces, mem_widePieces]; simp
  | succ N ih =>
    rw [lastPieces, List.mem_cons, ih]
    constructor
    · rintro (h | ⟨n, hn, h⟩ | h)
      · exact .inl ⟨N, by omega, h⟩
      · exact .inl ⟨n, by omega, h⟩
      · exact .inr h
    · rintro (⟨n, hn, h⟩ | h)
      · rcases Nat.lt_or_ge n N with hl | hl
        · exact .inr (.inl ⟨n, hl, h⟩)
        · obtain rfl : n = N := by omega
          exact .inl h
      · exact .inr (.inr h)

/-- The pieces of the body, over the input blocks. -/
abbrev pieces (x0 : Vec F S512x1024 .f32) (x1 : Vec F S1024x4224 .bf16) : List (View.Piece (Elt F) S8x33x64x128 .f32) := lastPieces x0 x1 8

theorem mem_lastPiece (x0 : Vec F S512x1024 .f32) (x1 : Vec F S1024x4224 .bf16) (n : ℕ) (y : S8x33x64x128.Idx)
    (h0 : (y 0).val = n % 8) (h1 : (y 1).val = 32) : y ∈ (lastPiece x0 x1 n).1.set := by
  have h2 : (y 2).val < 64 := (y 2).isLt
  have h3 : (y 3).val < 128 := (y 3).isLt
  show y ∈ (Rect.unit (s := S8x33x64x128) ![n % 8, 32, 0, 0] S1x1x64x128.size (lastOff_inb n)).set
  rw [Rect.mem_set_unit]
  intro a
  match a with
  | ⟨0, _⟩ => show n % 8 ≤ (y 0).val ∧ (y 0).val < n % 8 + 1; omega
  | ⟨1, _⟩ => show 32 ≤ (y 1).val ∧ (y 1).val < 32 + 1; omega
  | ⟨2, _⟩ => show 0 ≤ (y 2).val ∧ (y 2).val < 0 + 64; omega
  | ⟨3, _⟩ => show 0 ≤ (y 3).val ∧ (y 3).val < 0 + 128; omega

theorem mem_widePiece (x0 : Vec F S512x1024 .f32) (x1 : Vec F S1024x4224 .bf16) (n : ℕ) (y : S8x33x64x128.Idx)
    (h0 : (y 0).val = n / 2 % 8) (h1 : (y 1).val = n / 16 % 16 * 2 + n % 2) : y ∈ (widePiece x0 x1 n).1.set := by
  have h2 : (y 2).val < 64 := (y 2).isLt
  have h3 : (y 3).val < 128 := (y 3).isLt
  show y ∈ (Rect.unit (s := S8x33x64x128) (pieceOff n) S1x1x64x128.size (pieceOff_inb n)).set
  rw [Rect.mem_set_unit]
  intro a
  match a with
  | ⟨0, _⟩ => show n / 2 % 8 ≤ (y 0).val ∧ (y 0).val < n / 2 % 8 + 1; omega
  | ⟨1, _⟩ => show n / 16 % 16 * 2 + n % 2 ≤ (y 1).val ∧ (y 1).val < n / 16 % 16 * 2 + n % 2 + 1; omega
  | ⟨2, _⟩ => show 0 ≤ (y 2).val ∧ (y 2).val < 0 + 64; omega
  | ⟨3, _⟩ => show 0 ≤ (y 3).val ∧ (y 3).val < 0 + 128; omega

/-- They cover the output block. -/
theorem cover (x0 : Vec F S512x1024 .f32) (x1 : Vec F S1024x4224 .bf16) (y : S8x33x64x128.Idx) : ∃ p ∈ pieces x0 x1, y ∈ p.1.set := by
  have h0 : (y 0).val < 8 := (y 0).isLt
  have h1 : (y 1).val < 33 := (y 1).isLt
  by_cases hl : (y 1).val = 32
  · exact ⟨lastPiece x0 x1 (y 0).val, (mem_lastPieces ..).mpr (.inl ⟨_, h0, rfl⟩), mem_lastPiece _ _ _ _ (by omega) hl⟩
  · exact ⟨widePiece x0 x1 ((y 1).val / 2 * 16 + (y 0).val * 2 + (y 1).val % 2), (mem_lastPieces ..).mpr (.inr ⟨_, by omega, rfl⟩),
      mem_widePiece _ _ _ _ (by omega) (by omega)⟩

/-- The body leaves exactly these pieces. -/
theorem run_pieces (c : Dev nD) (i : grid0.Coords) (arg1 : Memref sig .tc .vmem S512x1024 .f32) (harg1 : arg1.IsWhole) (arg2 : Memref sig .tc .vmem S1024x4224 .bf16) (harg2 : arg2.IsWhole) (arg3 : Memref sig .tc .vmem S8x33x64x128 .f32) (harg3 : arg3.IsWhole)
    (f0 : Buf (Elt F) (arg1.view.loc (c : Thread nD τ))) (f1 : Buf (Elt F) (arg2.view.loc (c : Thread nD τ))) :
    (bodyRun c i arg1 harg1 arg2 harg2 arg3 harg3 f0 f1).1 = pieces (arg1.view.read (Elt F) f0) (arg2.view.read (Elt F) f1) := by
  sl_kernel_rfl

end Cert.Kernel2Ideal.Proj

end
-- ==== Proof.Proj.Frame.lean ====
/- The frame of the projection: the body's triple, the pipeline's proof data over it, the launch. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp
public import proofs.«01_k».proof.Proof.Proj.Run

@[expose] public section

set_option maxRecDepth 65536

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-- What the body leaves in the output buffer. -/
def outBlock (x0 : Vec F S512x1024 .f32) (x1 : Vec F S1024x4224 .bf16) : Vec F S8x33x64x128 .f32 := View.canon (pieces x0 x1)

/-- The body on whole staging memrefs: the inputs at read contents, the output at anything, to the inputs as they were and
    the output at `outBlock`. -/
theorem sound_kernel (c : Dev nD) (E : Set ℕ) (i : grid0.Coords) (arg1 : Memref sig .tc .vmem S512x1024 .f32) (harg1 : arg1.IsWhole) (arg2 : Memref sig .tc .vmem S1024x4224 .bf16) (harg2 : arg2.IsWhole) (arg3 : Memref sig .tc .vmem S8x33x64x128 .f32) (harg3 : arg3.IsWhole)
    (x0 : Vec F S512x1024 .f32) (x1 : Vec F S1024x4224 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlock x0 x1)) -∗ K ⟨⟩))
      ⊢ wp frame (wpE (defs₀ (F := F)) Variants.none c none) E (cc0_in_proj i arg1 harg1 arg2 harg2 arg3 harg3) K := by
  unfold owns
  iintro ⟨⟨%f0, %hf0, H0⟩, ⟨%f1, %hf1, H1⟩, ⟨%d2, %f2, -, H2⟩, Hk⟩
  subst hf0 hf1
  iapply ((bodyRun c i arg1 harg1 arg2 harg2 arg3 harg3 f0 f1).2 E K)
  isplitl [H0]; · iexact H0
  isplitl [H1]; · iexact H1
  isplitl [H2]; · iexists _; iexact H2
  iintro ⟨H0, H1, ⟨%e, H2⟩⟩
  iapply Hk
  isplitl [H0]
  · iexists f0; isplitr; · ipureintro; rfl
    iexact H0
  isplitl [H1]
  · iexists f1; isplitr; · ipureintro; rfl
    iexact H1
  iexists _; isplitr
  swap; · iexact H2
  ipureintro
  rw [run_pieces]
  exact View.read_writes_eq_canon _ _ _ (cover _ _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel2Ideal.Proj

end
-- ==== Proof.Proj.Value.lean ====
/- The value of the projection at the ideal values: the output block as a matrix product of the input blocks, the output
   array as the product of the arrays the region finds. -/
module

public import proofs.«01_k».proof.Proof.Proj.Frame
public import Idealize.ShloMosaic.Lib.Pipeline.ValueKit
public import Idealize.ShloMosaic.Lib.Pointwise

@[expose] public section

noncomputable section

namespace Cert.Kernel2Ideal.Proj

open Cert.Kernel2Ideal.Gen
open Idealize.ShloMosaic Idealize.ShloMosaic.TcCoe Idealize.ShloMosaic.Tactic
open Idealize.SL.Sem
open Idealize.ShloMosaic.Pipeline (Dat Cfg Window)

/-- A wide tile's product at a row and a column. -/
theorem wideProd_apply (x0 : Vec Ideal S512x1024 .f32) (x1 : Vec Ideal S1024x4224 .bf16) (n : ℕ) (r : Fin 512) (k : Fin 256) :
    wideProd x0 x1 n (ix2 r k) = ∑ q : Fin 1024, x0 (ix2 r q) * x1 (ix2 q ⟨n % 16 * 256 + k.val, by omega⟩) := by
  unfold wideProd lhs
  pointwise

/-- The last tile's product at a row and a column. -/
theorem lastProd_apply (x0 : Vec Ideal S512x1024 .f32) (x1 : Vec Ideal S1024x4224 .bf16) (r : Fin 512) (k : Fin 128) :
    lastProd x0 x1 (ix2 r k) = ∑ q : Fin 1024, x0 (ix2 r q) * x1 (ix2 q ⟨4096 + k.val, by omega⟩) := by
  unfold lastProd lhs
  pointwise

/-- The product of two blocks, laid out by chunk, lane group, row in the chunk and lane. -/
def blockVal (x0 : Vec Ideal S512x1024 .f32) (x1 : Vec Ideal S1024x4224 .bf16) : Vec Ideal S8x33x64x128 .f32 := fun y =>
  ∑ q : Fin 1024, x0 (ix2 ⟨(y 0).val * 64 + (y 2).val, by have := (y 0).isLt; have := (y 2).isLt; change (y 0).val < 8 at *; change (y 2).val < 64 at *; omega⟩ q)
    * x1 (ix2 q ⟨(y 1).val * 128 + (y 3).val, by have := (y 1).isLt; have := (y 3).isLt; change (y 1).val < 33 at *; change (y 3).val < 128 at *; omega⟩)

theorem outBlock_apply (x0 : Vec Ideal S512x1024 .f32) (x1 : Vec Ideal S1024x4224 .bf16) (y : S8x33x64x128.Idx) :
    outBlock x0 x1 y = blockVal x0 x1 y := by
  unfold outBlock
  refine View.canon_apply_of_pieces (blockVal x0 x1) (pieces x0 x1) (fun p hp x => ?_) y (cover x0 x1 y)
  rcases (mem_lastPieces ..).mp hp with ⟨n, hn, rfl⟩ | ⟨n, hn, rfl⟩
  · unfold lastPiece at x ⊢
    dsimp only at x ⊢
    have e0 : (x 0).val < 1 := (x 0).isLt
    unfold blockVal
    pointwise
    refine (lastProd_apply _ _ _ _).trans (Finset.sum_congr rfl fun q _ => ?_)
    refine congrArg₂ (· * ·) (congrArg x0 (congrArg₂ ix2 (Fin.ext ?_) rfl)) (congrArg x1 (congrArg₂ ix2 rfl (Fin.ext ?_)))
    · show n % 8 * 64 + (x 2).val = (n % 8 + 1 * (x 0).val) * 64 + (0 + 1 * (x 2).val); omega
    · have e1 : (x 1).val < 1 := (x 1).isLt
      show 4096 + (x 3).val = (32 + 1 * (x 1).val) * 128 + (0 + 1 * (x 3).val); omega
  · unfold widePiece at x ⊢
    dsimp only at x ⊢
    have e0 : (x 0).val < 1 := (x 0).isLt
    unfold blockVal
    pointwise
    refine (wideProd_apply _ _ _ _ _).trans (Finset.sum_congr rfl fun q _ => ?_)
    refine congrArg₂ (· * ·) (congrArg x0 (congrArg₂ ix2 (Fin.ext ?_) rfl)) (congrArg x1 (congrArg₂ ix2 rfl (Fin.ext ?_)))
    · show n / 2 % 8 * 64 + (x 2).val = (n / 2 % 8 + 1 * (x 0).val) * 64 + (0 + 1 * (x 2).val); omega
    · have e1 : (x 1).val < 1 := (x 1).isLt
      show n / 16 % 16 * 256 + (n % 2 * 128 + (x 3).val) = (n / 16 % 16 * 2 + n % 2 + 1 * (x 1).val) * 128 + (0 + 1 * (x 3).val); omega

variable (m : (ℓ : Loc nD τ sig) → Buf (Elt Ideal) ℓ) (ρ : Dev nD → PrngReg)

/-- The product of the two arrays that the region stages, laid out as the result. -/
def arrVal (A : S32768x1024.Idx → EReal) (B : S1024x4224.Idx → EReal) : S512x33x64x128.Idx → EReal := fun i =>
  ∑ q : Fin 1024, A (ix2 ⟨(i 0).val * 64 + (i 2).val, by have := (i 0).isLt; have := (i 2).isLt; change (i 0).val < 512 at *; change (i 2).val < 64 at *; omega⟩ q)
    * B (ix2 q ⟨(i 1).val * 128 + (i 3).val, by have := (i 1).isLt; have := (i 3).isLt; change (i 1).val < 33 at *; change (i 3).val < 128 at *; omega⟩)

theorem idx : ∀ t : Fin cfg0.N, (cfg0.win 0).index t = ![t.val, 0] ∧ (cfg0.win 1).index t = ![0, 0] ∧ (cfg0.win 2).index t = ![t.val, 0, 0, 0] :=
  (by decide +kernel : ∀ t : Fin grid0.N, (cfg0.win 0).index t = ![t.val, 0] ∧ (cfg0.win 1).index t = ![0, 0] ∧ (cfg0.win 2).index t = ![t.val, 0, 0, 0])

/-- The activations' block at point `t`: rows `512 t` and on. -/
theorem iblk0_apply (c : Dev nD) (t : Fin cfg0.N) (r : Fin 512) (q : Fin 1024) :
    iblk m c 0 t (ix2 r q) = (V m c main_v0 : S32768x1024.Idx → EReal) (ix2 ⟨t.val * 512 + r.val, by have : t.val < 64 := Nat.lt_of_lt_of_eq t.isLt N_0; omega⟩ q) := by
  obtain ⟨i0, i1, i2⟩ := idx t
  unfold iblk
  show (V m c main_v0 : S32768x1024.Idx → EReal) (((cfg0.win 0).blk t).view.emb (ix2 r q)) = _
  generalize (V m c main_v0 : S32768x1024.Idx → EReal) = A
  refine congrArg A (funext fun a => Fin.ext ?_)
  match a with
  | ⟨0, _⟩ => blk_simp [i0]
  | ⟨1, _⟩ => blk_simp [i0]

/-- The weights' block is the whole array. -/
theorem iblk1_apply (c : Dev nD) (t : Fin cfg0.N) (q : Fin 1024) (k : Fin 4224) :
    iblk m c 1 t (ix2 q k) = (V m c main_v2 : S1024x4224.Idx → EReal) (ix2 q k) := by
  obtain ⟨i0, i1, i2⟩ := idx t
  unfold iblk
  show (V m c main_v2 : S1024x4224.Idx → EReal) (((cfg0.win 1).blk t).view.emb (ix2 q k)) = _
  generalize (V m c main_v2 : S1024x4224.Idx → EReal) = A
  refine congrArg A (funext fun a => Fin.ext ?_)
  match a with
  | ⟨0, _⟩ => blk_simp [i1]
  | ⟨1, _⟩ => blk_simp [i1]

theorem arrVal_of (A : S32768x1024.Idx → EReal) (B : S1024x4224.Idx → EReal) (i : S512x33x64x128.Idx) (r : Fin 32768) (k : Fin 4224)
    (hr : (i 0).val * 64 + (i 2).val = r.val) (hk : (i 1).val * 128 + (i 3).val = k.val) :
    arrVal A B i = ∑ q : Fin 1024, A (ix2 r q) * B (ix2 q k) := by
  unfold arrVal
  exact Finset.sum_congr rfl fun q _ => congrArg₂ (· * ·) (congrArg A (congrArg₂ ix2 (Fin.ext hr) rfl)) (congrArg B (congrArg₂ ix2 rfl (Fin.ext hk)))

theorem place (t : Fin cfg0.N) (y : S8x33x64x128.Idx) :
    ((((cfg0.win 2).blk t).view.emb y) 0 : ℕ) = t.val * 8 + (y 0).val ∧ ((((cfg0.win 2).blk t).view.emb y) 1 : ℕ) = (y 1).val
      ∧ ((((cfg0.win 2).blk t).view.emb y) 2 : ℕ) = (y 2).val ∧ ((((cfg0.win 2).blk t).view.emb y) 3 : ℕ) = (y 3).val := by
  obtain ⟨i0, i1, i2⟩ := idx t
  refine ⟨?_, ?_, ?_, ?_⟩ <;> blk_simp [i2]

theorem outBlock_at (c : Dev nD) (t : Fin cfg0.N) (y : S8x33x64x128.Idx) :
    outBlock (iblk m c 0 t) (iblk m c 1 t) y = arrVal (V m c main_v0) (V m c main_v2) (((cfg0.win 2).blk t).view.emb y) := by
  have ht : t.val < 64 := Nat.lt_of_lt_of_eq t.isLt N_0
  obtain ⟨e0, e1, e2, e3⟩ := place t y
  have h0 : (y 0).val < 8 := (y 0).isLt
  have h1 : (y 1).val < 33 := (y 1).isLt
  have h2 : (y 2).val < 64 := (y 2).isLt
  have h3 : (y 3).val < 128 := (y 3).isLt
  rw [outBlock_apply, arrVal_of _ _ _ ⟨t.val * 512 + ((y 0).val * 64 + (y 2).val), by omega⟩ ⟨(y 1).val * 128 + (y 3).val, by omega⟩
    (by rw [e0, e2]; dsimp only; omega) (by rw [e1, e3])]
  unfold blockVal
  refine Finset.sum_congr rfl fun q _ => ?_
  rw [iblk0_apply, iblk1_apply]

/-- The result array after the run. -/
theorem arr_eq (c : Dev nD) : (dats m 0 c).arrAt 2 cfg0.N = arrVal (V m c main_v0) (V m c main_v2) := by
  refine (dats m 0 c).arrAt_eq_of_covers 2 _ (by decide +kernel) fun t hf y => ?_
  rw [after0_2]
  have h := outBlock_at m c t (fun a => y a)
  revert h
  generalize arrVal (V m c main_v0) (V m c main_v2) = G
  generalize outBlock (iblk m c 0 t) (iblk m c 1 t) = O
  intro h
  exact h

/-- The activations that the region finds: the argument's, two axes joined. -/
theorem V_main_v0 (c : Dev nD) :
    V m c main_v0 = shapeCast S32768x1024 (m ((c : Thread nD τ).loc main_arg0)) shapeCasts_S8x4096x1024_S32768x1024 := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

/-- The weights that the region finds: the argument's, zero columns after them. -/
theorem V_main_v2 (c : Dev nD) :
    V m c main_v2 = (truncf .bf16 (pad S1024x4224 ![0, 0] ![0, 112] ![0, 0] (m ((c : Thread nD τ).loc main_arg1)) (sitofp .f32 (constantI S_ 32 0#32)) pads_S1024x4112_S1024x4224_000_01120 h_S_) bitsLt_bf16_f32 : FVec Ideal S1024x4224 .bf16) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl
-- ==== Proof.Proj.Claim.lean ====
/- The projection's claim: the reference's padded, reshaped and transposed product is the kernel's array. -/
module

public import proofs.«01_k».proof.Proof.Proj.Value
public import proofs.«01_k».proof.Proof.Gen.Reference2Ideal.Read
public import proofs.«01_k».proof.Defs
public import Idealize.ShloMosaic.Lib.KernelVsHost

@[expose] public section

noncomputable section

namespace Cert.Kernel2Ideal.Proj

open Cert.Kernel2Ideal.Gen
open Idealize.ShloMosaic Idealize.ShloMosaic.TcCoe Idealize.ShloMosaic.Tactic
open Idealize.SL.Sem

/-- The rows of the flattened input are the input's rows. -/
theorem rows_apply (x : FVec Ideal S8x4096x1024 .f32) (r : Fin 32768) (q : Fin 1024) :
    (shapeCast S32768x1024 x shapeCasts_S8x4096x1024_S32768x1024) (ix2 r q)
      = x (ix3 ⟨r.val / 4096, by omega⟩ ⟨r.val % 4096, by omega⟩ q) := by
  refine shapeCast_apply x _ _ _ ?_
  rw [Shape.rowMajor_val_three, Shape.rowMajor_val_two]
  show (r.val / 4096 * 4096 + r.val % 4096) * 1024 + q.val = r.val * 1024 + q.val
  omega

/-- The padding value is zero. -/
theorem zero_word (j : S_.Idx) : (sitofp .f32 (constantI S_ 32 0#32) : FVec Ideal S_ .f32) j = (0 : EReal) := by
  show (((0#32 : BitVec 32).toInt : ℝ) : EReal) = 0
  norm_num

/-- The padded weights: the weights on the first 4112 columns, zero after them. -/
theorem weights_apply (w : FVec Ideal S1024x4112 .f32) (q : Fin 1024) (k : Fin 4224) :
    (truncf .bf16 (pad S1024x4224 ![0, 0] ![0, 112] ![0, 0] w (sitofp .f32 (constantI S_ 32 0#32)) pads_S1024x4112_S1024x4224_000_01120 h_S_) bitsLt_bf16_f32 : FVec Ideal S1024x4224 .bf16) (ix2 q k)
      = if h : k.val < 4112 then w (ix2 q ⟨k.val, h⟩) else (0 : EReal) := by
  rw [show ∀ v : FVec Ideal S1024x4224 .f32, (truncf .bf16 v bitsLt_bf16_f32 : FVec Ideal S1024x4224 .bf16) (ix2 q k) = v (ix2 q k) from fun _ => rfl]
  split
  · refine pad_apply_of_inside _ _ _ _ _ _ _ _ _ fun a => ?_
    match a with
    | ⟨0, _⟩ => show q.val = 0 + q.val * (0 + 1); omega
    | ⟨1, _⟩ => show k.val = 0 + k.val * (0 + 1); omega
  · rename_i h
    rw [pad_apply_of_not_inside (a := (1 : Fin 2))]
    · exact zero_word _
    · show ¬(0 ≤ k.val ∧ (k.val - 0) % (0 + 1) = 0 ∧ (k.val - 0) / (0 + 1) < 4112)
      rw [Nat.div_one]; omega

/-- The reference's array at an index, as the kernel's array. -/
theorem ref_eq (x : FVec Ideal S8x4096x1024 .f32) (w : FVec Ideal S1024x4112 .f32) :
    Cert.Reference2Ideal.Read.val_main_v3 (F := Ideal) x w
      = arrVal (shapeCast S32768x1024 x shapeCasts_S8x4096x1024_S32768x1024)
        (truncf .bf16 (pad S1024x4224 ![0, 0] ![0, 112] ![0, 0] w (sitofp .f32 (constantI S_ 32 0#32)) pads_S1024x4112_S1024x4224_000_01120 h_S_) bitsLt_bf16_f32 : FVec Ideal S1024x4224 .bf16) := by
  funext i
  have h0 : (i 0).val < 512 := (i 0).isLt
  have h1 : (i 1).val < 33 := (i 1).isLt
  have h2 : (i 2).val < 64 := (i 2).isLt
  have h3 : (i 3).val < 128 := (i 3).isLt
  rw [Cert.Reference2Ideal.Read.val_main_v3_apply, Cert.Reference2Ideal.Read.val_main_v2_apply,
    arrVal_of _ _ i ⟨(i 0).val * 64 + (i 2).val, by omega⟩ ⟨(i 1).val * 128 + (i 3).val, by omega⟩ rfl rfl]
  simp only [rows_apply, weights_apply]
  unfold Cert.Reference2Ideal.Read.val_main_v1
  have g1 : ((((i 0).val * 64 + (i 2).val) * 33 + (i 1).val) * 128 + (i 3).val) / 17301504 = ((i 0).val * 64 + (i 2).val) / 4096 := by omega
  have g2 : ((((i 0).val * 64 + (i 2).val) * 33 + (i 1).val) * 128 + (i 3).val) / 4224 % 4096 = ((i 0).val * 64 + (i 2).val) % 4096 := by omega
  have g3 : ((((i 0).val * 64 + (i 2).val) * 33 + (i 1).val) * 128 + (i 3).val) % 4224 = (i 1).val * 128 + (i 3).val := by omega
  by_cases hc : (i 1).val * 128 + (i 3).val < 4112
  · simp only [dif_pos hc]
    rw [pad_apply_of_inside (k := ix3 ⟨((i 0).val * 64 + (i 2).val) / 4096, by omega⟩ ⟨((i 0).val * 64 + (i 2).val) % 4096, by omega⟩ ⟨(i 1).val * 128 + (i 3).val, hc⟩),
      Cert.Reference2Ideal.Read.val_main_v0_apply]
    · refine Finset.sum_congr rfl fun q _ => congrArg₂ (· * ·) (congrArg x (funext fun a => ?_)) (congrArg w (funext fun a => ?_))
      · fin_cases a <;> rfl
      · fin_cases a <;> rfl
    · intro a
      match a with
      | ⟨0, _⟩ => show ((((i 0).val * 64 + (i 2).val) * 33 + (i 1).val) * 128 + (i 3).val) / 17301504 = 0 + (((i 0).val * 64 + (i 2).val) / 4096) * (0 + 1); omega
      | ⟨1, _⟩ => show ((((i 0).val * 64 + (i 2).val) * 33 + (i 1).val) * 128 + (i 3).val) / 4224 % 4096 = 0 + (((i 0).val * 64 + (i 2).val) % 4096) * (0 + 1); omega
      | ⟨2, _⟩ => show ((((i 0).val * 64 + (i 2).val) * 33 + (i 1).val) * 128 + (i 3).val) % 4224 = 0 + ((i 1).val * 128 + (i 3).val) * (0 + 1); omega
  · simp only [dif_neg hc]
    rw [pad_apply_of_not_inside (a := (2 : Fin 3))]
    · rw [Finset.sum_eq_zero fun q _ => mul_zero _]
      exact zero_word _
    · show ¬(0 ≤ ((((i 0).val * 64 + (i 2).val) * 33 + (i 1).val) * 128 + (i 3).val) % 4224 ∧ (((((i 0).val * 64 + (i 2).val) * 33 + (i 1).val) * 128 + (i 3).val) % 4224 - 0) % (0 + 1) = 0
        ∧ (((((i 0).val * 64 + (i 2).val) * 33 + (i 1).val) * 128 + (i 3).val) % 4224 - 0) / (0 + 1) < 4112)
      rw [Nat.div_one]; omega

/-- The kernel's run with the result read: the array of products. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = Cert.Reference2Ideal.Read.val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans ((arr_eq m c).trans ((congrArg₂ arrVal (V_main_v0 m c) (V_main_v2 m c)).trans
      (ref_eq (m ((c.tc : Thread nD τ).loc main_arg0)) (m ((c.tc : Thread nD τ).loc main_arg1))).symm)), h.2 c⟩)
    (θ_run_and (run_main m ρ) (unchanged m ρ))

/-- The claim: on the same arguments the kernel and the reference end with the same array. -/
theorem claim : Cert.algebraic_Kernel2Ideal_Reference2Ideal := by
  intro m g m' g' _ hagree
  refine ⟨fun c => Cert.Reference2Ideal.Read.val_main_v3 (F := Ideal) (m ((c.tc : Thread nD τ).loc main_arg0)) (m ((c.tc : Thread nD τ).loc main_arg1)), run_value m g, ?_⟩
  refine (θ_run _ _ _).mono (fun r h c => ⟨(h c).1.trans ?_, (h c).2⟩) (Cert.Reference2Ideal.Value.run m' g')
  exact congrArg₂ (Cert.Reference2Ideal.Read.val_main_v3 (F := Ideal)) (hagree c).1 (hagree c).2

end Cert.Kernel2Ideal.Proj

end
-- ==== Proof.Post.Body.lean ====
/- The block after the mixer, one grid point: the body's four stripes of 256 rows, all by the same vector functions of the
   stripe's number. -/
module

public import proofs.«01_k».proof.Proof.Gen.Kernel3Ideal.Frame
public import Idealize.ShloMosaic.Lib.Pipeline.ValueKit
public import Idealize.ShloMosaic.Lib.Pointwise

@[expose] public section

noncomputable section

namespace Cert.Kernel3Ideal.Post

open Cert.Kernel3Ideal.Gen
open Idealize.ShloMosaic Idealize.ShloMosaic.TcCoe Idealize.ShloMosaic.Tactic
open Idealize.SL.Sem

variable {F : FTy → Type} [FloatOps F]

theorem tile_inb (ch : Fin 16) (t : Fin 8) : ∀ a : Fin 4, (![ch.val, t.val, 0, 0] : Fin 4 → ℕ) a + S1x1x64x128.size a ≤ S16x8x64x128.size a := fun a =>
  match a with
  | ⟨0, _⟩ => show ch.val + 1 ≤ 16 by omega
  | ⟨1, _⟩ => show t.val + 1 ≤ 8 by omega
  | ⟨2, _⟩ => show 0 + 64 ≤ 64 by omega
  | ⟨3, _⟩ => show 0 + 128 ≤ 128 by omega

/-- Tile `t` of chunk `ch` of the mixer's output. -/
def tile (x1 : Vec F S16x8x64x128 .f32) (ch : Fin 16) (t : Fin 8) : FVec F S64x128 .f32 :=
  shapeCast S64x128 (View.ld x1 (Rect.unit (s := S16x8x64x128) ![ch.val, t.val, 0, 0] S1x1x64x128.size (tile_inb ch t))) shapeCasts_S1x1x64x128_S64x128

/-- Chunk `ch` of the mixer's output, its tiles side by side. -/
def chunk (x1 : Vec F S16x8x64x128 .f32) (ch : Fin 16) : FVec F S64x1024 .f32 :=
  concatenate S64x1024 1 [⟨S64x128, tile x1 ch 0⟩, ⟨S64x128, tile x1 ch 1⟩, ⟨S64x128, tile x1 ch 2⟩, ⟨S64x128, tile x1 ch 3⟩, ⟨S64x128, tile x1 ch 4⟩, ⟨S64x128, tile x1 ch 5⟩, ⟨S64x128, tile x1 ch 6⟩, ⟨S64x128, tile x1 ch 7⟩]
    concatenates_S64x128_S64x128_S64x128_S64x128_S64x128_S64x128_S64x128_S64x128_S64x1024_d1

/-- Stripe `s` of the mixer's output: four chunks, one below the other. -/
def stripe (x1 : Vec F S16x8x64x128 .f32) (s : Fin 4) : FVec F S256x1024 .f32 :=
  concatenate S256x1024 0 [⟨S64x1024, chunk x1 ⟨4 * s.val, by omega⟩⟩, ⟨S64x1024, chunk x1 ⟨4 * s.val + 1, by omega⟩⟩, ⟨S64x1024, chunk x1 ⟨4 * s.val + 2, by omega⟩⟩, ⟨S64x1024, chunk x1 ⟨4 * s.val + 3, by omega⟩⟩]
    concatenates_S64x1024_S64x1024_S64x1024_S64x1024_S256x1024_d0

theorem rows_inb (s : Fin 4) : ∀ a : Fin 2, (![256 * s.val, 0] : Fin 2 → ℕ) a + S256x1024.size a ≤ S1024x1024.size a := fun a =>
  match a with
  | ⟨0, _⟩ => show 256 * s.val + 256 ≤ 1024 by omega
  | ⟨1, _⟩ => show 0 + 1024 ≤ 1024 by omega

theorem embed_inb (s : Fin 4) : ∀ a : Fin 3, (![0, 256 * s.val, 0] : Fin 3 → ℕ) a + S1x256x256.size a ≤ S1x1024x256.size a := fun a =>
  match a with
  | ⟨0, _⟩ => show 0 + 1 ≤ 1 by omega
  | ⟨1, _⟩ => show 256 * s.val + 256 ≤ 1024 by omega
  | ⟨2, _⟩ => show 0 + 256 ≤ 256 by omega

/-- Stripe `s` as a rectangle of the block. -/
abbrev rows (s : Fin 4) : Rect S1024x1024 := Rect.unit (s := S1024x1024) ![256 * s.val, 0] S256x1024.size (rows_inb s)

/-- The residual sum: the scaled input and the mixer's output through its projection. -/
def resid (x0 : Vec F S1024x1024 .f32) (x1 : Vec F S16x8x64x128 .f32) (x3 : Vec F S1024x1024 .bf16) (s : Fin 4) : FVec F S256x1024 .f32 :=
  addf (mulf (broadcast S256x1024 (Scalar.ofBits .f32 0x3FD744FD#32)) (shapeCast S256x1024 (View.ld x0 (rows s)) shapeCasts_S256x1024_S256x1024))
    (matmul dot_S256x1024_S1024x1024_S256x1024_1_0_0_1_n_n none (truncf .bf16 (stripe x1 s) bitsLt_bf16_f32)
      (shapeCast S1024x1024 (View.ld x3 r0_33) shapeCasts_S1024x1024_S1024x1024) (constant S256x1024 .f32 0x00000000#32))

/-- The mean of every row, as a column. -/
def rowMean (v : FVec F S256x1024 .f32) : FVec F S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- A row vector on every row. -/
def onRows (v : Vec F S1x1024 .f32) : FVec F S256x1024 .f32 :=
  broadcastTo S256x1024 (shapeCast S1x1024 (View.ld v r0_67) shapeCasts_S1x1024_S1x1024) broadcasts_S1x1024_S256x1024

/-- Centred rows. -/
def centred (v : FVec F S256x1024 .f32) : FVec F S256x1024 .f32 :=
  subf v (broadcastTo S256x1024 (rowMean v) broadcasts_S256x1_S256x1024)

/-- The layer norm of every row. -/
def norm (v : FVec F S256x1024 .f32) (x6 x7 : Vec F S1x1024 .f32) : FVec F S256x1024 .f32 :=
  addf (mulf (mulf (centred v) (broadcastTo S256x1024 (rsqrt (addf (rowMean (mulf (centred v) (centred v))) (broadcast S256x1 (Scalar.ofBits .f32 0x3727C5AC#32)))) broadcasts_S256x1_S256x1024))
    (onRows x6)) (onRows x7)

/-- The gate. -/
def gate (xn : FVec F S256x1024 .f32) (x4 : Vec F S1024x1024 .bf16) : FVec F S256x1024 .f32 :=
  logistic (matmul dot_S256x1024_S1024x1024_S256x1024_1_0_0_1_n_n none (truncf .bf16 xn bitsLt_bf16_f32)
    (shapeCast S1024x1024 (View.ld x4 r0_33) shapeCasts_S1024x1024_S1024x1024) (constant S256x1024 .f32 0x00000000#32))

/-- The projected embedding of a stripe. -/
def embed (x2 : Vec F S1x1024x256 .f32) (x5 : Vec F S256x1024 .bf16) (s : Fin 4) : FVec F S256x1024 .f32 :=
  matmul dot_S256x256_S256x1024_S256x1024_1_0_0_1_n_n none
    (truncf .bf16 (shapeCast S256x256 (View.ld x2 (Rect.unit (s := S1x1024x256) ![0, 256 * s.val, 0] S1x256x256.size (embed_inb s))) shapeCasts_S1x256x256_S256x256) bitsLt_bf16_f32)
    (shapeCast S256x1024 (View.ld x5 r0_102) shapeCasts_S256x1024_S256x1024) (constant S256x1024 .f32 0x00000000#32)

/-- The root-mean-square norm of every row. -/
def rms (pp : FVec F S256x1024 .f32) (x8 : Vec F S1x1024 .f32) : FVec F S256x1024 .f32 :=
  mulf (mulf pp (broadcastTo S256x1024 (rsqrt (addf (rowMean (mulf pp pp)) (broadcast S256x1 (Scalar.ofBits .f32 0x358637BD#32)))) broadcasts_S256x1_S256x1024)) (onRows x8)

/-- What stripe `s` stores. -/
def stored (x0 : Vec F S1024x1024 .f32) (x1 : Vec F S16x8x64x128 .f32) (x2 : Vec F S1x1024x256 .f32) (x3 x4 : Vec F S1024x1024 .bf16) (x5 : Vec F S256x1024 .bf16)
    (x6 x7 x8 : Vec F S1x1024 .f32) (s : Fin 4) : FVec F S256x1024 .f32 :=
  addf (norm (resid x0 x1 x3 s) x6 x7) (mulf (gate (norm (resid x0 x1 x3 s) x6 x7) x4) (rms (embed x2 x5 s) x8))

/-- Stripe `s`'s store. -/
def piece (x0 : Vec F S1024x1024 .f32) (x1 : Vec F S16x8x64x128 .f32) (x2 : Vec F S1x1024x256 .f32) (x3 x4 : Vec F S1024x1024 .bf16) (x5 : Vec F S256x1024 .bf16)
    (x6 x7 x8 : Vec F S1x1024 .f32) (s : Fin 4) : View.Piece (Elt F) S1024x1024 .f32 :=
  ⟨rows s, stored x0 x1 x2 x3 x4 x5 x6 x7 x8 s⟩

/-- The body's output block, by the uniform stripes. -/
theorem out_eq (x0 : Vec F S1024x1024 .f32) (x1 : Vec F S16x8x64x128 .f32) (x2 : Vec F S1x1024x256 .f32) (x3 x4 : Vec F S1024x1024 .bf16) (x5 : Vec F S256x1024 .bf16)
    (x6 x7 x8 : Vec F S1x1024 .f32) :
    out0_9 x0 x1 x2 x3 x4 x5 x6 x7 x8 = View.canon [piece x0 x1 x2 x3 x4 x5 x6 x7 x8 3, piece x0 x1 x2 x3 x4 x5 x6 x7 x8 2,
      piece x0 x1 x2 x3 x4 x5 x6 x7 x8 1, piece x0 x1 x2 x3 x4 x5 x6 x7 x8 0] := by
  sl_kernel_rfl

end Cert.Kernel3Ideal.Post

end
-- ==== Proof.Post.Row.lean ====
/- One row of the block after the mixer, as a function of the row's arrays: what kernel and reference both compute. -/
module

public import Idealize.ShloMosaic.PureOps
public import Idealize.ShloMosaic.Lib.Pointwise

@[expose] public section

noncomputable section

namespace Cert.PostRow

open Idealize.ShloMosaic

/-- The float a word writes, as an extended real. -/
abbrev word (w : BitVec 32) : EReal := (Scalar.ofBits .f32 w : Ideal .f32)

/-- The mean of a row. -/
def mean (R : Fin 1024 → EReal) : EReal := Ideal.div (∑ k, R k) (word 0x44800000#32)

/-- The residual sum of a row. -/
def resid (X Y : Fin 1024 → EReal) (W : Fin 1024 → Fin 1024 → EReal) (k : Fin 1024) : EReal :=
  word 0x3FD744FD#32 * X k + ∑ q, Y q * W q k

/-- The layer norm of a row. -/
def norm (R G B : Fin 1024 → EReal) (k : Fin 1024) : EReal :=
  (R k - mean R) * Ideal.rsqrt (mean (fun j => (R j - mean R) * (R j - mean R)) + word 0x3727C5AC#32) * G k + B k

/-- The root-mean-square norm of a row. -/
def rms (P G : Fin 1024 → EReal) (k : Fin 1024) : EReal :=
  P k * Ideal.rsqrt (mean (fun j => P j * P j) + word 0x358637BD#32) * G k

/-- The row's result, from its normed residual sum and its projected embedding. -/
def out (N : Fin 1024 → EReal) (W : Fin 1024 → Fin 1024 → EReal) (P G : Fin 1024 → EReal) (k : Fin 1024) : EReal :=
  N k + Ideal.logistic (∑ q, N q * W q k) * rms P G k

end Cert.PostRow

end
-- ==== Proof.Post.Value.lean ====
/- The block after the mixer at the ideal values: every row of the output block is `PostRow.out` of the row's arrays. -/
module

public import proofs.«01_k».proof.Proof.Post.Body
public import proofs.«01_k».proof.Proof.Post.Row

@[expose] public section

noncomputable section

namespace Cert.Kernel3Ideal.Post

open Cert.Kernel3Ideal.Gen
open Idealize.ShloMosaic Idealize.ShloMosaic.TcCoe Idealize.ShloMosaic.Tactic
open Idealize.SL.Sem

/-- Two rank-4 indices with the same coordinates are equal. -/
theorem ix4_of_vals {A B C D : ℕ} {a a' : Fin A} {b b' : Fin B} {c c' : Fin C} {d d' : Fin D}
    (ha : a.val = a'.val) (hb : b.val = b'.val) (hc : c.val = c'.val) (hd : d.val = d'.val) :
    (ix4 a b c d : (i : Fin 4) → Fin ((![A, B, C, D] : Fin 4 → ℕ) i)) = ix4 a' b' c' d' := by
  rw [Fin.ext ha, Fin.ext hb, Fin.ext hc, Fin.ext hd]

/-- A tile at a row and a lane. -/
theorem tile_apply (x1 : Vec Ideal S16x8x64x128 .f32) (ch : Fin 16) (t : Fin 8) (r : Fin 64) (l : Fin 128) :
    tile x1 ch t (ix2 r l) = x1 (ix4 ch t r l) := by
  unfold tile
  refine (shapeCast_apply _ shapeCasts_S1x1x64x128_S64x128 (ix2 r l) (ix4 0 0 r l) ?_).trans ?_
  · rw [Shape.rowMajor_val_four, Shape.rowMajor_val_two]
    show ((0 * 1 + 0) * 64 + r.val) * 128 + l.val = r.val * 128 + l.val
    omega
  · refine congrArg x1 (funext fun a => Fin.ext ?_)
    match a with
    | ⟨0, _⟩ => show ch.val + 1 * 0 = ch.val; omega
    | ⟨1, _⟩ => show t.val + 1 * 0 = t.val; omega
    | ⟨2, _⟩ => show 0 + 1 * r.val = r.val; omega
    | ⟨3, _⟩ => show 0 + 1 * l.val = l.val; omega

theorem chunk_apply (x1 : Vec Ideal S16x8x64x128 .f32) (ch : Fin 16) (r : Fin 64) (k : Fin 1024) :
    chunk x1 ch (ix2 r k) = x1 (ix4 ch ⟨k.val / 128, by omega⟩ r ⟨k.val % 128, by omega⟩) := by
  unfold chunk
  pointwise
  repeat' split
  all_goals
    rw [tile_apply]
    refine congrArg x1 (ix4_of_vals rfl ?_ rfl ?_) <;> simp <;> omega

theorem stripe_apply (x1 : Vec Ideal S16x8x64x128 .f32) (s : Fin 4) (r : Fin 256) (k : Fin 1024) :
    stripe x1 s (ix2 r k) = x1 (ix4 ⟨4 * s.val + r.val / 64, by omega⟩ ⟨k.val / 128, by omega⟩ ⟨r.val % 64, by omega⟩ ⟨k.val % 128, by omega⟩) := by
  unfold stripe
  pointwise
  repeat' split
  all_goals
    rw [chunk_apply]
    refine congrArg x1 (ix4_of_vals ?_ rfl ?_ rfl) <;> simp <;> omega

theorem resid_apply (x0 : Vec Ideal S1024x1024 .f32) (x1 : Vec Ideal S16x8x64x128 .f32) (x3 : Vec Ideal S1024x1024 .bf16) (s : Fin 4) (r : Fin 256) (k : Fin 1024) :
    resid x0 x1 x3 s (ix2 r k) = PostRow.resid (fun q => x0 (ix2 ⟨256 * s.val + r.val, by omega⟩ q)) (fun q => stripe x1 s (ix2 r q)) (fun q k => x3 (ix2 q k)) k := by
  unfold resid PostRow.resid
  pointwise

theorem rowMean_apply (v : FVec Ideal S256x1024 .f32) (r : Fin 256) (o : Fin 1) :
    rowMean v (ix2 r o) = PostRow.mean fun k => v (ix2 r k) := by
  unfold rowMean PostRow.mean
  pointwise

theorem onRows_apply (v : Vec Ideal S1x1024 .f32) (r : Fin 256) (k : Fin 1024) : onRows v (ix2 r k) = v (ix2 0 k) := by
  unfold onRows
  pointwise

theorem centred_apply (v : FVec Ideal S256x1024 .f32) (r : Fin 256) (k : Fin 1024) :
    centred v (ix2 r k) = v (ix2 r k) - PostRow.mean fun k => v (ix2 r k) := by
  rw [← rowMean_apply v r 0]
  unfold centred
  pointwise

theorem norm_apply (v : FVec Ideal S256x1024 .f32) (x6 x7 : Vec Ideal S1x1024 .f32) (r : Fin 256) (k : Fin 1024) :
    norm v x6 x7 (ix2 r k) = PostRow.norm (fun q => v (ix2 r q)) (fun q => x6 (ix2 0 q)) (fun q => x7 (ix2 0 q)) k := by
  unfold norm PostRow.norm
  pointwise
  rw [rowMean_apply, onRows_apply, onRows_apply, centred_apply]
  have h : (fun j => mulf (centred v) (centred v) (ix2 r j)) = fun j => (v (ix2 r j) - PostRow.mean fun q => v (ix2 r q)) * (v (ix2 r j) - PostRow.mean fun q => v (ix2 r q)) :=
    funext fun j => (congrArg₂ (· * ·) (centred_apply v r j) (centred_apply v r j) : centred v (ix2 r j) * centred v (ix2 r j) = _)
  rw [h]

theorem gate_apply (xn : FVec Ideal S256x1024 .f32) (x4 : Vec Ideal S1024x1024 .bf16) (r : Fin 256) (k : Fin 1024) :
    gate xn x4 (ix2 r k) = Ideal.logistic (∑ q, xn (ix2 r q) * x4 (ix2 q k)) := by
  unfold gate
  pointwise

theorem embed_apply (x2 : Vec Ideal S1x1024x256 .f32) (x5 : Vec Ideal S256x1024 .bf16) (s : Fin 4) (r : Fin 256) (k : Fin 1024) :
    embed x2 x5 s (ix2 r k) = ∑ q : Fin 256, x2 (ix3 0 ⟨256 * s.val + r.val, by omega⟩ q) * x5 (ix2 q k) := by
  unfold embed
  have hx : ∀ q : Fin 256, (shapeCast S256x256 (View.ld x2 (Rect.unit (s := S1x1024x256) ![0, 256 * s.val, 0] S1x256x256.size (embed_inb s))) shapeCasts_S1x256x256_S256x256 : FVec Ideal S256x256 .f32) (ix2 r q)
      = x2 (ix3 0 ⟨256 * s.val + r.val, by omega⟩ q) := fun q => by
    refine (shapeCast_apply _ shapeCasts_S1x256x256_S256x256 (ix2 r q) (ix3 0 r q) ?_).trans ?_
    · rw [Shape.rowMajor_val_three, Shape.rowMajor_val_two]
      show (0 * 256 + r.val) * 256 + q.val = r.val * 256 + q.val
      omega
    · refine congrArg x2 (funext fun a => Fin.ext ?_)
      match a with
      | ⟨0, _⟩ => rfl
      | ⟨1, _⟩ => show 256 * s.val + 1 * r.val = 256 * s.val + r.val; omega
      | ⟨2, _⟩ => show 0 + 1 * q.val = q.val; omega
  revert hx
  generalize (shapeCast S256x256 (View.ld x2 (Rect.unit (s := S1x1024x256) ![0, 256 * s.val, 0] S1x256x256.size (embed_inb s))) shapeCasts_S1x256x256_S256x256 : FVec Ideal S256x256 .f32) = v
  intro hx
  pointwise
  simp only [hx]

theorem rms_apply (pp : FVec Ideal S256x1024 .f32) (x8 : Vec Ideal S1x1024 .f32) (r : Fin 256) (k : Fin 1024) :
    rms pp x8 (ix2 r k) = PostRow.rms (fun q => pp (ix2 r q)) (fun q => x8 (ix2 0 q)) k := by
  unfold rms PostRow.rms
  pointwise
  rw [rowMean_apply, onRows_apply]
  rfl

end Cert.Kernel3Ideal.Post

end
-- ==== Proof.Post.Array.lean ====
/- The block after the mixer at the ideal values: the output block and the output array, row by row. -/
module

public import proofs.«01_k».proof.Proof.Post.Value
public import proofs.«01_k».proof.Proof.Gen.Kernel3Ideal.Frame
public import Idealize.ShloMosaic.Lib.Pipeline.ValueKit

@[expose] public section

noncomputable section

namespace Cert.Kernel3Ideal.Post

open Cert.Kernel3Ideal.Gen
open Idealize.ShloMosaic Idealize.ShloMosaic.TcCoe Idealize.ShloMosaic.Tactic
open Idealize.SL.Sem
open Idealize.ShloMosaic.Pipeline (Dat Cfg Window)

/-- A row's result from the row's arrays and the weights. -/
def rowOut (X Y : Fin 1024 → EReal) (P : Fin 256 → EReal) (W W4 : Fin 1024 → Fin 1024 → EReal) (W5 : Fin 256 → Fin 1024 → EReal)
    (G B G8 : Fin 1024 → EReal) (k : Fin 1024) : EReal :=
  PostRow.out (fun k => PostRow.norm (fun k => PostRow.resid X Y W k) G B k) W4 (fun k => ∑ q, P q * W5 q k) G8 k

/-- What stripe `s` stores, at a row and a column. -/
theorem stored_apply (x0 : Vec Ideal S1024x1024 .f32) (x1 : Vec Ideal S16x8x64x128 .f32) (x2 : Vec Ideal S1x1024x256 .f32) (x3 x4 : Vec Ideal S1024x1024 .bf16)
    (x5 : Vec Ideal S256x1024 .bf16) (x6 x7 x8 : Vec Ideal S1x1024 .f32) (s : Fin 4) (r : Fin 256) (k : Fin 1024) :
    stored x0 x1 x2 x3 x4 x5 x6 x7 x8 s (ix2 r k)
      = rowOut (fun q => x0 (ix2 ⟨256 * s.val + r.val, by omega⟩ q))
          (fun q => x1 (ix4 ⟨4 * s.val + r.val / 64, by omega⟩ ⟨q.val / 128, by omega⟩ ⟨r.val % 64, by omega⟩ ⟨q.val % 128, by omega⟩))
          (fun q => x2 (ix3 0 ⟨256 * s.val + r.val, by omega⟩ q)) (fun q k => x3 (ix2 q k)) (fun q k => x4 (ix2 q k)) (fun q k => x5 (ix2 q k))
          (fun q => x6 (ix2 0 q)) (fun q => x7 (ix2 0 q)) (fun q => x8 (ix2 0 q)) k := by
  have hn : ∀ k, norm (resid x0 x1 x3 s) x6 x7 (ix2 r k) = PostRow.norm (fun k => PostRow.resid (fun q => x0 (ix2 ⟨256 * s.val + r.val, by omega⟩ q))
      (fun q => x1 (ix4 ⟨4 * s.val + r.val / 64, by omega⟩ ⟨q.val / 128, by omega⟩ ⟨r.val % 64, by omega⟩ ⟨q.val % 128, by omega⟩)) (fun q k => x3 (ix2 q k)) k)
      (fun q => x6 (ix2 0 q)) (fun q => x7 (ix2 0 q)) k := fun k => by
    rw [norm_apply]
    simp only [resid_apply, stripe_apply]
  have e : stored x0 x1 x2 x3 x4 x5 x6 x7 x8 s (ix2 r k) = norm (resid x0 x1 x3 s) x6 x7 (ix2 r k)
      + gate (norm (resid x0 x1 x3 s) x6 x7) x4 (ix2 r k) * rms (embed x2 x5 s) x8 (ix2 r k) := rfl
  rw [e, gate_apply, rms_apply]
  simp only [hn, embed_apply]
  rfl

/-- The output block, row by row. -/
def blockVal (x0 : Vec Ideal S1024x1024 .f32) (x1 : Vec Ideal S16x8x64x128 .f32) (x2 : Vec Ideal S1x1024x256 .f32) (x3 x4 : Vec Ideal S1024x1024 .bf16)
    (x5 : Vec Ideal S256x1024 .bf16) (x6 x7 x8 : Vec Ideal S1x1024 .f32) (r k : Fin 1024) : EReal :=
  rowOut (fun q => x0 (ix2 r q))
    (fun q => x1 (ix4 ⟨r.val / 64, by omega⟩ ⟨q.val / 128, by omega⟩ ⟨r.val % 64, by omega⟩ ⟨q.val % 128, by omega⟩))
    (fun q => x2 (ix3 0 r q)) (fun q k => x3 (ix2 q k)) (fun q k => x4 (ix2 q k)) (fun q k => x5 (ix2 q k))
    (fun q => x6 (ix2 0 q)) (fun q => x7 (ix2 0 q)) (fun q => x8 (ix2 0 q)) k

/-- The output block as an array. -/
def blockArr (x0 : Vec Ideal S1024x1024 .f32) (x1 : Vec Ideal S16x8x64x128 .f32) (x2 : Vec Ideal S1x1024x256 .f32) (x3 x4 : Vec Ideal S1024x1024 .bf16)
    (x5 : Vec Ideal S256x1024 .bf16) (x6 x7 x8 : Vec Ideal S1x1024 .f32) : Vec Ideal S1024x1024 .f32 := fun y => blockVal x0 x1 x2 x3 x4 x5 x6 x7 x8 (y 0) (y 1)

theorem piece_apply (x0 : Vec Ideal S1024x1024 .f32) (x1 : Vec Ideal S16x8x64x128 .f32) (x2 : Vec Ideal S1x1024x256 .f32) (x3 x4 : Vec Ideal S1024x1024 .bf16)
    (x5 : Vec Ideal S256x1024 .bf16) (x6 x7 x8 : Vec Ideal S1x1024 .f32) (s : Fin 4) (x : S256x1024.Idx) :
    stored x0 x1 x2 x3 x4 x5 x6 x7 x8 s x = (blockArr x0 x1 x2 x3 x4 x5 x6 x7 x8) ((rows s).emb x) := by
  have h0 : (x 0).val < 256 := (x 0).isLt
  have h1 : (x 1).val < 1024 := (x 1).isLt
  have ex : x = ix2 (⟨(x 0).val, h0⟩ : Fin 256) (⟨(x 1).val, h1⟩ : Fin 1024) := funext fun a => by fin_cases a <;> rfl
  have e0 : ((rows s).emb x) 0 = (⟨256 * s.val + (x 0).val, by omega⟩ : Fin 1024) := Fin.ext (by show 256 * s.val + 1 * (x 0).val = 256 * s.val + (x 0).val; omega)
  have e1 : ((rows s).emb x) 1 = (⟨(x 1).val, h1⟩ : Fin 1024) := Fin.ext (by show 0 + 1 * (x 1).val = (x 1).val; omega)
  show _ = blockVal x0 x1 x2 x3 x4 x5 x6 x7 x8 (((rows s).emb x) 0) (((rows s).emb x) 1)
  rw [e0, e1]
  refine (congrArg (stored x0 x1 x2 x3 x4 x5 x6 x7 x8 s) ex).trans ?_
  rw [stored_apply]
  unfold blockVal
  refine congrArg (fun Y => rowOut _ Y _ _ _ _ _ _ _ _) (funext fun q => congrArg x1 (ix4_of_vals ?_ rfl ?_ rfl)) <;> dsimp only <;> omega

/-- The output block at an index. -/
theorem out_apply (x0 : Vec Ideal S1024x1024 .f32) (x1 : Vec Ideal S16x8x64x128 .f32) (x2 : Vec Ideal S1x1024x256 .f32) (x3 x4 : Vec Ideal S1024x1024 .bf16)
    (x5 : Vec Ideal S256x1024 .bf16) (x6 x7 x8 : Vec Ideal S1x1024 .f32) (y : S1024x1024.Idx) :
    out0_9 x0 x1 x2 x3 x4 x5 x6 x7 x8 y = blockVal x0 x1 x2 x3 x4 x5 x6 x7 x8 (y 0) (y 1) := by
  rw [out_eq]
  refine View.canon_apply_of_pieces (blockArr x0 x1 x2 x3 x4 x5 x6 x7 x8) _ (fun p hp x => ?_) y ?_
  · simp only [List.mem_cons, List.mem_nil_iff, or_false] at hp
    rcases hp with rfl | rfl | rfl | rfl
    · exact piece_apply x0 x1 x2 x3 x4 x5 x6 x7 x8 3 x
    · exact piece_apply x0 x1 x2 x3 x4 x5 x6 x7 x8 2 x
    · exact piece_apply x0 x1 x2 x3 x4 x5 x6 x7 x8 1 x
    · exact piece_apply x0 x1 x2 x3 x4 x5 x6 x7 x8 0 x
  · exact cover0_9 _ _ _ _ y

variable (m : (ℓ : Loc nD τ sig) → Buf (Elt Ideal) ℓ) (ρ : Dev nD → PrngReg)

/-- The output array from the arrays that the region stages, row by row. -/
def arrVal (X : S32768x1024.Idx → EReal) (Y : S512x8x64x128.Idx → EReal) (P : S4x32768x256.Idx → EReal) (W W4 : S1024x1024.Idx → EReal)
    (W5 : S256x1024.Idx → EReal) (G B G8 : S1x1024.Idx → EReal) (r : Fin 32768) (k : Fin 1024) : EReal :=
  rowOut (fun q => X (ix2 r q))
    (fun q => Y (ix4 ⟨r.val / 64, by omega⟩ ⟨q.val / 128, by omega⟩ ⟨r.val % 64, by omega⟩ ⟨q.val % 128, by omega⟩))
    (fun q => P (ix3 3 r q)) (fun q k => W (ix2 q k)) (fun q k => W4 (ix2 q k)) (fun q k => W5 (ix2 q k))
    (fun q => G (ix2 0 q)) (fun q => B (ix2 0 q)) (fun q => G8 (ix2 0 q)) k

theorem idx : ∀ t : Fin cfg0.N, (cfg0.win 0).index t = ![t.val, 0] ∧ (cfg0.win 1).index t = ![t.val, 0, 0, 0] ∧ (cfg0.win 2).index t = ![3, t.val, 0]
    ∧ (cfg0.win 3).index t = ![0, 0] ∧ (cfg0.win 4).index t = ![0, 0] ∧ (cfg0.win 5).index t = ![0, 0] ∧ (cfg0.win 6).index t = ![0, 0]
    ∧ (cfg0.win 7).index t = ![0, 0] ∧ (cfg0.win 8).index t = ![0, 0] ∧ (cfg0.win 9).index t = ![t.val, 0] :=
  (by decide +kernel : ∀ t : Fin grid0.N, (cfg0.win 0).index t = ![t.val, 0] ∧ (cfg0.win 1).index t = ![t.val, 0, 0, 0] ∧ (cfg0.win 2).index t = ![3, t.val, 0]
    ∧ (cfg0.win 3).index t = ![0, 0] ∧ (cfg0.win 4).index t = ![0, 0] ∧ (cfg0.win 5).index t = ![0, 0] ∧ (cfg0.win 6).index t = ![0, 0]
    ∧ (cfg0.win 7).index t = ![0, 0] ∧ (cfg0.win 8).index t = ![0, 0] ∧ (cfg0.win 9).index t = ![t.val, 0])

theorem point_lt (t : Fin cfg0.N) : t.val < 32 := Nat.lt_of_lt_of_eq t.isLt N_0

/-- The input's block at point `t`: rows `1024 t` and on. -/
theorem iblk0_apply (c : Dev nD) (t : Fin cfg0.N) (r q : Fin 1024) :
    iblk m c 0 t (ix2 r q) = (V m c main_v0 : S32768x1024.Idx → EReal) (ix2 ⟨t.val * 1024 + r.val, by have := point_lt t; omega⟩ q) := by
  obtain ⟨i0, i1, i2, i3, i4, i5, i6, i7, i8, i9⟩ := idx t
  unfold iblk
  show (V m c main_v0 : S32768x1024.Idx → EReal) (((cfg0.win 0).blk t).view.emb (ix2 r q)) = _
  generalize (V m c main_v0 : S32768x1024.Idx → EReal) = A
  refine congrArg A (funext fun a => Fin.ext ?_)
  match a with
  | ⟨0, _⟩ => blk_simp [i0]
  | ⟨1, _⟩ => blk_simp [i0]

/-- The mixer's output's block at point `t`: chunks `16 t` and on. -/
theorem iblk1_apply (c : Dev nD) (t : Fin cfg0.N) (ch : Fin 16) (h : Fin 8) (p : Fin 64) (l : Fin 128) :
    iblk m c 1 t (ix4 ch h p l) = (V m c main_arg1 : S512x8x64x128.Idx → EReal) (ix4 ⟨t.val * 16 + ch.val, by have := point_lt t; omega⟩ h p l) := by
  obtain ⟨i0, i1, i2, i3, i4, i5, i6, i7, i8, i9⟩ := idx t
  unfold iblk
  show (V m c main_arg1 : S512x8x64x128.Idx → EReal) (((cfg0.win 1).blk t).view.emb (ix4 ch h p l)) = _
  generalize (V m c main_arg1 : S512x8x64x128.Idx → EReal) = A
  refine congrArg A (funext fun a => Fin.ext ?_)
  match a with
  | ⟨0, _⟩ => blk_simp [i1]
  | ⟨1, _⟩ => blk_simp [i1]
  | ⟨2, _⟩ => blk_simp [i1]
  | ⟨3, _⟩ => blk_simp [i1]

/-- The embeddings' block at point `t`: the last layer's rows `1024 t` and on. -/
theorem iblk2_apply (c : Dev nD) (t : Fin cfg0.N) (r : Fin 1024) (q : Fin 256) :
    iblk m c 2 t (ix3 0 r q) = (V m c main_v1 : S4x32768x256.Idx → EReal) (ix3 3 ⟨t.val * 1024 + r.val, by have := point_lt t; omega⟩ q) := by
  obtain ⟨i0, i1, i2, i3, i4, i5, i6, i7, i8, i9⟩ := idx t
  unfold iblk
  show (V m c main_v1 : S4x32768x256.Idx → EReal) (((cfg0.win 2).blk t).view.emb (ix3 0 r q)) = _
  generalize (V m c main_v1 : S4x32768x256.Idx → EReal) = A
  refine congrArg A (funext fun a => Fin.ext ?_)
  match a with
  | ⟨0, _⟩ => blk_simp [i2]; rfl
  | ⟨1, _⟩ => blk_simp [i2]
  | ⟨2, _⟩ => blk_simp [i2]

theorem iblk3_apply (c : Dev nD) (t : Fin cfg0.N) (q k : Fin 1024) :
    iblk m c 3 t (ix2 q k) = (V m c main_v2 : S1024x1024.Idx → EReal) (ix2 q k) := by
  obtain ⟨i0, i1, i2, i3, i4, i5, i6, i7, i8, i9⟩ := idx t
  unfold iblk
  show (V m c main_v2 : S1024x1024.Idx → EReal) (((cfg0.win 3).blk t).view.emb (ix2 q k)) = _
  generalize (V m c main_v2 : S1024x1024.Idx → EReal) = A
  refine congrArg A (funext fun a => Fin.ext ?_)
  match a with
  | ⟨0, _⟩ => blk_simp [i3]
  | ⟨1, _⟩ => blk_simp [i3]

theorem iblk4_apply (c : Dev nD) (t : Fin cfg0.N) (q k : Fin 1024) :
    iblk m c 4 t (ix2 q k) = (V m c main_v3 : S1024x1024.Idx → EReal) (ix2 q k) := by
  obtain ⟨i0, i1, i2, i3, i4, i5, i6, i7, i8, i9⟩ := idx t
  unfold iblk
  show (V m c main_v3 : S1024x1024.Idx → EReal) (((cfg0.win 4).blk t).view.emb (ix2 q k)) = _
  generalize (V m c main_v3 : S1024x1024.Idx → EReal) = A
  refine congrArg A (funext fun a => Fin.ext ?_)
  match a with
  | ⟨0, _⟩ => blk_simp [i4]
  | ⟨1, _⟩ => blk_simp [i4]

theorem iblk5_apply (c : Dev nD) (t : Fin cfg0.N) (q : Fin 256) (k : Fin 1024) :
    iblk m c 5 t (ix2 q k) = (V m c main_v4 : S256x1024.Idx → EReal) (ix2 q k) := by
  obtain ⟨i0, i1, i2, i3, i4, i5, i6, i7, i8, i9⟩ := idx t
  unfold iblk
  show (V m c main_v4 : S256x1024.Idx → EReal) (((cfg0.win 5).blk t).view.emb (ix2 q k)) = _
  generalize (V m c main_v4 : S256x1024.Idx → EReal) = A
  refine congrArg A (funext fun a => Fin.ext ?_)
  match a with
  | ⟨0, _⟩ => blk_simp [i5]
  | ⟨1, _⟩ => blk_simp [i5]

theorem iblk6_apply (c : Dev nD) (t : Fin cfg0.N) (k : Fin 1024) :
    iblk m c 6 t (ix2 0 k) = (V m c main_v5 : S1x1024.Idx → EReal) (ix2 0 k) := by
  obtain ⟨i0, i1, i2, i3, i4, i5, i6, i7, i8, i9⟩ := idx t
  unfold iblk
  show (V m c main_v5 : S1x1024.Idx → EReal) (((cfg0.win 6).blk t).view.emb (ix2 0 k)) = _
  generalize (V m c main_v5 : S1x1024.Idx → EReal) = A
  refine congrArg A (funext fun a => Fin.ext ?_)
  match a with
  | ⟨0, _⟩ => blk_simp [i6]
  | ⟨1, _⟩ => blk_simp [i6]

theorem iblk7_apply (c : Dev nD) (t : Fin cfg0.N) (k : Fin 1024) :
    iblk m c 7 t (ix2 0 k) = (V m c main_v6 : S1x1024.Idx → EReal) (ix2 0 k) := by
  obtain ⟨i0, i1, i2, i3, i4, i5, i6, i7, i8, i9⟩ := idx t
  unfold iblk
  show (V m c main_v6 : S1x1024.Idx → EReal) (((cfg0.win 7).blk t).view.emb (ix2 0 k)) = _
  generalize (V m c main_v6 : S1x1024.Idx → EReal) = A
  refine congrArg A (funext fun a => Fin.ext ?_)
  match a with
  | ⟨0, _⟩ => blk_simp [i7]
  | ⟨1, _⟩ => blk_simp [i7]

theorem iblk8_apply (c : Dev nD) (t : Fin cfg0.N) (k : Fin 1024) :
    iblk m c 8 t (ix2 0 k) = (V m c main_v7 : S1x1024.Idx → EReal) (ix2 0 k) := by
  obtain ⟨i0, i1, i2, i3, i4, i5, i6, i7, i8, i9⟩ := idx t
  unfold iblk
  show (V m c main_v7 : S1x1024.Idx → EReal) (((cfg0.win 8).blk t).view.emb (ix2 0 k)) = _
  generalize (V m c main_v7 : S1x1024.Idx → EReal) = A
  refine congrArg A (funext fun a => Fin.ext ?_)
  match a with
  | ⟨0, _⟩ => blk_simp [i8]
  | ⟨1, _⟩ => blk_simp [i8]

theorem place (t : Fin cfg0.N) (y : S1024x1024.Idx) :
    ((((cfg0.win 9).blk t).view.emb y) 0 : ℕ) = t.val * 1024 + (y 0).val ∧ ((((cfg0.win 9).blk t).view.emb y) 1 : ℕ) = (y 1).val := by
  obtain ⟨i0, i1, i2, i3, i4, i5, i6, i7, i8, i9⟩ := idx t
  refine ⟨?_, ?_⟩ <;> blk_simp [i9]

/-- The output array as a function of its index. -/
def arr (c : Dev nD) : S32768x1024.Idx → EReal := fun i =>
  arrVal (V m c main_v0) (V m c main_arg1) (V m c main_v1) (V m c main_v2) (V m c main_v3) (V m c main_v4) (V m c main_v5) (V m c main_v6) (V m c main_v7) (i 0) (i 1)

/-- A block's row is the array's, when each input block is its array's block. -/
theorem block_arr (X : S32768x1024.Idx → EReal) (Y : S512x8x64x128.Idx → EReal) (P : S4x32768x256.Idx → EReal) (W W4 : S1024x1024.Idx → EReal)
    (W5 : S256x1024.Idx → EReal) (G B G8 : S1x1024.Idx → EReal)
    (x0 : Vec Ideal S1024x1024 .f32) (x1 : Vec Ideal S16x8x64x128 .f32) (x2 : Vec Ideal S1x1024x256 .f32) (x3 x4 : Vec Ideal S1024x1024 .bf16)
    (x5 : Vec Ideal S256x1024 .bf16) (x6 x7 x8 : Vec Ideal S1x1024 .f32) (t : ℕ) (ht : t < 32)
    (h0 : ∀ r q : Fin 1024, x0 (ix2 r q) = X (ix2 ⟨t * 1024 + r.val, by omega⟩ q))
    (h1 : ∀ (ch : Fin 16) (h : Fin 8) (p : Fin 64) (l : Fin 128), x1 (ix4 ch h p l) = Y (ix4 ⟨t * 16 + ch.val, by omega⟩ h p l))
    (h2 : ∀ (r : Fin 1024) (q : Fin 256), x2 (ix3 0 r q) = P (ix3 3 ⟨t * 1024 + r.val, by omega⟩ q))
    (h3 : ∀ q k : Fin 1024, x3 (ix2 q k) = W (ix2 q k)) (h4 : ∀ q k : Fin 1024, x4 (ix2 q k) = W4 (ix2 q k))
    (h5 : ∀ (q : Fin 256) (k : Fin 1024), x5 (ix2 q k) = W5 (ix2 q k)) (h6 : ∀ k : Fin 1024, x6 (ix2 0 k) = G (ix2 0 k))
    (h7 : ∀ k : Fin 1024, x7 (ix2 0 k) = B (ix2 0 k)) (h8 : ∀ k : Fin 1024, x8 (ix2 0 k) = G8 (ix2 0 k)) (r k : Fin 1024) :
    blockVal x0 x1 x2 x3 x4 x5 x6 x7 x8 r k = arrVal X Y P W W4 W5 G B G8 ⟨t * 1024 + r.val, by omega⟩ k := by
  unfold blockVal arrVal
  simp only [h0, h1, h2, h3, h4, h5, h6, h7, h8]
  refine congrArg (fun Y => rowOut _ Y _ _ _ _ _ _ _ k) (funext fun q => congrArg Y (ix4_of_vals ?_ rfl ?_ rfl)) <;> dsimp only <;> omega

theorem out_at (c : Dev nD) (t : Fin cfg0.N) (y : S1024x1024.Idx) :
    out0_9 (iblk m c 0 t) (iblk m c 1 t) (iblk m c 2 t) (iblk m c 3 t) (iblk m c 4 t) (iblk m c 5 t) (iblk m c 6 t) (iblk m c 7 t) (iblk m c 8 t) y
      = arr m c (((cfg0.win 9).blk t).view.emb y) := by
  have ht : t.val < 32 := point_lt t
  obtain ⟨e0, e1⟩ := place t y
  have h0 : (y 0).val < 1024 := (y 0).isLt
  have h1 : (y 1).val < 1024 := (y 1).isLt
  have f0 : (((cfg0.win 9).blk t).view.emb y) 0 = (⟨t.val * 1024 + (⟨(y 0).val, h0⟩ : Fin 1024).val, by dsimp only; omega⟩ : Fin 32768) := Fin.ext e0
  have f1 : (((cfg0.win 9).blk t).view.emb y) 1 = (⟨(y 1).val, h1⟩ : Fin 1024) := Fin.ext e1
  rw [out_apply]
  refine (block_arr (V m c main_v0) (V m c main_arg1) (V m c main_v1) (V m c main_v2) (V m c main_v3) (V m c main_v4) (V m c main_v5) (V m c main_v6) (V m c main_v7)
    _ _ _ _ _ _ _ _ _ t.val ht (iblk0_apply m c t) (iblk1_apply m c t) (iblk2_apply m c t) (iblk3_apply m c t) (iblk4_apply m c t)
    (iblk5_apply m c t) (iblk6_apply m c t) (iblk7_apply m c t) (iblk8_apply m c t) ⟨(y 0).val, h0⟩ ⟨(y 1).val, h1⟩).trans ?_
  unfold arr
  rw [f0, f1]

/-- The result array after the region. -/
theorem arr_eq (c : Dev nD) : (dats m 0 c).arrAt 9 cfg0.N = arr m c := by
  refine (dats m 0 c).arrAt_eq_of_covers 9 _ (by decide +kernel) fun t hf y => ?_
  rw [after0_9]
  have h := out_at m c t (fun a => y a)
  revert h
  generalize arr m c = G
  generalize out0_9 (iblk m c 0 t) (iblk m c 1 t) (iblk m c 2 t) (iblk m c 3 t) (iblk m c 4 t) (iblk m c 5 t) (iblk m c 6 t) (iblk m c 7 t) (iblk m c 8 t) = O
  intro h
  exact h

/-- The result: the array with its rows split into sequences. -/
theorem W_result (c : Dev nD) :
    Pipeline.afterTail₀ cfgs (dats m) 0 (V0 m) [hostOps1] c main_v9 = shapeCast S8x4096x1024 (arr m c) shapeCasts_S32768x1024_S8x4096x1024 := by
  unfold Pipeline.afterTail₀
  rw [← arr_eq]
  change StableHlo.after [hostOps1].flatten (Pipeline.withArrays spec0 c (V0 m c) fun w => (dats m 0 c).arrAt w (cfgs 0).N) (Proc.tc.devRef main_v9) = _
  have h := Pipeline.withArrays_arr spec0 (by decide : Function.Injective (Pipeline.arrRef spec0)) c (V0 m c) (fun w => (dats m 0 c).arrAt w (cfgs 0).N) 9
  revert h
  generalize (Pipeline.withArrays spec0 c (V0 m c) fun w => (dats m 0 c).arrAt w (cfgs 0).N) = U
  generalize (dats m 0 c).arrAt 9 cfg0.N = A
  intro h
  simp only [hostOps1, List.flatten_cons, List.flatten_nil, List.append_nil, List.cons_append, List.nil_append]
  after_results
  exact congrArg (fun B => shapeCast S8x4096x1024 B shapeCasts_S32768x1024_S8x4096x1024) h

/-! The arrays that the region finds, from the arguments. -/

theorem V_main_v0 (c : Dev nD) :
    V m c main_v0 = shapeCast S32768x1024 (m ((c : Thread nD τ).loc main_arg0)) shapeCasts_S8x4096x1024_S32768x1024 := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v1 (c : Dev nD) :
    V m c main_v1 = shapeCast S4x32768x256 (m ((c : Thread nD τ).loc main_arg2)) shapeCasts_S4x8x4096x256_S4x32768x256 := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v2 (c : Dev nD) :
    V m c main_v2 = (truncf .bf16 (m ((c : Thread nD τ).loc main_arg3)) bitsLt_bf16_f32 : FVec Ideal S1024x1024 .bf16) := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v3 (c : Dev nD) :
    V m c main_v3 = (truncf .bf16 (m ((c : Thread nD τ).loc main_arg4)) bitsLt_bf16_f32 : FVec Ideal S1024x1024 .bf16) := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v4 (c : Dev nD) :
    V m c main_v4 = (truncf .bf16 (m ((c : Thread nD τ).loc main_arg5)) bitsLt_bf16_f32 : FVec Ideal S256x1024 .bf16) := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v5 (c : Dev nD) :
    V m c main_v5 = shapeCast S1x1024 (m ((c : Thread nD τ).loc main_arg6)) shapeCasts_S1024_S1x1024 := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v6 (c : Dev nD) :
    V m c main_v6 = shapeCast S1x1024 (m ((c : Thread nD τ).loc main_arg7)) shapeCasts_S1024_S1x1024 := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v7 (c : Dev nD) :
    V m c main_v7 = shapeCast S1x1024 (m ((c : Thread nD τ).loc main_arg8)) shapeCasts_S1024_S1x1024 := by
  unfold V V0
  simp only [hostOps0, List.flatten_cons, List.flatten_nil, List.append_nil, List.cons_append,
      List.nil_append, StableHlo.TRef.binary, StableHlo.TRef.unary, StableHlo.TRef.toBuf, StableHlo.TRef.ofBuf, cast_eq]
  after_results <;> rfl

end Cert.Kernel3Ideal.Post

end
-- ==== Proof.Post.Ref.lean ====
/- The reference of the block after the mixer at the ideal values: every row is `PostRow.out` of the row's arrays. -/
module

public import proofs.«01_k».proof.Proof.Post.Array
public import proofs.«01_k».proof.Proof.Gen.Reference3Ideal.Read

@[expose] public section

noncomputable section

namespace Cert.Reference3Ideal.Post

open Idealize.ShloMosaic Idealize.ShloMosaic.TcCoe Idealize.ShloMosaic.Tactic
open Cert.Reference3Ideal.Read

variable (x0 : (⟨S8x4096x1024, .f32⟩ : BufTy).Contents (Elt Ideal)) (x1 : (⟨S512x8x64x128, .f32⟩ : BufTy).Contents (Elt Ideal)) (x2 : (⟨S4x8x4096x256, .f32⟩ : BufTy).Contents (Elt Ideal))
  (x3 x4 : (⟨S1024x1024, .f32⟩ : BufTy).Contents (Elt Ideal)) (x5 : (⟨S256x1024, .f32⟩ : BufTy).Contents (Elt Ideal)) (x6 x7 x8 : (⟨S1024, .f32⟩ : BufTy).Contents (Elt Ideal))
  (b : Fin 8) (t : Fin 4096) (k : Fin 1024)

/-- The mixer's output in a row of the sequence. -/
def mixed (q : Fin 1024) : EReal :=
  x1 (ix4 ⟨(b.val * 4096 + t.val) / 64, by omega⟩ ⟨q.val / 128, by omega⟩ ⟨(b.val * 4096 + t.val) % 64, by omega⟩ ⟨q.val % 128, by omega⟩)

theorem mixed_apply (q : Fin 1024) : val_main_v1 (F := Ideal) x1 (ix3 b t q) = mixed x1 b t q := by
  rw [val_main_v1_apply, val_main_v0_apply]
  unfold mixed
  refine congrArg x1 (funext fun a => Fin.ext ?_)
  have := q.isLt
  match a with
  | ⟨0, _⟩ => show ((b.val * 4096 + t.val) * 1024 + q.val) / 65536 = (b.val * 4096 + t.val) / 64; omega
  | ⟨1, _⟩ => show ((b.val * 4096 + t.val) * 1024 + q.val) / 128 % 8 = q.val / 128; omega
  | ⟨2, _⟩ => show ((b.val * 4096 + t.val) * 1024 + q.val) / 1024 % 64 = (b.val * 4096 + t.val) % 64; omega
  | ⟨3, _⟩ => show ((b.val * 4096 + t.val) * 1024 + q.val) % 128 = q.val % 128; omega

/-- The residual sum in a row. -/
def res (k : Fin 1024) : EReal := PostRow.resid (fun q => x0 (ix3 b t q)) (mixed x1 b t) (fun q k => x3 (ix2 q k)) k

theorem res_apply : val_main_v5 (F := Ideal) x0 x1 x3 (ix3 b t k) = res x0 x1 x3 b t k := by
  rw [val_main_v5_apply, val_main_v4_apply, val_main_v3_apply, val_main_cst_apply, val_main_v2_apply]
  unfold res PostRow.resid
  refine congrArg (fun s : EReal => PostRow.word 0x3FD744FD#32 * x0 (ix3 b t k) + s) (Finset.sum_congr rfl fun q _ => ?_)
  refine congrArg₂ (· * ·) ((congrArg (val_main_v1 (F := Ideal) x1) (funext fun a => ?_)).trans (mixed_apply x1 b t q)) (congrArg x3 (funext fun a => ?_))
  · fin_cases a <;> rfl
  · fin_cases a <;> rfl

theorem mean_apply (o : Fin 1) : val_main_v9 (F := Ideal) x0 x1 x3 (ix3 b t o) = PostRow.mean (res x0 x1 x3 b t) := by
  rw [val_main_v9_apply, val_main_v7_apply, val_main_v6_apply, val_main_v8_apply, val_main_cst_1_apply, val_main_cst_0_apply]
  unfold PostRow.mean
  refine congrArg (fun s : EReal => Ideal.div s (PostRow.word 0x44800000#32)) ?_
  refine (congrArg (fun z : EReal => z + _) Ideal.ofBits_zero_f32).trans ((zero_add _).trans (Finset.sum_congr rfl fun q _ => ?_))
  refine (congrArg (val_main_v5 (F := Ideal) x0 x1 x3) (funext fun a => ?_)).trans (res_apply x0 x1 x3 b t q)
  fin_cases a <;> rfl

theorem centred_apply : val_main_v11 (F := Ideal) x0 x1 x3 (ix3 b t k) = res x0 x1 x3 b t k - PostRow.mean (res x0 x1 x3 b t) := by
  rw [val_main_v11_apply, val_main_v10_apply, res_apply]
  refine congrArg (fun s : EReal => res x0 x1 x3 b t k - s) ((congrArg (val_main_v9 (F := Ideal) x0 x1 x3) (funext fun a => ?_)).trans (mean_apply x0 x1 x3 b t 0))
  fin_cases a <;> rfl

theorem var_apply (o : Fin 1) : val_main_v16 (F := Ideal) x0 x1 x3 (ix3 b t o)
    = PostRow.mean fun j => (res x0 x1 x3 b t j - PostRow.mean (res x0 x1 x3 b t)) * (res x0 x1 x3 b t j - PostRow.mean (res x0 x1 x3 b t)) := by
  rw [val_main_v16_apply, val_main_v14_apply, val_main_v13_apply, val_main_v15_apply, val_main_cst_3_apply, val_main_cst_2_apply]
  refine congrArg (fun s : EReal => Ideal.div s (PostRow.word 0x44800000#32)) ?_
  refine (congrArg (fun z : EReal => z + _) Ideal.ofBits_zero_f32).trans ((zero_add _).trans (Finset.sum_congr rfl fun q _ => ?_))
  rw [val_main_v12_apply]
  have h : val_main_v11 (F := Ideal) x0 x1 x3 (idx_main_v13 (idx_main_v14 (ix3 b t o)) q) = res x0 x1 x3 b t q - PostRow.mean (res x0 x1 x3 b t) :=
    (congrArg (val_main_v11 (F := Ideal) x0 x1 x3) (funext fun a => by fin_cases a <;> rfl)).trans (centred_apply x0 x1 x3 b t q)
  rw [h]
  rfl

/-- The normed residual sum in a row. -/
def nrm (k : Fin 1024) : EReal := PostRow.norm (res x0 x1 x3 b t) (fun q => x6 (ix1 q)) (fun q => x7 (ix1 q)) k

theorem norm_apply : val_main_v29 (F := Ideal) x0 x1 x3 x6 x7 (ix3 b t k) = nrm x0 x1 x3 x6 x7 b t k := by
  rw [val_main_v29_apply, val_main_v28_apply, val_main_v27_apply, val_main_v26_apply, val_main_v25_apply, val_main_v24_apply, val_main_v23_apply,
    val_main_v22_apply, val_main_v21_apply, val_main_v20_apply, val_main_v19_apply, val_main_cst_4_apply, val_main_v18_apply, val_main_v17_apply, res_apply]
  have e1 : val_main_v9 (F := Ideal) x0 x1 x3 (idx_main_v17 (ix3 b t k)) = PostRow.mean (res x0 x1 x3 b t) :=
    (congrArg (val_main_v9 (F := Ideal) x0 x1 x3) (funext fun a => by fin_cases a <;> rfl)).trans (mean_apply x0 x1 x3 b t 0)
  have e2 : val_main_v16 (F := Ideal) x0 x1 x3 (idx_main_v22 (ix3 b t k)) = _ :=
    (congrArg (val_main_v16 (F := Ideal) x0 x1 x3) (funext fun a => by fin_cases a <;> rfl)).trans (var_apply x0 x1 x3 b t 0)
  rw [e1, e2]
  unfold nrm PostRow.norm
  have e3 : x6 (idx_main_v24 (idx_main_v25 (ix3 b t k))) = x6 (ix1 k) := congrArg x6 (funext fun a => by fin_cases a <;> rfl)
  have e4 : x7 (idx_main_v27 (idx_main_v28 (ix3 b t k))) = x7 (ix1 k) := congrArg x7 (funext fun a => by fin_cases a <;> rfl)
  rw [e3, e4]
  rfl

theorem gate_apply : val_main_v36 (F := Ideal) x0 x1 x3 x4 x6 x7 (ix3 b t k) = Ideal.logistic (∑ q, nrm x0 x1 x3 x6 x7 b t q * x4 (ix2 q k)) := by
  rw [val_main_v36_apply, val_main_v35_apply, val_main_cst_6_apply, val_main_v34_apply, val_main_v33_apply, val_main_cst_5_apply, val_main_v32_apply, val_main_v31_apply,
    val_main_v30_apply]
  have e : (∑ q : Fin 1024, val_main_v29 (F := Ideal) x0 x1 x3 x6 x7 (lidx_main_v30 (ix3 b t k) q) * x4 (ridx_main_v30 (ix3 b t k) q))
      = ∑ q, nrm x0 x1 x3 x6 x7 b t q * x4 (ix2 q k) :=
    Finset.sum_congr rfl fun q _ => congrArg₂ (· * ·)
      ((congrArg (val_main_v29 (F := Ideal) x0 x1 x3 x6 x7) (funext fun a => by fin_cases a <;> rfl)).trans (norm_apply x0 x1 x3 x6 x7 b t q))
      (congrArg x4 (funext fun a => by fin_cases a <;> rfl))
  rw [e]
  generalize (∑ q, nrm x0 x1 x3 x6 x7 b t q * x4 (ix2 q k)) = z
  show Ideal.div (Ideal.ofBits .f32 0x3F800000#32) (Ideal.ofBits .f32 0x3F800000#32 + Ideal.exp (-z)) = Ideal.logistic z
  rw [Ideal.ofBits_one_f32]
  rfl

/-- The projected embedding in a row. -/
def emb (k : Fin 1024) : EReal := ∑ q : Fin 256, x2 (ix4 3 b t q) * x5 (ix2 q k)

theorem emb_apply : val_main_v39 (F := Ideal) x2 x5 (ix3 b t k) = emb x2 x5 b t k := by
  rw [val_main_v39_apply]
  unfold emb
  refine Finset.sum_congr rfl fun q _ => congrArg₂ (· * ·) ?_ (congrArg x5 (funext fun a => by fin_cases a <;> rfl))
  rw [val_main_v38_apply, val_main_v37_apply]
  refine congrArg x2 (funext fun a => Fin.ext ?_)
  have := q.isLt
  have := t.isLt
  have := b.isLt
  match a with
  | ⟨0, _⟩ => rfl
  | ⟨1, _⟩ => show ((b.val * 4096 + t.val) * 256 + q.val) / 1048576 % 8 = b.val; omega
  | ⟨2, _⟩ => show ((b.val * 4096 + t.val) * 256 + q.val) / 256 % 4096 = t.val; omega
  | ⟨3, _⟩ => show ((b.val * 4096 + t.val) * 256 + q.val) % 256 = q.val; omega

theorem square_apply (o : Fin 1) : val_main_v44 (F := Ideal) x2 x5 (ix3 b t o) = PostRow.mean fun j => emb x2 x5 b t j * emb x2 x5 b t j := by
  rw [val_main_v44_apply, val_main_v42_apply, val_main_v41_apply, val_main_v43_apply, val_main_cst_8_apply, val_main_cst_7_apply]
  refine congrArg (fun s : EReal => Ideal.div s (PostRow.word 0x44800000#32)) ?_
  refine (congrArg (fun z : EReal => z + _) Ideal.ofBits_zero_f32).trans ((zero_add _).trans (Finset.sum_congr rfl fun q _ => ?_))
  rw [val_main_v40_apply]
  have h : val_main_v39 (F := Ideal) x2 x5 (idx_main_v41 (idx_main_v42 (ix3 b t o)) q) = emb x2 x5 b t q :=
    (congrArg (val_main_v39 (F := Ideal) x2 x5) (funext fun a => by fin_cases a <;> rfl)).trans (emb_apply x2 x5 b t q)
  rw [h]
  rfl

theorem rms_apply : val_main_v52 (F := Ideal) x2 x5 x8 (ix3 b t k) = PostRow.rms (emb x2 x5 b t) (fun q => x8 (ix1 q)) k := by
  rw [val_main_v52_apply, val_main_v51_apply, val_main_v50_apply, val_main_v49_apply, val_main_v48_apply, val_main_v47_apply, val_main_v46_apply, val_main_v45_apply,
    val_main_cst_9_apply, emb_apply]
  have e1 : val_main_v44 (F := Ideal) x2 x5 (idx_main_v48 (ix3 b t k)) = _ :=
    (congrArg (val_main_v44 (F := Ideal) x2 x5) (funext fun a => by fin_cases a <;> rfl)).trans (square_apply x2 x5 b t 0)
  have e2 : x8 (idx_main_v50 (idx_main_v51 (ix3 b t k))) = x8 (ix1 k) := congrArg x8 (funext fun a => by fin_cases a <;> rfl)
  rw [e1, e2]
  rfl

/-- The reference's result in a row. -/
theorem ref_apply : val_main_v54 (F := Ideal) x0 x1 x2 x3 x4 x5 x6 x7 x8 (ix3 b t k)
    = Cert.Kernel3Ideal.Post.rowOut (fun q => x0 (ix3 b t q)) (mixed x1 b t) (fun q => x2 (ix4 3 b t q)) (fun q k => x3 (ix2 q k)) (fun q k => x4 (ix2 q k)) (fun q k => x5 (ix2 q k))
        (fun q => x6 (ix1 q)) (fun q => x7 (ix1 q)) (fun q => x8 (ix1 q)) k := by
  rw [val_main_v54_apply, val_main_v53_apply, norm_apply, gate_apply, rms_apply]
  rfl

end Cert.Reference3Ideal.Post

end
-- ==== Proof.Post.Claim.lean ====
/- The claim on the block after the mixer: the kernel's array, its rows split into sequences, is the reference's. -/
module

public import proofs.«01_k».proof.Proof.Post.Ref
public import proofs.«01_k».proof.Defs

@[expose] public section

noncomputable section

namespace Cert.Kernel3Ideal.Post

open Cert.Kernel3Ideal.Gen
open Idealize.ShloMosaic Idealize.ShloMosaic.TcCoe Idealize.ShloMosaic.Tactic
open Idealize.SL.Sem

/-- The rows of the flattened input are the input's rows. -/
theorem rows_apply (x : FVec Ideal S8x4096x1024 .f32) (b : Fin 8) (t : Fin 4096) (q : Fin 1024) :
    (shapeCast S32768x1024 x shapeCasts_S8x4096x1024_S32768x1024) (ix2 ⟨b.val * 4096 + t.val, by omega⟩ q) = x (ix3 b t q) := by
  refine shapeCast_apply x _ _ _ ?_
  rw [Shape.rowMajor_val_three, Shape.rowMajor_val_two]
  rfl

/-- The rows of the flattened embeddings are the embeddings' rows. -/
theorem embeds_apply (x : FVec Ideal S4x8x4096x256 .f32) (b : Fin 8) (t : Fin 4096) (q : Fin 256) :
    (shapeCast S4x32768x256 x shapeCasts_S4x8x4096x256_S4x32768x256) (ix3 3 ⟨b.val * 4096 + t.val, by omega⟩ q) = x (ix4 3 b t q) := by
  refine shapeCast_apply x _ _ _ ?_
  rw [Shape.rowMajor_val_four, Shape.rowMajor_val_three]
  show ((3 * 8 + b.val) * 4096 + t.val) * 256 + q.val = (3 * 32768 + (b.val * 4096 + t.val)) * 256 + q.val
  omega

/-- A vector as a row. -/
theorem row_apply (x : FVec Ideal S1024 .f32) (q : Fin 1024) : (shapeCast S1x1024 x shapeCasts_S1024_S1x1024) (ix2 0 q) = x (ix1 q) := by
  refine shapeCast_apply x _ _ _ ?_
  rw [Shape.rowMajor_val_one, Shape.rowMajor_val_two]
  show q.val = 0 * 1024 + q.val
  omega

/-- The array's row of a sequence, from the arguments. -/
theorem arrVal_args (x0 : FVec Ideal S8x4096x1024 .f32) (x1 : FVec Ideal S512x8x64x128 .f32) (x2 : FVec Ideal S4x8x4096x256 .f32) (x3 x4 : FVec Ideal S1024x1024 .f32)
    (x5 : FVec Ideal S256x1024 .f32) (x6 x7 x8 : FVec Ideal S1024 .f32) (b : Fin 8) (t : Fin 4096) (k : Fin 1024) :
    arrVal (shapeCast S32768x1024 x0 shapeCasts_S8x4096x1024_S32768x1024) x1 (shapeCast S4x32768x256 x2 shapeCasts_S4x8x4096x256_S4x32768x256)
      (truncf .bf16 x3 bitsLt_bf16_f32 : FVec Ideal S1024x1024 .bf16) (truncf .bf16 x4 bitsLt_bf16_f32 : FVec Ideal S1024x1024 .bf16)
      (truncf .bf16 x5 bitsLt_bf16_f32 : FVec Ideal S256x1024 .bf16) (shapeCast S1x1024 x6 shapeCasts_S1024_S1x1024) (shapeCast S1x1024 x7 shapeCasts_S1024_S1x1024)
      (shapeCast S1x1024 x8 shapeCasts_S1024_S1x1024) ⟨b.val * 4096 + t.val, by omega⟩ k
      = Cert.Reference3Ideal.Read.val_main_v54 (F := Ideal) x0 x1 x2 x3 x4 x5 x6 x7 x8 (ix3 b t k) := by
  rw [Cert.Reference3Ideal.Post.ref_apply]
  unfold arrVal
  simp only [rows_apply, embeds_apply, row_apply]
  rfl

variable (m : (ℓ : Loc nD τ sig) → Buf (Elt Ideal) ℓ) (ρ : Dev nD → PrngReg)

/-- The result from the arguments. -/
theorem result_eq (c : Dev nD) :
    Pipeline.afterTail₀ cfgs (dats m) 0 (V0 m) [hostOps1] c main_v9
      = Cert.Reference3Ideal.Read.val_main_v54 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  rw [W_result]
  unfold arr
  rw [V_main_v0, V_main_arg1, V_main_v1, V_main_v2, V_main_v3, V_main_v4, V_main_v5, V_main_v6, V_main_v7]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  generalize m ((c.tc : Thread nD τ).loc main_arg7) = x7
  generalize m ((c.tc : Thread nD τ).loc main_arg8) = x8
  funext i
  have h0 : (i 0).val < 8 := (i 0).isLt
  have h1 : (i 1).val < 4096 := (i 1).isLt
  have h2 : (i 2).val < 1024 := (i 2).isLt
  have ei : i = ix3 (⟨(i 0).val, h0⟩ : Fin 8) (⟨(i 1).val, h1⟩ : Fin 4096) (⟨(i 2).val, h2⟩ : Fin 1024) := funext fun a => by fin_cases a <;> rfl
  refine (shapeCast_apply _ shapeCasts_S32768x1024_S8x4096x1024 i (ix2 (⟨(i 0).val * 4096 + (i 1).val, by omega⟩ : Fin 32768) (⟨(i 2).val, h2⟩ : Fin 1024)) ?_).trans ?_
  · rw [Shape.rowMajor_val_three, Shape.rowMajor_val_two]
    rfl
  · exact (arrVal_args x0 x1 x2 x3 x4 x5 x6 x7 x8 ⟨(i 0).val, h0⟩ ⟨(i 1).val, h1⟩ ⟨(i 2).val, h2⟩).trans (congrArg _ ei.symm)

/-- The kernel's run with the result read. -/
theorem run_value :
    θ_run defs (onTc (τ := τ) (main (F := Ideal))) ⟨m, fun _ => 0, ρ⟩ (fun r => ∀ c : Dev nD,
      r.2.mem ((c.tc : Thread nD τ).loc main_v9) = Cert.Reference3Ideal.Read.val_main_v54 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8))) := by
  refine (θ_run defs _ _).mono (fun r h c => ?_) (run_main m ρ)
  exact ((h c).2 main_v9 (Pipeline.mem_restRefs_of main_v9 (by decide) (by decide))).trans (result_eq m c)

/-- The claim: on the same arguments the kernel and the reference end with the same array. -/
theorem claim : Cert.algebraic_Kernel3Ideal_Reference3Ideal := by
  intro m g m' g' _ hagree
  refine ⟨fun c => Cert.Reference3Ideal.Read.val_main_v54 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)),
    (θ_run defs _ _).mono (fun r h c => ⟨h.1 c, h.2 c⟩) (θ_run_and (run_value m g) (unchanged m g)), ?_⟩
  refine (θ_run _ _ _).mono (fun r h c => ⟨(h c).1.trans ((Cert.Reference3Ideal.Read.val_main_v54_eq m' c).trans ?_), (h c).2⟩) (Cert.Reference3Ideal.Value.run m' g')
  obtain ⟨a0, a1, a2, a3, a4, a5, a6, a7, a8⟩ := hagree c
  rw [a0, a1, a2, a3, a4, a5, a6, a7, a8]

end Cert.Kernel3Ideal.Post

end
-- ==== Proof.RwProj.Body.lean ====
/- The token-shifted projection, one grid point: what the body stores, at an index. -/
module

public import proofs.«01_k».proof.Proof.Gen.Kernel4Ideal.Value
public import Idealize.ShloMosaic.Lib.Pipeline.ValueKit
public import Idealize.ShloMosaic.Lib.Pointwise
public import Idealize.ShloMosaic.Lib.WholeRead

@[expose] public section

noncomputable section

namespace Cert.Kernel4Ideal.RwProj

open Cert.Kernel4Ideal.Gen
open Idealize.ShloMosaic Idealize.ShloMosaic.TcCoe Idealize.ShloMosaic.Tactic
open Idealize.SL.Sem

/-- A column of the projection of a row: the row, moved towards the row before it, through the weights. -/
def dotRow (x d mu w : Fin 1024 → EReal) : EReal := ∑ q, (x q + mu q * d q) * w q

theorem pay6_apply (v0 : Vec Ideal S1x512x1024 .f32) (v13 : Vec Ideal S512x1024 .f32) (v15 : Vec Ideal S1x1024 .f32) (v20 : Vec Ideal S1024x1024 .bf16)
    (o : Fin 1) (r : Fin 512) (k : Fin 1024) :
    k0_pay6 v0 v13 v15 v20 (ix3 o r k) = dotRow (fun q => v0 (ix3 0 r q)) (fun q => v13 (ix2 r q) - v0 (ix3 0 r q)) (fun q => v15 (ix2 0 q)) (fun q => v20 (ix2 q k)) := by
  unfold k0_pay6 k0_pay5 k0_pay2 dotRow
  pointwise

theorem pay8_apply (v0 : Vec Ideal S1x512x1024 .f32) (v13 : Vec Ideal S512x1024 .f32) (v15 : Vec Ideal S1x1024 .f32) (v20 : Vec Ideal S1024x1024 .bf16)
    (o : Fin 1) (r : Fin 512) (k : Fin 1024) :
    k0_pay8 (k0_pay2 v0) (k0_pay7 v0 v13 v15) v20 (ix3 o r k) = dotRow (fun q => v0 (ix3 0 r q)) (fun q => v13 (ix2 r q) - v0 (ix3 0 r q)) (fun q => v15 (ix2 0 q)) (fun q => v20 (ix2 q k)) := by
  unfold k0_pay8 k0_pay7 k0_pay5 k0_pay2 dotRow
  pointwise

theorem pay9_apply (v0 : Vec Ideal S1x512x1024 .f32) (v13 : Vec Ideal S512x1024 .f32) (v15 : Vec Ideal S1x1024 .f32) (v20 : Vec Ideal S1024x1024 .bf16)
    (o : Fin 1) (r : Fin 512) (k : Fin 1024) :
    k0_pay9 (k0_pay2 v0) (k0_pay5 v0 v13) v15 v20 (ix3 o r k) = dotRow (fun q => v0 (ix3 0 r q)) (fun q => v13 (ix2 r q) - v0 (ix3 0 r q)) (fun q => v15 (ix2 0 q)) (fun q => v20 (ix2 q k)) := by
  unfold k0_pay9 k0_pay5 k0_pay2 dotRow
  pointwise

theorem pay10_apply (v0 : Vec Ideal S1x512x1024 .f32) (v13 : Vec Ideal S512x1024 .f32) (v15 : Vec Ideal S1x1024 .f32) (v20 : Vec Ideal S1024x1024 .bf16)
    (o : Fin 1) (r : Fin 512) (k : Fin 1024) :
    k0_pay10 (k0_pay2 v0) (k0_pay5 v0 v13) v15 v20 (ix3 o r k) = dotRow (fun q => v0 (ix3 0 r q)) (fun q => v13 (ix2 r q) - v0 (ix3 0 r q)) (fun q => v15 (ix2 0 q)) (fun q => v20 (ix2 q k)) := by
  unfold k0_pay10 k0_pay5 k0_pay2 dotRow
  pointwise

theorem pay1_apply (v0 : Vec Ideal S1x512x1024 .f32) (v13 : Vec Ideal S512x1024 .f32) (v15 v16 : Vec Ideal S1x1024 .f32) (v20 : Vec Ideal S1024x128 .bf16)
    (o : Fin 1) (r : Fin 512) (k : Fin 128) :
    k0_pay1 (k0_pay2 v0) (k0_pay5 v0 v13) v20 v15 v16 (ix3 o r k)
      = if k.val < 64 then dotRow (fun q => v0 (ix3 0 r q)) (fun q => v13 (ix2 r q) - v0 (ix3 0 r q)) (fun q => v15 (ix2 0 q)) (fun q => v20 (ix2 q k))
        else dotRow (fun q => v0 (ix3 0 r q)) (fun q => v13 (ix2 r q) - v0 (ix3 0 r q)) (fun q => v16 (ix2 0 q)) (fun q => v20 (ix2 q k)) := by
  unfold k0_pay1 k0_pay5 k0_pay2 dotRow
  pointwise
  rw [show (64#32 : BitVec 32) = BitVec.ofNat 32 64 from rfl, WordCmp.cmpi_slt_ofNat (by omega) (by omega), Scalar.select_ofBool]
  simp only [decide_eq_true_eq]

/-- The scratch rows: eight rows of the block before (zeros at a sequence's first block), then the block's own. -/
def buf (z : Bool) (x0 : Vec Ideal S1x512x1024 .f32) (x1 : Vec Ideal S1x8x1024 .f32) : S520x1024.Idx → EReal := fun y =>
  if h : (y 0).val < 8 then (if z then 0 else x1 (ix3 0 ⟨(y 0).val, h⟩ (y 1))) else x0 (ix3 0 ⟨(y 0).val - 8, by have : (y 0).val < 520 := (y 0).isLt; omega⟩ (y 1))

theorem buf_lt (z : Bool) (x0 : Vec Ideal S1x512x1024 .f32) (x1 : Vec Ideal S1x8x1024 .f32) (r : ℕ) (h : r < 8) (q : Fin 1024) :
    buf z x0 x1 (ix2 (⟨r, by omega⟩ : Fin 520) q) = if z then 0 else x1 (ix3 0 ⟨r, h⟩ q) := dif_pos h

theorem buf_ge (z : Bool) (x0 : Vec Ideal S1x512x1024 .f32) (x1 : Vec Ideal S1x8x1024 .f32) (r : ℕ) (h : r < 512) (q : Fin 1024) :
    buf z x0 x1 (ix2 (⟨r + 8, by omega⟩ : Fin 520) q) = x0 (ix3 0 ⟨r, h⟩ q) := dif_neg (by show ¬ r + 8 < 8; omega)

theorem pay4_apply (i : grid0.Coords) (v6 : Vec Ideal S1x8x1024 .f32) (r : Fin 8) (q : Fin 1024) :
    k0_pay4 i v6 (ix2 r q) = if decide ((i 1).val = 0) then 0 else v6 (ix3 0 r q) := by
  unfold k0_pay4
  pointwise
  have hi : (i 1).val < 8 := (i 1).isLt
  have e : Scalar.cmpi .eq (BitVec.ofNat 32 (i 1).val) 0#32 = BitVec.ofBool (decide ((i 1).val = 0)) := by
    revert hi
    generalize (i 1).val = j
    intro hi
    interval_cases j <;> rfl
  rw [e]
  rw [Scalar.select_ofBool]

theorem pay3_apply (v0 : Vec Ideal S1x512x1024 .f32) (r : Fin 512) (q : Fin 1024) : k0_pay3 v0 (ix2 r q) = v0 (ix3 0 r q) := by
  unfold k0_pay3 k0_pay2
  pointwise

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1024x4224 .bf16) (harg4 : arg4.IsWhole) (arg5 : Memref sig .tc .vmem S8x1024 .f32) (harg5 : arg5.IsWhole) (arg6 : Memref sig .tc .vmem S1x512x4224 .f32) (harg6 : arg6.IsWhole) (arg7 : Memref sig .tc .vmem S520x1024 .f32) (harg7 : arg7.IsWhole) (x0 : Vec Ideal S1x512x1024 .f32) (x1 : Vec Ideal S1x8x1024 .f32) (x2 : Vec Ideal S1024x4224 .bf16) (x3 : Vec Ideal S8x1024 .f32)

/-- A load of a whole block reads the block. -/
theorem whole_x0 : View.readAt (Elt Ideal) arg2.view (Rect.unit (s := S1x512x1024) ![0, 0, 0] S1x512x1024.size inb_S1x512x1024_S1x512x1024_0_0_0).toLoadRect (harg2.unread x0) = x0 := by
  funext x
  rw [harg2.readAt_unread]
  refine congrArg x0 (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem whole_x1 : View.readAt (Elt Ideal) arg3.view (Rect.unit (s := S1x8x1024) ![0, 0, 0] S1x8x1024.size inb_S1x8x1024_S1x8x1024_0_0_0).toLoadRect (harg3.unread x1) = x1 := by
  funext x
  rw [harg3.readAt_unread]
  refine congrArg x1 (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- A load of one row of the mixing weights. -/
theorem row_x3 (g : ℕ) (hg : g < 8) (inb : ∀ a, (![g, 0] : Fin 2 → ℕ) a + S1x1024.size a ≤ S8x1024.size a) (q : Fin 1024) :
    View.readAt (Elt Ideal) arg5.view (Rect.unit (s := S8x1024) ![g, 0] S1x1024.size inb).toLoadRect (harg5.unread x3) (ix2 0 q) = x3 (ix2 ⟨g, hg⟩ q) := by
  rw [harg5.readAt_unread]
  refine congrArg x3 (funext fun a => Fin.ext ?_)
  match a with
  | ⟨0, _⟩ => show g + 1 * 0 = g; omega
  | ⟨1, _⟩ => show 0 + 1 * q.val = q.val; omega

/-- A load of a stripe of the weights. -/
theorem cols_x2 (o n : ℕ) (ho : o + n ≤ 4224) (inb : ∀ a, (![0, o] : Fin 2 → ℕ) a + (![1024, n] : Fin 2 → ℕ) a ≤ S1024x4224.size a) (q : Fin 1024) (k : Fin n) :
    View.readAt (Elt Ideal) arg4.view (Rect.unit (s := S1024x4224) ![0, o] ![1024, n] inb).toLoadRect (harg4.unread x2) (ix2 q k) = x2 (ix2 q ⟨o + k.val, by omega⟩) := by
  rw [harg4.readAt_unread]
  refine congrArg x2 (funext fun a => Fin.ext ?_)
  match a with
  | ⟨0, _⟩ => show 0 + 1 * q.val = q.val; omega
  | ⟨1, _⟩ => show o + 1 * k.val = o + k.val; omega

theorem v13_apply (r : Fin 512) (q : Fin 1024) :
    kernelRun0_A.sl.v13 c i arg2 harg2 arg3 harg3 arg7 x0 x1 (ix2 r q) = buf (decide ((i 1).val = 0)) x0 x1 (ix2 ⟨r.val + 7, by omega⟩ q) := by
  unfold kernelRun0_A.sl.v13 kernelRun0_A.sl.HS0_2
  rw [View.readCov_eq_canon']
  dsimp only
  rw [whole_x0, whole_x1]
  refine (View.canon_apply_of_pieces (buf (decide ((i 1).val = 0)) x0 x1) _ (fun p hp x => ?_) _ (View.cover_of_tiledBy _ ![8, 1024] (by sl_kernel_rfl) _)).trans
    (congrArg _ (funext fun a => Fin.ext ?_))
  · simp only [List.mem_cons, List.mem_nil_iff, or_false] at hp
    rcases hp with rfl | rfl
    · have h0 : (x 0).val < 8 := (x 0).isLt
      have h1 : (x 1).val < 1024 := (x 1).isLt
      have ex : x = ix2 (⟨(x 0).val, h0⟩ : Fin 8) (⟨(x 1).val, h1⟩ : Fin 1024) := funext fun a => by fin_cases a <;> rfl
      refine (congrArg (k0_pay4 i x1) ex).trans ((pay4_apply i x1 _ _).trans ?_)
      have e0 : ((Rect.unit (s := S520x1024) ![0, 0] S8x1024.size inb_S520x1024_S8x1024_0_0).emb x) = ix2 (⟨(x 0).val, by omega⟩ : Fin 520) (⟨(x 1).val, h1⟩ : Fin 1024) :=
        funext fun a => Fin.ext (match a with
          | ⟨0, _⟩ => show 0 + 1 * (x 0).val = (x 0).val by omega
          | ⟨1, _⟩ => show 0 + 1 * (x 1).val = (x 1).val by omega)
      refine Eq.trans ?_ (congrArg (buf (decide ((i 1).val = 0)) x0 x1) e0).symm
      exact (buf_lt _ x0 x1 _ h0 _).symm
    · have h0 : (x 0).val < 512 := (x 0).isLt
      have h1 : (x 1).val < 1024 := (x 1).isLt
      have ex : x = ix2 (⟨(x 0).val, h0⟩ : Fin 512) (⟨(x 1).val, h1⟩ : Fin 1024) := funext fun a => by fin_cases a <;> rfl
      refine (congrArg (k0_pay3 x0) ex).trans ((pay3_apply x0 _ _).trans ?_)
      have e0 : ((Rect.unit (s := S520x1024) ![8, 0] S512x1024.size inb_S520x1024_S512x1024_8_0).emb x) = ix2 (⟨(x 0).val + 8, by omega⟩ : Fin 520) (⟨(x 1).val, h1⟩ : Fin 1024) :=
        funext fun a => Fin.ext (match a with
          | ⟨0, _⟩ => show 8 + 1 * (x 0).val = (x 0).val + 8 by omega
          | ⟨1, _⟩ => show 0 + 1 * (x 1).val = (x 1).val by omega)
      refine Eq.trans ?_ (congrArg (buf (decide ((i 1).val = 0)) x0 x1) e0).symm
      exact (buf_ge _ x0 x1 _ h0 _).symm
  · match a with
    | ⟨0, _⟩ => show 7 + 1 * r.val = r.val + 7; omega
    | ⟨1, _⟩ => show 0 + 1 * q.val = q.val; omega

/-- Which row of the mixing weights a column takes. -/
def grp (k : ℕ) : Fin 8 := ⟨if k < 4096 then k / 1024 else if k < 4160 then 4 else 5, by split_ifs <;> omega⟩

theorem mix_row (x3 : Vec Ideal S8x1024 .f32) {g k : ℕ} {hg : g < 8}
    (h : (k < 4096 ∧ g = k / 1024) ∨ (4096 ≤ k ∧ k < 4160 ∧ g = 4) ∨ (4160 ≤ k ∧ g = 5)) (q : Fin 1024) : x3 (ix2 ⟨g, hg⟩ q) = x3 (ix2 (grp k) q) := by
  have e : (⟨g, hg⟩ : Fin 8) = grp k := Fin.ext (by show g = if k < 4096 then k / 1024 else if k < 4160 then 4 else 5; split_ifs <;> omega)
  rw [e]

/-- The output block. -/
def blockVal (z : Bool) (x0 : Vec Ideal S1x512x1024 .f32) (x1 : Vec Ideal S1x8x1024 .f32) (x2 : Vec Ideal S1024x4224 .bf16) (x3 : Vec Ideal S8x1024 .f32)
    (r : Fin 512) (k : Fin 4224) : EReal :=
  dotRow (fun q => x0 (ix3 0 r q)) (fun q => buf z x0 x1 (ix2 ⟨r.val + 7, by omega⟩ q) - x0 (ix3 0 r q)) (fun q => x3 (ix2 (grp k.val) q)) (fun q => x2 (ix2 q k))

def blockArr (z : Bool) (x0 : Vec Ideal S1x512x1024 .f32) (x1 : Vec Ideal S1x8x1024 .f32) (x2 : Vec Ideal S1024x4224 .bf16) (x3 : Vec Ideal S8x1024 .f32) :
    S1x512x4224.Idx → EReal := fun y => blockVal z x0 x1 x2 x3 (y 1) (y 2)

/-- A store at column `o` is the block's columns there. -/
theorem place_piece (z : Bool) (o n : ℕ) (ho : o + n ≤ 4224) (inb : ∀ a, (![0, 0, o] : Fin 3 → ℕ) a + (![1, 512, n] : Fin 3 → ℕ) a ≤ S1x512x4224.size a)
    (v : (⟨3, ![1, 512, n]⟩ : Shape).Idx → EReal) (h : ∀ (u : Fin 1) (r : Fin 512) (k : Fin n), v (ix3 u r k) = blockVal z x0 x1 x2 x3 r ⟨o + k.val, by omega⟩)
    (x : (⟨3, ![1, 512, n]⟩ : Shape).Idx) :
    v x = blockArr z x0 x1 x2 x3 ((Rect.unit (s := S1x512x4224) ![0, 0, o] ![1, 512, n] inb).emb x) := by
  have h0 : (x 0).val < 1 := (x 0).isLt
  have h1 : (x 1).val < 512 := (x 1).isLt
  have h2 : (x 2).val < n := (x 2).isLt
  have ex : x = ix3 (⟨(x 0).val, h0⟩ : Fin 1) (⟨(x 1).val, h1⟩ : Fin 512) (⟨(x 2).val, h2⟩ : Fin n) := funext fun a => by fin_cases a <;> rfl
  refine (congrArg v ex).trans ((h _ _ _).trans ?_)
  unfold blockArr
  refine congrArg₂ (blockVal z x0 x1 x2 x3) (Fin.ext ?_) (Fin.ext ?_)
  · show (x 1).val = 0 + 1 * (x 1).val; omega
  · show o + (x 2).val = o + 1 * (x 2).val; omega

theorem out_apply (y : S1x512x4224.Idx) :
    out0_A_4 c i arg2 harg2 arg3 harg3 arg4 harg4 arg5 harg5 arg6 harg6 arg7 harg7 x0 x1 x2 x3 y = blockArr (decide ((i 1).val = 0)) x0 x1 x2 x3 y := by
  unfold out0_A_4
  rw [View.read_writes_junk_eq_canon]
  refine View.canon_apply_of_pieces (Val := Elt Ideal) (e := .f32) (blockArr (decide ((i 1).val = 0)) x0 x1 x2 x3) _ (fun p hp => ?_) y (cover0_A_4 _ _ _ _ _ _ _ _ _ _ _ _ _ _ _ _ _ _ y)
  unfold kernelRun0_A at hp
  dsimp only at hp
  simp only [List.mem_cons, List.mem_nil_iff, or_false] at hp
  rcases hp with rfl | rfl | rfl | rfl | rfl
  · refine place_piece x0 x1 x2 x3 _ 4096 128 (by omega) inb_S1x512x4224_S1x512x128_0_0_4096 _ fun u r k => ?_
    unfold kernelRun0_A.sl.r kernelRun0_A.sl.r_1 kernelRun0_A.sl.r_3
    refine (pay1_apply _ _ _ _ _ u r k).trans ?_
    have hk := k.isLt
    rw [whole_x0]
    simp only [v13_apply]
    unfold blockVal
    split
    · exact congrArg₂ (dotRow _ _) (funext fun q => (row_x3 arg5 harg5 x3 4 (by omega) inb_S8x1024_S1x1024_4_0 q).trans (mix_row x3 (by dsimp only; omega) q))
        (funext fun q => cols_x2 arg4 harg4 x2 4096 128 (by omega) inb_S1024x4224_S1024x128_0_4096 q k)
    · exact congrArg₂ (dotRow _ _) (funext fun q => (row_x3 arg5 harg5 x3 5 (by omega) inb_S8x1024_S1x1024_5_0 q).trans (mix_row x3 (by dsimp only; omega) q))
        (funext fun q => cols_x2 arg4 harg4 x2 4096 128 (by omega) inb_S1024x4224_S1024x128_0_4096 q k)
  · refine place_piece x0 x1 x2 x3 _ 3072 1024 (by omega) inb_S1x512x4224_S1x512x1024_0_0_3072 _ fun u r k => ?_
    unfold kernelRun0_A.sl.r kernelRun0_A.sl.r_1
    refine (pay10_apply _ _ _ _ u r k).trans ?_
    have hk := k.isLt
    rw [whole_x0]
    simp only [v13_apply]
    exact congrArg₂ (dotRow _ _) (funext fun q => (row_x3 arg5 harg5 x3 3 (by omega) inb_S8x1024_S1x1024_3_0 q).trans (mix_row x3 (by dsimp only; omega) q))
      (funext fun q => cols_x2 arg4 harg4 x2 3072 1024 (by omega) inb_S1024x4224_S1024x1024_0_3072 q k)
  · refine place_piece x0 x1 x2 x3 _ 2048 1024 (by omega) inb_S1x512x4224_S1x512x1024_0_0_2048 _ fun u r k => ?_
    unfold kernelRun0_A.sl.r kernelRun0_A.sl.r_1
    refine (pay9_apply _ _ _ _ u r k).trans ?_
    have hk := k.isLt
    rw [whole_x0]
    simp only [v13_apply]
    exact congrArg₂ (dotRow _ _) (funext fun q => (row_x3 arg5 harg5 x3 2 (by omega) inb_S8x1024_S1x1024_2_0 q).trans (mix_row x3 (by dsimp only; omega) q))
      (funext fun q => cols_x2 arg4 harg4 x2 2048 1024 (by omega) inb_S1024x4224_S1024x1024_0_2048 q k)
  · refine place_piece x0 x1 x2 x3 _ 1024 1024 (by omega) inb_S1x512x4224_S1x512x1024_0_0_1024 _ fun u r k => ?_
    unfold kernelRun0_A.sl.r kernelRun0_A.sl.r_2
    refine (pay8_apply _ _ _ _ u r k).trans ?_
    have hk := k.isLt
    rw [whole_x0]
    simp only [v13_apply]
    exact congrArg₂ (dotRow _ _) (funext fun q => (row_x3 arg5 harg5 x3 1 (by omega) inb_S8x1024_S1x1024_1_0 q).trans (mix_row x3 (by dsimp only; omega) q))
      (funext fun q => cols_x2 arg4 harg4 x2 1024 1024 (by omega) inb_S1024x4224_S1024x1024_0_1024 q k)
  · refine place_piece x0 x1 x2 x3 _ 0 1024 (by omega) inb_S1x512x4224_S1x512x1024_0_0_0 _ fun u r k => ?_
    refine (pay6_apply _ _ _ _ u r k).trans ?_
    have hk := k.isLt
    rw [whole_x0]
    simp only [v13_apply]
    exact congrArg₂ (dotRow _ _) (funext fun q => (row_x3 arg5 harg5 x3 0 (by omega) inb_S8x1024_S1x1024_0_0 q).trans (mix_row x3 (by dsimp only; omega) q))
      (funext fun q => cols_x2 arg4 harg4 x2 0 1024 (by omega) inb_S1024x4224_S1024x1024_0_0 q k)

end Cert.Kernel4Ideal.RwProj

end
-- ==== Proof.RwProj.Array.lean ====
/- The token-shifted projection at the ideal values: the output array, row by row, and the weights that the region finds. -/
module

public import proofs.«01_k».proof.Proof.RwProj.Body

@[expose] public section

noncomputable section

namespace Cert.Kernel4Ideal.RwProj

open Cert.Kernel4Ideal.Gen
open Idealize.ShloMosaic Idealize.ShloMosaic.TcCoe Idealize.ShloMosaic.Tactic
open Idealize.SL.Sem
open Idealize.ShloMosaic.Pipeline (Dat Cfg Window)

/-- The row before, zero before the first. -/
def shift (X : S8x4096x1024.Idx → EReal) (b : Fin 8) (t : Fin 4096) (q : Fin 1024) : EReal :=
  if t.val = 0 then 0 else X (ix3 b ⟨t.val - 1, by omega⟩ q)

/-- The output array from the arrays that the region stages. -/
def arrVal (X : S8x4096x1024.Idx → EReal) (W : S1024x4224.Idx → EReal) (M : S8x1024.Idx → EReal) (b : Fin 8) (t : Fin 4096) (k : Fin 4224) : EReal :=
  dotRow (fun q => X (ix3 b t q)) (fun q => shift X b t q - X (ix3 b t q)) (fun q => M (ix2 (grp k.val) q)) (fun q => W (ix2 q k))

/-- A block's rows are the array's, when each input block is its array's block. -/
theorem block_arr (X : S8x4096x1024.Idx → EReal) (W : S1024x4224.Idx → EReal) (M : S8x1024.Idx → EReal)
    (x0 : Vec Ideal S1x512x1024 .f32) (x1 : Vec Ideal S1x8x1024 .f32) (x2 : Vec Ideal S1024x4224 .bf16) (x3 : Vec Ideal S8x1024 .f32)
    (b : Fin 8) (j : ℕ) (hj : j < 8)
    (h0 : ∀ (r : Fin 512) (q : Fin 1024), x0 (ix3 0 r q) = X (ix3 b ⟨j * 512 + r.val, by omega⟩ q))
    (h1 : 0 < j → ∀ q : Fin 1024, x1 (ix3 0 7 q) = X (ix3 b ⟨j * 512 - 1, by omega⟩ q))
    (h2 : ∀ (q : Fin 1024) (k : Fin 4224), x2 (ix2 q k) = W (ix2 q k)) (h3 : ∀ (g : Fin 8) (q : Fin 1024), x3 (ix2 g q) = M (ix2 g q))
    (r : Fin 512) (k : Fin 4224) :
    blockVal (decide (j = 0)) x0 x1 x2 x3 r k = arrVal X W M b ⟨j * 512 + r.val, by omega⟩ k := by
  have hs : ∀ q : Fin 1024, buf (decide (j = 0)) x0 x1 (ix2 (⟨r.val + 7, by omega⟩ : Fin 520) q) = shift X b ⟨j * 512 + r.val, by omega⟩ q := fun q => by
    unfold shift
    by_cases hr : r.val = 0
    · have e : (⟨r.val + 7, by omega⟩ : Fin 520) = ⟨7, by omega⟩ := Fin.ext (by show r.val + 7 = 7; omega)
      rw [e]
      refine (buf_lt _ x0 x1 7 (by omega) q).trans ?_
      by_cases hz : j = 0
      · rw [if_pos (decide_eq_true hz), if_pos (by show j * 512 + r.val = 0; omega)]
      · rw [if_neg (by simpa using hz), if_neg (by show ¬ j * 512 + r.val = 0; omega)]
        refine (h1 (by omega) q).trans (congrArg (fun s => X (ix3 b s q)) (Fin.ext ?_))
        show j * 512 - 1 = j * 512 + r.val - 1
        omega
    · have e : (⟨r.val + 7, by omega⟩ : Fin 520) = ⟨(r.val - 1) + 8, by omega⟩ := Fin.ext (by show r.val + 7 = r.val - 1 + 8; omega)
      rw [e]
      refine (buf_ge _ x0 x1 (r.val - 1) (by omega) q).trans ?_
      rw [if_neg (by show ¬ j * 512 + r.val = 0; omega), h0]
      refine congrArg (fun s => X (ix3 b s q)) (Fin.ext ?_)
      show j * 512 + (r.val - 1) = j * 512 + r.val - 1
      omega
  unfold blockVal arrVal
  simp only [hs, h0, h2, h3]

theorem idx : ∀ t : Fin cfg0.N, (cfg0.win 0).index t = ![t.val / 8, t.val % 8, 0] ∧ (cfg0.win 1).index t = ![t.val / 8, t.val % 8 * 64 - 1, 0]
    ∧ (cfg0.win 2).index t = ![0, 0] ∧ (cfg0.win 3).index t = ![0, 0] ∧ (cfg0.win 4).index t = ![t.val / 8, t.val % 8, 0] ∧ ((grid0.coords t) 1).val = t.val % 8 :=
  (by decide +kernel : ∀ t : Fin grid0.N, (cfg0.win 0).index t = ![t.val / 8, t.val % 8, 0] ∧ (cfg0.win 1).index t = ![t.val / 8, t.val % 8 * 64 - 1, 0]
    ∧ (cfg0.win 2).index t = ![0, 0] ∧ (cfg0.win 3).index t = ![0, 0] ∧ (cfg0.win 4).index t = ![t.val / 8, t.val % 8, 0] ∧ ((grid0.coords t) 1).val = t.val % 8)

theorem point_lt (t : Fin cfg0.N) : t.val < 64 := Nat.lt_of_lt_of_eq t.isLt N_0

variable (m : (ℓ : Loc nD τ sig) → Buf (Elt Ideal) ℓ) (ρ : Dev nD → PrngReg)

theorem iblk0_apply (c : Dev nD) (t : Fin cfg0.N) (r : Fin 512) (q : Fin 1024) :
    iblk m c 0 t (ix3 0 r q) = (V m c main_arg0 : S8x4096x1024.Idx → EReal) (ix3 ⟨t.val / 8, by have := point_lt t; omega⟩ ⟨t.val % 8 * 512 + r.val, by omega⟩ q) := by
  obtain ⟨i0, i1, i2, i3, i4, i5⟩ := idx t
  unfold iblk
  show (V m c main_arg0 : S8x4096x1024.Idx → EReal) (((cfg0.win 0).blk t).view.emb (ix3 0 r q)) = _
  generalize (V m c main_arg0 : S8x4096x1024.Idx → EReal) = A
  refine congrArg A (funext fun a => Fin.ext ?_)
  match a with
  | ⟨0, _⟩ => blk_simp [i0]; rfl
  | ⟨1, _⟩ => blk_simp [i0]
  | ⟨2, _⟩ => blk_simp [i0]

theorem iblk1_apply (c : Dev nD) (t : Fin cfg0.N) (h : 0 < t.val % 8) (q : Fin 1024) :
    iblk m c 1 t (ix3 0 7 q) = (V m c main_arg0 : S8x4096x1024.Idx → EReal) (ix3 ⟨t.val / 8, by have := point_lt t; omega⟩ ⟨t.val % 8 * 512 - 1, by omega⟩ q) := by
  obtain ⟨i0, i1, i2, i3, i4, i5⟩ := idx t
  unfold iblk
  show (V m c main_arg0 : S8x4096x1024.Idx → EReal) (((cfg0.win 1).blk t).view.emb (ix3 0 7 q)) = _
  generalize (V m c main_arg0 : S8x4096x1024.Idx → EReal) = A
  have e : (t.val % 8 * 64 - 1) * 8 + 7 = t.val % 8 * 512 - 1 := by omega
  refine congrArg A (funext fun a => Fin.ext ?_)
  match a with
  | ⟨0, _⟩ => blk_simp [i1]; rfl
  | ⟨1, _⟩ => blk_simp [i1]; exact e
  | ⟨2, _⟩ => blk_simp [i1]

theorem iblk2_apply (c : Dev nD) (t : Fin cfg0.N) (q : Fin 1024) (k : Fin 4224) :
    iblk m c 2 t (ix2 q k) = (V m c main_v32 : S1024x4224.Idx → EReal) (ix2 q k) := by
  obtain ⟨i0, i1, i2, i3, i4, i5⟩ := idx t
  unfold iblk
  show (V m c main_v32 : S1024x4224.Idx → EReal) (((cfg0.win 2).blk t).view.emb (ix2 q k)) = _
  generalize (V m c main_v32 : S1024x4224.Idx → EReal) = A
  refine congrArg A (funext fun a => Fin.ext ?_)
  match a with
  | ⟨0, _⟩ => blk_simp [i2]
  | ⟨1, _⟩ => blk_simp [i2]

theorem iblk3_apply (c : Dev nD) (t : Fin cfg0.N) (g : Fin 8) (q : Fin 1024) :
    iblk m c 3 t (ix2 g q) = (V m c main_v31 : S8x1024.Idx → EReal) (ix2 g q) := by
  obtain ⟨i0, i1, i2, i3, i4, i5⟩ := idx t
  unfold iblk
  show (V m c main_v31 : S8x1024.Idx → EReal) (((cfg0.win 3).blk t).view.emb (ix2 g q)) = _
  generalize (V m c main_v31 : S8x1024.Idx → EReal) = A
  refine congrArg A (funext fun a => Fin.ext ?_)
  match a with
  | ⟨0, _⟩ => blk_simp [i3]
  | ⟨1, _⟩ => blk_simp [i3]

theorem place (t : Fin cfg0.N) (y : S1x512x4224.Idx) :
    ((((cfg0.win 4).blk t).view.emb y) 0 : ℕ) = t.val / 8 + (y 0).val ∧ ((((cfg0.win 4).blk t).view.emb y) 1 : ℕ) = t.val % 8 * 512 + (y 1).val
      ∧ ((((cfg0.win 4).blk t).view.emb y) 2 : ℕ) = (y 2).val := by
  obtain ⟨i0, i1, i2, i3, i4, i5⟩ := idx t
  refine ⟨?_, ?_, ?_⟩ <;> blk_simp [i4]

/-- The output array as a function of its index. -/
def arr (c : Dev nD) : S8x4096x4224.Idx → EReal := fun i => arrVal (V m c main_arg0) (V m c main_v32) (V m c main_v31) (i 0) (i 1) (i 2)

theorem out_at (c : Dev nD) (t : Fin cfg0.N) (y : S1x512x4224.Idx) :
    outsAt0 m c t y = arr m c (((cfg0.win 4).blk t).view.emb y) := by
  have ht : t.val < 64 := point_lt t
  obtain ⟨i0, i1, i2, i3, i4, i5⟩ := idx t
  obtain ⟨e0, e1, e2⟩ := place t y
  have h0 : (y 0).val < 1 := (y 0).isLt
  have h1 : (y 1).val < 512 := (y 1).isLt
  have h2 : (y 2).val < 4224 := (y 2).isLt
  have f0 : (((cfg0.win 4).blk t).view.emb y) 0 = (⟨t.val / 8, by omega⟩ : Fin 8) := Fin.ext (e0.trans (by show t.val / 8 + (y 0).val = t.val / 8; omega))
  have f1 : (((cfg0.win 4).blk t).view.emb y) 1 = (⟨t.val % 8 * 512 + (⟨(y 1).val, h1⟩ : Fin 512).val, by dsimp only; omega⟩ : Fin 4096) := Fin.ext e1
  have f2 : (((cfg0.win 4).blk t).view.emb y) 2 = (⟨(y 2).val, h2⟩ : Fin 4224) := Fin.ext e2
  unfold outsAt0
  rw [out_apply, i5]
  refine (block_arr (V m c main_arg0) (V m c main_v32) (V m c main_v31) _ _ _ _ ⟨t.val / 8, by omega⟩ (t.val % 8) (by omega)
    (iblk0_apply m c t) (iblk1_apply m c t) (iblk2_apply m c t) (iblk3_apply m c t) ⟨(y 1).val, h1⟩ ⟨(y 2).val, h2⟩).trans ?_
  unfold arr
  rw [f0, f1, f2]

/-- The result array after the region. -/
theorem arr_eq (c : Dev nD) : (dats m 0 c).arrAt 4 cfg0.N = arr m c := by
  refine (dats m 0 c).arrAt_eq_of_covers 4 _ (by decide +kernel) fun t hf y => ?_
  rw [after0_4]
  have h := out_at m c t (fun a => y a)
  revert h
  generalize arr m c = G
  generalize outsAt0 m c t = O
  intro h
  exact h

/-! The weights and the mixing rows that the region finds, from the arguments. -/

/-- The weights' column groups, reordered. -/
def wCat (w : FVec Ideal S1024x4224 .f32) : FVec Ideal S1024x4224 .f32 :=
  concatenate S1024x4224 1 [⟨S1024x1024, extractStridedSlice S1024x1024 ![0, 0] w slices_S1024x4224_S1024x1024_0_0⟩,
    ⟨S1024x1024, extractStridedSlice S1024x1024 ![0, 1088] w slices_S1024x4224_S1024x1024_0_1088⟩,
    ⟨S1024x1024, extractStridedSlice S1024x1024 ![0, 2112] w slices_S1024x4224_S1024x1024_0_2112⟩,
    ⟨S1024x1024, extractStridedSlice S1024x1024 ![0, 3200] w slices_S1024x4224_S1024x1024_0_3200⟩,
    ⟨S1024x64, extractStridedSlice S1024x64 ![0, 1024] w slices_S1024x4224_S1024x64_0_1024⟩,
    ⟨S1024x64, extractStridedSlice S1024x64 ![0, 3136] w slices_S1024x4224_S1024x64_0_3136⟩]
    concatenates_S1024x1024_S1024x1024_S1024x1024_S1024x1024_S1024x64_S1024x64_S1024x4224_d1

/-- The column of the weights that a column of the reordered weights is. -/
def col (k : Fin 4224) : Fin 4224 :=
  ⟨if k.val < 1024 then k.val else if k.val < 3072 then k.val + 64 else if k.val < 4096 then k.val + 128 else if k.val < 4160 then k.val - 3072 else k.val - 1024,
    by split_ifs <;> omega⟩

theorem wCat_apply (w : FVec Ideal S1024x4224 .f32) (q : Fin 1024) (k : Fin 4224) : wCat w (ix2 q k) = w (ix2 q (col k)) := by
  unfold wCat
  pointwise
  repeat' split
  all_goals
    refine congrArg (fun s => w (ix2 q s)) (Fin.ext ?_)
    show _ = if k.val < 1024 then k.val else if k.val < 3072 then k.val + 64 else if k.val < 4096 then k.val + 128 else if k.val < 4160 then k.val - 3072 else k.val - 1024
    repeat' split
    all_goals simp at * <;> omega

/-- One mixing row. -/
def muRow (u : FVec Ideal S1x1024 .f32) : FVec Ideal S1x1024 .f32 :=
  broadcastInDim S1x1024 ![1] bcast_S1024_S1x1024_1 (shapeCast S1024 u shapeCasts_S1x1024_S1024)

/-- The mixing rows, reordered. -/
def muCat (u : FVec Ideal S6x1024 .f32) : FVec Ideal S8x1024 .f32 :=
  concatenate S8x1024 0 [⟨S1x1024, muRow (extractStridedSlice S1x1024 ![0, 0] u slices_S6x1024_S1x1024_0_0)⟩,
    ⟨S1x1024, muRow (extractStridedSlice S1x1024 ![2, 0] u slices_S6x1024_S1x1024_2_0)⟩,
    ⟨S1x1024, muRow (extractStridedSlice S1x1024 ![3, 0] u slices_S6x1024_S1x1024_3_0)⟩,
    ⟨S1x1024, muRow (extractStridedSlice S1x1024 ![5, 0] u slices_S6x1024_S1x1024_5_0)⟩,
    ⟨S1x1024, muRow (extractStridedSlice S1x1024 ![1, 0] u slices_S6x1024_S1x1024_1_0)⟩,
    ⟨S1x1024, muRow (extractStridedSlice S1x1024 ![4, 0] u slices_S6x1024_S1x1024_4_0)⟩,
    ⟨S1x1024, muRow (extractStridedSlice S1x1024 ![0, 0] u slices_S6x1024_S1x1024_0_0)⟩,
    ⟨S1x1024, muRow (extractStridedSlice S1x1024 ![0, 0] u slices_S6x1024_S1x1024_0_0)⟩]
    concatenates_S1x1024_S1x1024_S1x1024_S1x1024_S1x1024_S1x1024_S1x1024_S1x1024_S8x1024_d0

theorem muRow_apply (u : FVec Ideal S1x1024 .f32) (o : Fin 1) (q : Fin 1024) : muRow u (ix2 o q) = u (ix2 0 q) := by
  unfold muRow
  pointwise

/-- The mixing row that row `g` is. -/
def sel : Fin 8 → Fin 6 := ![0, 2, 3, 5, 1, 4, 0, 0]

theorem muCat_apply (u : FVec Ideal S6x1024 .f32) (g : Fin 8) (q : Fin 1024) : muCat u (ix2 g q) = u (ix2 (sel g) q) := by
  unfold muCat
  pointwise
  fin_cases g <;> simp [muRow_apply, sel] <;> pointwise

theorem V_main_v32 (c : Dev nD) : V m c main_v32 = (truncf .bf16 (wCat (m ((c : Thread nD τ).loc main_arg1))) bitsLt_bf16_f32 : FVec Ideal S1024x4224 .bf16) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V_main_v31 (c : Dev nD) : V m c main_v31 = muCat (m ((c : Thread nD τ).loc main_arg2)) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

end Cert.Kernel4Ideal.RwProj

end
-- ==== Proof.RwProj.Ref.lean ====
/- The token-shifted projection's reference at the ideal values, and the two forms' equality on finite inputs and weights. -/
module

public import proofs.«01_k».proof.Proof.RwProj.Array
public import proofs.«01_k».proof.Proof.Gen.Reference4Ideal.Read
public import proofs.«01_k».proof.Proof.Proj.Claim
public import Idealize.ShloMosaic.Lib.KernelVsHost

@[expose] public section

noncomputable section

namespace Cert.Reference4Ideal.RwProj

open Idealize.ShloMosaic Idealize.ShloMosaic.TcCoe Idealize.ShloMosaic.Tactic
open Cert.Reference4Ideal.Read
open Cert.Kernel4Ideal.RwProj (dotRow shift arrVal grp col sel)

/-- A finite term and a finite factor distribute over any addend. -/
theorem real_add_mul (a w : ℝ) (y : EReal) : ((a : EReal) + y) * (w : EReal) = (a : EReal) * w + y * w := by
  induction y with
  | bot =>
    rw [EReal.add_bot, ← EReal.coe_mul]
    rcases lt_trichotomy w 0 with h | h | h
    · rw [EReal.bot_mul_coe_of_neg h, EReal.coe_add_top]
    · simp [h]
    · rw [EReal.bot_mul_coe_of_pos h, EReal.add_bot]
  | top =>
    rw [EReal.coe_add_top, ← EReal.coe_mul]
    rcases lt_trichotomy w 0 with h | h | h
    · rw [EReal.top_mul_coe_of_neg h, EReal.add_bot]
    · simp [h]
    · rw [EReal.top_mul_coe_of_pos h, EReal.coe_add_top]
  | coe y =>
    rw [← EReal.coe_add, ← EReal.coe_mul, ← EReal.coe_mul, ← EReal.coe_mul, ← EReal.coe_add, add_mul]

/-- A column in the reference's form: the row's product, and the moved part's product with the weighted weights. -/
theorem dotRow_eq (x d mu w : Fin 1024 → EReal) (hx : ∀ q, ∃ a : ℝ, x q = a) (hw : ∀ q, ∃ a : ℝ, w q = a) :
    dotRow x d mu w = (∑ q, x q * w q) + ∑ q, d q * (mu q * w q) := by
  unfold dotRow
  rw [← Finset.sum_add_distrib]
  refine Finset.sum_congr rfl fun q _ => ?_
  obtain ⟨a, ha⟩ := hx q
  obtain ⟨b, hb⟩ := hw q
  rw [ha, hb, real_add_mul, mul_comm (mu q) (d q), mul_assoc]

variable (x0 : (⟨S8x4096x1024, .f32⟩ : BufTy).Contents (Elt Ideal)) (x1 : (⟨S1024x4224, .f32⟩ : BufTy).Contents (Elt Ideal)) (x2 : (⟨S6x1024, .f32⟩ : BufTy).Contents (Elt Ideal))

theorem shift_apply (b : Fin 8) (t : Fin 4096) (q : Fin 1024) : val_main_v27 (F := Ideal) x0 (ix3 b t q) = shift x0 b t q := by
  rw [val_main_v27_apply]
  unfold val_main_v26 shift
  split
  · rename_i h
    rw [pad_apply_of_not_inside (a := (1 : Fin 3))]
    · exact Cert.Kernel2Ideal.Proj.zero_word _
    · show ¬(1 ≤ t.val ∧ (t.val - 1) % (0 + 1) = 0 ∧ (t.val - 1) / (0 + 1) < 4096)
      omega
  · rename_i h
    refine pad_apply_of_inside _ _ _ _ _ _ _ _ _ fun a => ?_
    match a with
    | ⟨0, _⟩ => show b.val = 0 + b.val * (0 + 1); omega
    | ⟨1, _⟩ => show t.val = 1 + (t.val - 1) * (0 + 1); omega
    | ⟨2, _⟩ => show q.val = 0 + q.val * (0 + 1); omega

/-- The mixing row of a column of the weights. -/
def rgrp (n : ℕ) : Fin 6 :=
  if n < 1024 then 0 else if n < 1088 then 1 else if n < 2112 then 2 else if n < 3136 then 3 else if n < 3200 then 4 else 5

theorem mu3 (q n : Fin 1024) : val_main_v3 (F := Ideal) x2 (ix2 q n) = x2 (ix2 0 q) := by
  rw [val_main_v3_apply, val_main_v2_apply, val_main_v1_apply, val_main_v0_apply]
  exact congrArg x2 (funext fun a => Fin.ext (match a with | ⟨0, _⟩ => rfl | ⟨1, _⟩ => by show _ = q.val; simp; try omega))

theorem mu7 (q : Fin 1024) (n : Fin 64) : val_main_v7 (F := Ideal) x2 (ix2 q n) = x2 (ix2 1 q) := by
  rw [val_main_v7_apply, val_main_v6_apply, val_main_v5_apply, val_main_v4_apply]
  exact congrArg x2 (funext fun a => Fin.ext (match a with | ⟨0, _⟩ => rfl | ⟨1, _⟩ => by show _ = q.val; simp; try omega))

theorem mu11 (q n : Fin 1024) : val_main_v11 (F := Ideal) x2 (ix2 q n) = x2 (ix2 2 q) := by
  rw [val_main_v11_apply, val_main_v10_apply, val_main_v9_apply, val_main_v8_apply]
  exact congrArg x2 (funext fun a => Fin.ext (match a with | ⟨0, _⟩ => rfl | ⟨1, _⟩ => by show _ = q.val; simp; try omega))

theorem mu15 (q n : Fin 1024) : val_main_v15 (F := Ideal) x2 (ix2 q n) = x2 (ix2 3 q) := by
  rw [val_main_v15_apply, val_main_v14_apply, val_main_v13_apply, val_main_v12_apply]
  exact congrArg x2 (funext fun a => Fin.ext (match a with | ⟨0, _⟩ => rfl | ⟨1, _⟩ => by show _ = q.val; simp; try omega))

theorem mu19 (q : Fin 1024) (n : Fin 64) : val_main_v19 (F := Ideal) x2 (ix2 q n) = x2 (ix2 4 q) := by
  rw [val_main_v19_apply, val_main_v18_apply, val_main_v17_apply, val_main_v16_apply]
  exact congrArg x2 (funext fun a => Fin.ext (match a with | ⟨0, _⟩ => rfl | ⟨1, _⟩ => by show _ = q.val; simp; try omega))

theorem mu23 (q n : Fin 1024) : val_main_v23 (F := Ideal) x2 (ix2 q n) = x2 (ix2 5 q) := by
  rw [val_main_v23_apply, val_main_v22_apply, val_main_v21_apply, val_main_v20_apply]
  exact congrArg x2 (funext fun a => Fin.ext (match a with | ⟨0, _⟩ => rfl | ⟨1, _⟩ => by show _ = q.val; simp; try omega))

/-- The mixing rows over the weights' columns. -/
theorem cols_apply (q : Fin 1024) (n : Fin 4224) : val_main_v24 (F := Ideal) x2 (ix2 q n) = x2 (ix2 (rgrp n.val) q) := by
  unfold val_main_v24
  pointwise
  simp only [mu3, mu7, mu11, mu15, mu19, mu23]
  unfold rgrp
  repeat' split
  all_goals first | rfl | (exfalso; simp at * <;> omega)

theorem sum_apply (b : Fin 8) (t : Fin 4096) (n : Fin 4224) : val_main_v31 (F := Ideal) x0 x1 x2 (ix3 b t n)
    = (∑ q, x0 (ix3 b t q) * x1 (ix2 q n)) + ∑ q, (shift x0 b t q - x0 (ix3 b t q)) * (x2 (ix2 (rgrp n.val) q) * x1 (ix2 q n)) := by
  rw [val_main_v31_apply, val_main_v25_apply, val_main_v30_apply]
  refine congrArg₂ (fun s u : EReal => s + u) (Finset.sum_congr rfl fun q _ => ?_) (Finset.sum_congr rfl fun q _ => ?_)
  · exact congrArg₂ (fun s u : EReal => s * u) (congrArg x0 (funext fun a => by fin_cases a <;> rfl)) (congrArg x1 (funext fun a => by fin_cases a <;> rfl))
  · have e1 : lidx_main_v30 (ix3 b t n) q = ix3 b t q := funext fun a => by fin_cases a <;> rfl
    have e2 : ridx_main_v30 (ix3 b t n) q = ix2 q n := funext fun a => by fin_cases a <;> rfl
    rw [e1, e2, val_main_v28_apply, val_main_v29_apply, shift_apply, cols_apply]
    rfl

theorem part32 (b : Fin 8) (t : Fin 4096) (n : Fin 1024) : val_main_v32 (F := Ideal) x0 x1 x2 (ix3 b t n) = val_main_v31 (F := Ideal) x0 x1 x2 (ix3 b t ⟨n.val, by omega⟩) := by
  rw [val_main_v32_apply]
  exact congrArg _ (funext fun a => by fin_cases a <;> rfl)

theorem part33 (b : Fin 8) (t : Fin 4096) (n : Fin 64) : val_main_v33 (F := Ideal) x0 x1 x2 (ix3 b t n) = val_main_v31 (F := Ideal) x0 x1 x2 (ix3 b t ⟨1024 + n.val, by omega⟩) := by
  rw [val_main_v33_apply]
  exact congrArg _ (funext fun a => by fin_cases a <;> rfl)

theorem part34 (b : Fin 8) (t : Fin 4096) (n : Fin 1024) : val_main_v34 (F := Ideal) x0 x1 x2 (ix3 b t n) = val_main_v31 (F := Ideal) x0 x1 x2 (ix3 b t ⟨1088 + n.val, by omega⟩) := by
  rw [val_main_v34_apply]
  exact congrArg _ (funext fun a => by fin_cases a <;> rfl)

theorem part35 (b : Fin 8) (t : Fin 4096) (n : Fin 1024) : val_main_v35 (F := Ideal) x0 x1 x2 (ix3 b t n) = val_main_v31 (F := Ideal) x0 x1 x2 (ix3 b t ⟨2112 + n.val, by omega⟩) := by
  rw [val_main_v35_apply]
  exact congrArg _ (funext fun a => by fin_cases a <;> rfl)

theorem part36 (b : Fin 8) (t : Fin 4096) (n : Fin 64) : val_main_v36 (F := Ideal) x0 x1 x2 (ix3 b t n) = val_main_v31 (F := Ideal) x0 x1 x2 (ix3 b t ⟨3136 + n.val, by omega⟩) := by
  rw [val_main_v36_apply]
  exact congrArg _ (funext fun a => by fin_cases a <;> rfl)

theorem part37 (b : Fin 8) (t : Fin 4096) (n : Fin 1024) : val_main_v37 (F := Ideal) x0 x1 x2 (ix3 b t n) = val_main_v31 (F := Ideal) x0 x1 x2 (ix3 b t ⟨3200 + n.val, by omega⟩) := by
  rw [val_main_v37_apply]
  exact congrArg _ (funext fun a => by fin_cases a <;> rfl)

/-- The column a result's column is, part by part. -/
theorem col_val (k : Fin 4224) : (k.val < 1024 ∧ (col k).val = k.val) ∨ (1024 ≤ k.val ∧ k.val < 3072 ∧ (col k).val = k.val + 64) ∨ (3072 ≤ k.val ∧ k.val < 4096 ∧ (col k).val = k.val + 128)
    ∨ (4096 ≤ k.val ∧ k.val < 4160 ∧ (col k).val = k.val - 3072) ∨ (4160 ≤ k.val ∧ (col k).val = k.val - 1024) := by
  have e : (col k).val = if k.val < 1024 then k.val else if k.val < 3072 then k.val + 64 else if k.val < 4096 then k.val + 128 else if k.val < 4160 then k.val - 3072 else k.val - 1024 := rfl
  generalize (col k).val = c at e ⊢
  generalize k.val = n at e ⊢
  split_ifs at e <;> omega

/-- The reference's result at an index. -/
theorem ref_apply (b : Fin 8) (t : Fin 4096) (k : Fin 4224) : val_main_v38 (F := Ideal) x0 x1 x2 (ix3 b t k) = val_main_v31 (F := Ideal) x0 x1 x2 (ix3 b t (col k)) := by
  have hc := col_val k
  unfold val_main_v38
  pointwise
  simp only [part32, part33, part34, part35, part36, part37]
  repeat' split
  all_goals
    refine congrArg (fun n => val_main_v31 (F := Ideal) x0 x1 x2 (ix3 b t n)) (Fin.ext ?_)
    generalize (col k).val = c at hc ⊢
    simp at * <;> omega

/-- Cases on a column's part. -/
theorem rgrp_col (k : Fin 4224) : rgrp (col k).val = sel (grp k.val) := by
  have hk := k.isLt
  obtain ⟨n, hn⟩ := k
  dsimp only at hk ⊢
  have eg : ∀ g : Fin 8, (g.val = if n < 4096 then n / 1024 else if n < 4160 then 4 else 5) → grp n = g := fun g hg => Fin.ext hg.symm
  have ec : (col ⟨n, hn⟩).val = if n < 1024 then n else if n < 3072 then n + 64 else if n < 4096 then n + 128 else if n < 4160 then n - 3072 else n - 1024 := rfl
  rw [ec]
  clear ec
  have d : n < 1024 ∨ (1024 ≤ n ∧ n < 2048) ∨ (2048 ≤ n ∧ n < 3072) ∨ (3072 ≤ n ∧ n < 4096) ∨ (4096 ≤ n ∧ n < 4160) ∨ 4160 ≤ n := by omega
  rcases d with h | h | h | h | h | h
  · have e1 : (if n < 1024 then n else if n < 3072 then n + 64 else if n < 4096 then n + 128 else if n < 4160 then n - 3072 else n - 1024) = n := by rw [if_pos (by omega : n < 1024)]
    have e2 : rgrp (n) = 0 := by unfold rgrp; rw [if_pos (by omega : n < 1024)]
    rw [e1, e2, eg 0 (by show 0 = _; rw [if_pos (by omega)]; omega)]; rfl
  · have e1 : (if n < 1024 then n else if n < 3072 then n + 64 else if n < 4096 then n + 128 else if n < 4160 then n - 3072 else n - 1024) = n + 64 := by rw [if_neg (by omega : ¬ n < 1024), if_pos (by omega : n < 3072)]
    have e2 : rgrp (n + 64) = 2 := by unfold rgrp; rw [if_neg (by omega : ¬ n + 64 < 1024), if_neg (by omega : ¬ n + 64 < 1088), if_pos (by omega : n + 64 < 2112)]
    rw [e1, e2, eg 1 (by show 1 = _; rw [if_pos (by omega)]; omega)]; rfl
  · have e1 : (if n < 1024 then n else if n < 3072 then n + 64 else if n < 4096 then n + 128 else if n < 4160 then n - 3072 else n - 1024) = n + 64 := by rw [if_neg (by omega : ¬ n < 1024), if_pos (by omega : n < 3072)]
    have e2 : rgrp (n + 64) = 3 := by unfold rgrp; rw [if_neg (by omega : ¬ n + 64 < 1024), if_neg (by omega : ¬ n + 64 < 1088), if_neg (by omega : ¬ n + 64 < 2112), if_pos (by omega : n + 64 < 3136)]
    rw [e1, e2, eg 2 (by show 2 = _; rw [if_pos (by omega)]; omega)]; rfl
  · have e1 : (if n < 1024 then n else if n < 3072 then n + 64 else if n < 4096 then n + 128 else if n < 4160 then n - 3072 else n - 1024) = n + 128 := by rw [if_neg (by omega : ¬ n < 1024), if_neg (by omega : ¬ n < 3072), if_pos (by omega : n < 4096)]
    have e2 : rgrp (n + 128) = 5 := by unfold rgrp; rw [if_neg (by omega : ¬ n + 128 < 1024), if_neg (by omega : ¬ n + 128 < 1088), if_neg (by omega : ¬ n + 128 < 2112), if_neg (by omega : ¬ n + 128 < 3136), if_neg (by omega : ¬ n + 128 < 3200)]
    rw [e1, e2, eg 3 (by show 3 = _; rw [if_pos (by omega)]; omega)]; rfl
  · have e1 : (if n < 1024 then n else if n < 3072 then n + 64 else if n < 4096 then n + 128 else if n < 4160 then n - 3072 else n - 1024) = n - 3072 := by rw [if_neg (by omega : ¬ n < 1024), if_neg (by omega : ¬ n < 3072), if_neg (by omega : ¬ n < 4096), if_pos (by omega : n < 4160)]
    have e2 : rgrp (n - 3072) = 1 := by unfold rgrp; rw [if_neg (by omega : ¬ n - 3072 < 1024), if_pos (by omega : n - 3072 < 1088)]
    rw [e1, e2, eg 4 (by show 4 = _; rw [if_neg (by omega), if_pos (by omega)])]; rfl
  · have e1 : (if n < 1024 then n else if n < 3072 then n + 64 else if n < 4096 then n + 128 else if n < 4160 then n - 3072 else n - 1024) = n - 1024 := by rw [if_neg (by omega : ¬ n < 1024), if_neg (by omega : ¬ n < 3072), if_neg (by omega : ¬ n < 4096), if_neg (by omega : ¬ n < 4160)]
    have e2 : rgrp (n - 1024) = 4 := by unfold rgrp; rw [if_neg (by omega : ¬ n - 1024 < 1024), if_neg (by omega : ¬ n - 1024 < 1088), if_neg (by omega : ¬ n - 1024 < 2112), if_neg (by omega : ¬ n - 1024 < 3136), if_pos (by omega : n - 1024 < 3200)]
    rw [e1, e2, eg 5 (by show 5 = _; rw [if_neg (by omega), if_neg (by omega)])]; rfl

end Cert.Reference4Ideal.RwProj

end
-- ==== Proof.RwProj.Claim.lean ====
/- The claim on the token-shifted projection: on finite inputs and weights the kernel's array is the reference's. -/
module

public import proofs.«01_k».proof.Proof.RwProj.Ref
public import proofs.«01_k».proof.Proof.Gen.Kernel4Ideal.Value
public import proofs.«01_k».proof.Proof.Gen.Pre_finite_in
public import proofs.«01_k».proof.Defs

@[expose] public section

noncomputable section

namespace Cert.Kernel4Ideal.RwProj

open Cert.Kernel4Ideal.Gen
open Idealize.ShloMosaic Idealize.ShloMosaic.TcCoe Idealize.ShloMosaic.Tactic
open Idealize.SL.Sem

/-- What a passed test says of a value: it is a real number. -/
theorem real_of_test (x : EReal) (h : (FloatOps.cmpf (F := Ideal) (φ := .f32) .olt (FloatOps.hostAbsf (F := Ideal) (φ := .f32) x) (FloatOps.ofBits .f32 0x7F800000#32)) = 1#1) :
    ∃ a : ℝ, x = a := by
  have e : (FloatOps.ofBits (F := Ideal) .f32 0x7F800000#32 : EReal) = ⊤ := by
    show Ideal.ofBits .f32 0x7F800000#32 = ⊤
    simp [Ideal.ofBits, Ideal.ieee]
  rw [e] at h
  induction x with
  | bot => exact absurd h (by show ¬ BitVec.ofBool (decide (max (⊥ : EReal) (-⊥) < ⊤)) = 1#1; simp)
  | top => exact absurd h (by show ¬ BitVec.ofBool (decide (max (⊤ : EReal) (-⊤) < ⊤)) = 1#1; simp)
  | coe a => exact ⟨a, rfl⟩

/-- The precondition's two parts, at an index. -/
theorem finite_of_pre (x : FVec Ideal S8x4096x1024 .f32) (w : FVec Ideal S1024x4224 .f32) (u : FVec Ideal S6x1024 .f32)
    (h : (Cert.Pre_finite_in.fn (F := Ideal) x w u).1 = (fun _ => 1#1) ∧ (Cert.Pre_finite_in.fn (F := Ideal) x w u).2 = (fun _ => 1#1)) :
    (∀ i, ∃ a : ℝ, x i = a) ∧ ∀ i, ∃ a : ℝ, w i = a :=
  ⟨fun i => real_of_test (x i) (congrFun h.1 i), fun i => real_of_test (w i) (congrFun h.2 i)⟩

/-- An element of the kernel's array, from the arguments. -/
theorem arrVal_args (x : FVec Ideal S8x4096x1024 .f32) (w : FVec Ideal S1024x4224 .f32) (u : FVec Ideal S6x1024 .f32)
    (hx : ∀ i, ∃ a : ℝ, x i = a) (hw : ∀ i, ∃ a : ℝ, w i = a) (b : Fin 8) (t : Fin 4096) (k : Fin 4224) :
    arrVal x (truncf .bf16 (wCat w) bitsLt_bf16_f32 : FVec Ideal S1024x4224 .bf16) (muCat u) b t k = Cert.Reference4Ideal.Read.val_main_v38 (F := Ideal) x w u (ix3 b t k) := by
  rw [Cert.Reference4Ideal.RwProj.ref_apply, Cert.Reference4Ideal.RwProj.sum_apply, Cert.Reference4Ideal.RwProj.rgrp_col]
  have e : ∀ q, (truncf .bf16 (wCat w) bitsLt_bf16_f32 : FVec Ideal S1024x4224 .bf16) (ix2 q k) = w (ix2 q (col k)) := fun q => wCat_apply w q k
  unfold arrVal
  simp only [e, muCat_apply]
  exact Cert.Reference4Ideal.RwProj.dotRow_eq (fun q => x (ix3 b t q)) _ _ (fun q => w (ix2 q (col k))) (fun q => hx _) (fun q => hw _)

variable (m : (ℓ : Loc nD τ sig) → Buf (Elt Ideal) ℓ) (ρ : Dev nD → PrngReg)

/-- The result from the arguments. -/
theorem result_eq (c : Dev nD) (hpre : Cert.Pre_Kernel4Ideal_finite_in m) :
    (dats m 0 c).arrAt 4 cfg0.N
      = Cert.Reference4Ideal.Read.val_main_v38 (F := Ideal) (m ((c.tc : Thread nD τ).loc main_arg0)) (m ((c.tc : Thread nD τ).loc main_arg1)) (m ((c.tc : Thread nD τ).loc main_arg2)) := by
  have hf := finite_of_pre _ _ _ (hpre c)
  rw [arr_eq]
  unfold arr
  rw [V_main_arg0, V_main_v31, V_main_v32]
  revert hf
  generalize m ((c.tc : Thread nD τ).loc main_arg0) = x0
  generalize m ((c.tc : Thread nD τ).loc main_arg1) = x1
  generalize m ((c.tc : Thread nD τ).loc main_arg2) = x2
  intro hf
  funext i
  have h0 : (i 0).val < 8 := (i 0).isLt
  have h1 : (i 1).val < 4096 := (i 1).isLt
  have h2 : (i 2).val < 4224 := (i 2).isLt
  have ei : i = ix3 (⟨(i 0).val, h0⟩ : Fin 8) (⟨(i 1).val, h1⟩ : Fin 4096) (⟨(i 2).val, h2⟩ : Fin 4224) := funext fun a => by fin_cases a <;> rfl
  exact (arrVal_args x0 x1 x2 hf.1 hf.2 ⟨(i 0).val, h0⟩ ⟨(i 1).val, h1⟩ ⟨(i 2).val, h2⟩).trans (congrArg _ ei.symm)

/-- The claim: on the same finite arguments the kernel and the reference end with the same array. -/
theorem claim : Cert.algebraic_Kernel4Ideal_Reference4Ideal_pre_finite_in := by
  intro m g m' g' hpre hagree
  refine ⟨fun c => Cert.Reference4Ideal.Read.val_main_v38 (F := Ideal) (m ((c.tc : Thread nD τ).loc main_arg0)) (m ((c.tc : Thread nD τ).loc main_arg1)) (m ((c.tc : Thread nD τ).loc main_arg2)),
    (θ_run defs _ _).mono (fun r h c => ⟨(h c).1.trans (result_eq m c hpre), (h c).2⟩) (Cert.Kernel4Ideal.Value.run_blocks m g), ?_⟩
  refine (θ_run _ _ _).mono (fun r h c => ⟨(h c).1.trans ((Cert.Reference4Ideal.Read.val_main_v38_eq m' c).trans ?_), (h c).2⟩) (Cert.Reference4Ideal.Value.run m' g')
  obtain ⟨a0, a1, a2⟩ := hagree c
  rw [a0, a1, a2]

end Cert.Kernel4Ideal.RwProj

end
-- ==== Proof.lean ====
module

public import proofs.«01_k».proof.Defs
public import proofs.«01_k».proof.Proof.Gen.Kernel
public import proofs.«01_k».proof.Proof.Gen.Kernel2
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Pre_finite_in
public import proofs.«01_k».proof.Proof.Gen.Reference3Ideal.Run
public import proofs.«01_k».proof.Proof.Gen.Reference4Ideal.Run
public import proofs.«01_k».proof.Proof.Ml.Frame
public import proofs.«01_k».proof.Proof.Ml.Ref
public import proofs.«01_k».proof.Proof.Ml.Claim
public import proofs.«01_k».proof.Proof.Proj.Claim
public import proofs.«01_k».proof.Proof.Post.Claim
public import proofs.«01_k».proof.Proof.RwProj.Claim

@[expose] public section

noncomputable section

namespace Cert.Proof

open Idealize.ShloMosaic Idealize.SL.Sem

/-- The mixer's program and its ideal reading have the same text. -/
theorem defs1 : @Cert.Kernel.defs Bits _ _ = @Cert.KernelIdeal.defs Bits _ _ := by sl_kernel_rfl

theorem main1 : @Cert.Kernel.main Bits _ _ = @Cert.KernelIdeal.main Bits _ _ := by sl_kernel_rfl

/-- The projection's program and its ideal reading have the same text. -/
theorem defs2 : @Cert.Kernel2.defs Bits _ _ = @Cert.Kernel2Ideal.defs Bits _ _ := by sl_kernel_rfl

theorem main2 : @Cert.Kernel2.main Bits _ _ = @Cert.Kernel2Ideal.main Bits _ _ := by sl_kernel_rfl

/-- The mixer's frame at the bit-exact values, by the run that is made for any values. -/
theorem frame_kernel : Cert.quiescent_Kernel := by
  intro m ρ _
  rw [defs1, main1]
  exact Cert.KernelIdeal.Ml.frame (F := Bits) m ρ

theorem frame_kernelIdeal : Cert.quiescent_KernelIdeal := fun m ρ _ => Cert.KernelIdeal.Ml.frame m ρ

/-- The projection's frame at the bit-exact values, by the run that is made for any values. -/
theorem frame_kernel2 : Cert.quiescent_Kernel2 := by
  intro m ρ _
  rw [defs2, main2]
  exact Cert.Kernel2Ideal.Proj.frame (F := Bits) m ρ

theorem frame_kernel2Ideal : Cert.quiescent_Kernel2Ideal := fun m ρ _ => Cert.Kernel2Ideal.Proj.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_in.Gen.facts,
  frame_kernel, frame_kernelIdeal, Cert.ReferenceIdeal.Ml.frame, frame_kernel2, frame_kernel2Ideal, frame_reference2,
  frame_kernel3, frame_kernel3Ideal, frame_reference3, frame_kernel4, frame_kernel4Ideal, fun m ρ _ => Cert.Kernel4Ideal.Gen.frame m ρ, frame_reference4, fun m ρ _ => frame_reference4 m ρ trivial,
  trivial, Cert.KernelIdeal.Ml.claim, trivial, Cert.Kernel2Ideal.Proj.claim, trivial, Cert.Kernel3Ideal.Post.claim, trivial, Cert.Kernel4Ideal.RwProj.claim⟩

end Cert.Proof

end
